-- ==== Defs.lean ====
def Pre_Kernel [hPre_word_rows : Cert.Pre_word_rows.Facts] (m : (ℓ : Loc Cert.Kernel.nD Cert.Kernel.τ Cert.Kernel.sig) → Buf (Elt Bits) ℓ) : Prop :=
  ∀ c : Dev Cert.Kernel.nD,
    (Cert.Pre_word_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_word_rows : Cert.Pre_word_rows.Facts] (m : (ℓ : Loc Cert.KernelIdeal.nD Cert.KernelIdeal.τ Cert.KernelIdeal.sig) → Buf (Elt Ideal) ℓ) : Prop :=
  ∀ c : Dev Cert.KernelIdeal.nD,
    (Cert.Pre_word_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_word_rows : Cert.Pre_word_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_word_rows : Cert.Pre_word_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_word_rows : Cert.Pre_word_rows.Facts) (hPre_pre : Cert.Pre_pre.Facts),
    quiescent_Kernel (hKernel := hKernel) (hPre_word_rows := hPre_word_rows)
    ∧ quiescent_KernelIdeal (hKernelIdeal := hKernelIdeal) (hPre_word_rows := hPre_word_rows)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S512x128 : Shape := ⟨2, ![512, 128]⟩
abbrev S100000x100 : Shape := ⟨2, ![100000, 100]⟩
abbrev S256x100 : Shape := ⟨2, ![256, 100]⟩
abbrev S256x64 : Shape := ⟨2, ![256, 64]⟩
abbrev S256 : Shape := ⟨1, ![256]⟩
abbrev S8x128 : Shape := ⟨2, ![8, 128]⟩
abbrev S8 : Shape := ⟨1, ![8]⟩
abbrev S_ : Shape := ⟨0, ![]⟩
abbrev S1x100 : Shape := ⟨2, ![1, 100]⟩
abbrev S100 : Shape := ⟨1, ![100]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  slices_S100000x100_S1x100_0_0 : S100000x100.Slices ![0, 0] S1x100
  shapeCasts_S1x100_S100 : S1x100.ShapeCasts S100
  bcast_S_S100 : S_.BroadcastsInDim S100 (![] : Fin 0 → Fin S100.rank)
  reducesTo_S100_S_d0 : S100.ReducesTo [0] S_

variable [Facts]

def fn {F : FTy → Type} [FloatOps F] (main_arg0 : IVec S512x128 32) (main_arg1 : FVec F S100000x100 .f32) (main_arg2 : FVec F S256x100 .f32) (main_arg3 : FVec F S256x64 .f32) (main_arg4 : FVec F S256 .f32) (main_arg5 : FVec F S256 .f32) (main_arg6 : FVec F S256x100 .f32) (main_arg7 : FVec F S256x64 .f32) (main_arg8 : FVec F S256 .f32) (main_arg9 : FVec F S256 .f32) (main_arg10 : FVec F S8x128 .f32) (main_arg11 : FVec F S8 .f32) : IVec S_ 1 :=
  let main_c : IVec S_ 32 := constantI S_ 32 0#32
  let main_v0 : IVec S512x128 32 := broadcastInDim S512x128 ![] bcast_S_S512x128 main_c
  let main_v1 : IVec S512x128 1 := cmpi .sge main_arg0 main_v0
  let main_c_0 : IVec S_ 32 := constantI S_ 32 100000#32
  let main_v2 : IVec S512x128 32 := broadcastInDim S512x128 ![] bcast_S_S512x128 main_c_0
  let main_v3 : IVec S512x128 1 := cmpi .slt main_arg0 main_v2
  let main_v4 : IVec S512x128 1 := andi main_v1 main_v3
  let main_c_1 : IVec S_ 1 := constantI S_ 1 1#1
  let main_v5 : IVec S_ 1 := (fun x v => Host.reduce IntOp.andi x v reducesTo_S512x128_S_d0_1 h_S_) main_v4 main_c_1
  let main_v6 : FVec F S1x100 .f32 := (extractStridedSlice S1x100 ![0, 0] · slices_S100000x100_S1x100_0_0) main_arg1
  let main_v7 : FVec F S100 .f32 := shapeCast S100 main_v6 shapeCasts_S1x100_S100
  let main_cst : FVec F S_ .f32 := constant S_ .f32 0x00000000#32
  let main_v8 : FVec F S100 .f32 := broadcastInDim S100 ![] bcast_S_S100 main_cst
  let main_v9 : IVec S100 1 := cmpf .oeq main_v7 main_v8
  let main_c_2 : IVec S_ 1 := constantI S_ 1 1#1
  let main_v10 : IVec S_ 1 := (fun x v => Host.reduce IntOp.andi x v reducesTo_S100_S_d0 h_S_) main_v9 main_c_2
  let main_v11 : IVec S_ 1 := andi main_v5 main_v10
  main_v11
-- ==== Pre_word_rows.lean ====
abbrev S512x128 : Shape := ⟨2, ![512, 128]⟩
abbrev S100000x100 : Shape := ⟨2, ![100000, 100]⟩
abbrev S256x100 : Shape := ⟨2, ![256, 100]⟩
abbrev S256x64 : Shape := ⟨2, ![256, 64]⟩
abbrev S256 : Shape := ⟨1, ![256]⟩
abbrev S8x128 : Shape := ⟨2, ![8, 128]⟩
abbrev S8 : Shape := ⟨1, ![8]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : IVec S512x128 32) (main_arg1 : FVec F S100000x100 .f32) (main_arg2 : FVec F S256x100 .f32) (main_arg3 : FVec F S256x64 .f32) (main_arg4 : FVec F S256 .f32) (main_arg5 : FVec F S256 .f32) (main_arg6 : FVec F S256x100 .f32) (main_arg7 : FVec F S256x64 .f32) (main_arg8 : FVec F S256 .f32) (main_arg9 : FVec F S256 .f32) (main_arg10 : FVec F S8x128 .f32) (main_arg11 : FVec F S8 .f32) : IVec S_ 1 :=
  let main_c : IVec S_ 32 := constantI S_ 32 0#32
  let main_v0 : IVec S512x128 32 := broadcastInDim S512x128 ![] bcast_S_S512x128 main_c
  let main_v1 : IVec S512x128 1 := cmpi .sge main_arg0 main_v0
  let main_c_0 : IVec S_ 32 := constantI S_ 32 100000#32
  let main_v2 : IVec S512x128 32 := broadcastInDim S512x128 ![] bcast_S_S512x128 main_c_0
  let main_v3 : IVec S512x128 1 := cmpi .slt main_arg0 main_v2
  let main_v4 : IVec S512x128 1 := andi main_v1 main_v3
  let main_c_1 : IVec S_ 1 := constantI S_ 1 1#1
  let main_v5 : IVec S_ 1 := (fun x v => Host.reduce IntOp.andi x v reducesTo_S512x128_S_d0_1 h_S_) main_v4 main_c_1
  main_v5
-- ==== Kernel.lean ====
abbrev S512x128 : Shape := ⟨2, ![512, 128]⟩
abbrev S100000x100 : Shape := ⟨2, ![100000, 100]⟩
abbrev S256x100 : Shape := ⟨2, ![256, 100]⟩
abbrev S256x64 : Shape := ⟨2, ![256, 64]⟩
abbrev S256 : Shape := ⟨1, ![256]⟩
abbrev S8x128 : Shape := ⟨2, ![8, 128]⟩
abbrev S8 : Shape := ⟨1, ![8]⟩
abbrev S128x512 : Shape := ⟨2, ![128, 512]⟩
abbrev S100000x128 : Shape := ⟨2, ![100000, 128]⟩
abbrev S2000x100 : Shape := ⟨2, ![2000, 100]⟩
abbrev S2000x128 : Shape := ⟨2, ![2000, 128]⟩
abbrev S2000x28 : Shape := ⟨2, ![2000, 28]⟩
abbrev S65536x128 : Shape := ⟨2, ![65536, 128]⟩
abbrev S16x128 : Shape := ⟨2, ![16, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S128x512x128 : Shape := ⟨3, ![128, 512, 128]⟩
abbrev S100x256 : Shape := ⟨2, ![100, 256]⟩
abbrev S128x256 : Shape := ⟨2, ![128, 256]⟩
abbrev S128x64 : Shape := ⟨2, ![128, 64]⟩
abbrev S64x256 : Shape := ⟨2, ![64, 256]⟩
abbrev S64x64 : Shape := ⟨2, ![64, 64]⟩
abbrev S64x512 : Shape := ⟨2, ![64, 512]⟩
abbrev S384x512 : Shape := ⟨2, ![384, 512]⟩
abbrev S1x256 : Shape := ⟨2, ![1, 256]⟩
abbrev S1x64 : Shape := ⟨2, ![1, 64]⟩
abbrev S1x512 : Shape := ⟨2, ![1, 512]⟩
abbrev S512 : Shape := ⟨1, ![512]⟩
abbrev S1 : Shape := ⟨1, ![1]⟩
abbrev S128x16 : Shape := ⟨2, ![128, 16]⟩
abbrev S8x64 : Shape := ⟨2, ![8, 64]⟩
abbrev S64x8 : Shape := ⟨2, ![64, 8]⟩
abbrev S2 : Shape := ⟨1, ![2]⟩
abbrev S1x8 : Shape := ⟨2, ![1, 8]⟩
abbrev S128x512x8 : Shape := ⟨3, ![128, 512, 8]⟩
abbrev S1x512x128 : Shape := ⟨3, ![1, 512, 128]⟩
abbrev S512x384 : Shape := ⟨2, ![512, 384]⟩
abbrev S512x512 : Shape := ⟨2, ![512, 512]⟩
abbrev S512x16 : Shape := ⟨2, ![512, 16]⟩
abbrev S1x512x8 : Shape := ⟨3, ![1, 512, 8]⟩
abbrev S512x8 : Shape := ⟨2, ![512, 8]⟩
abbrev S512x128x8 : Shape := ⟨3, ![512, 128, 8]⟩

abbrev nBuf : Table → Nat
  | .hbm => 109
  | .local .tc .vmem => 15
  | .local .scVector .vmem => 2
  | _ => 0

abbrev bufTy : (tb : Table) → Fin (nBuf tb) → BufTy
  | .hbm, ⟨0, _⟩ => ⟨S512x128, .i32⟩
  | .hbm, ⟨1, _⟩ => ⟨S100000x100, .f32⟩
  | .hbm, ⟨2, _⟩ => ⟨S256x100, .f32⟩
  | .hbm, ⟨3, _⟩ => ⟨S256x64, .f32⟩
  | .hbm, ⟨4, _⟩ => ⟨S256, .f32⟩
  | .hbm, ⟨5, _⟩ => ⟨S256, .f32⟩
  | .hbm, ⟨6, _⟩ => ⟨S256x100, .f32⟩
  | .hbm, ⟨7, _⟩ => ⟨S256x64, .f32⟩
  | .hbm, ⟨8, _⟩ => ⟨S256, .f32⟩
  | .hbm, ⟨9, _⟩ => ⟨S256, .f32⟩
  | .hbm, ⟨10, _⟩ => ⟨S8x128, .f32⟩
  | .hbm, ⟨11, _⟩ => ⟨S8, .f32⟩
  | .hbm, ⟨12, _⟩ => ⟨S128x512, .i32⟩
  | .hbm, ⟨13, _⟩ => ⟨S512x128, .i32⟩
  | .hbm, ⟨14, _⟩ => ⟨S100000x128, .f32⟩
  | .hbm, ⟨15, _⟩ => ⟨S65536x128, .f32⟩
  | .hbm, ⟨16, _⟩ => ⟨S128x512x128, .f32⟩
  | .hbm, ⟨17, _⟩ => ⟨S100x256, .f32⟩
  | .hbm, ⟨18, _⟩ => ⟨S_, .i32⟩
  | .hbm, ⟨19, _⟩ => ⟨S_, .f32⟩
  | .hbm, ⟨20, _⟩ => ⟨S128x256, .f32⟩
  | .hbm, ⟨21, _⟩ => ⟨S128x64, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S_, .f32⟩
  | .hbm, ⟨26, _⟩ => ⟨S128x64, .f32⟩
  | .hbm, ⟨27, _⟩ => ⟨S128x512, .f32⟩
  | .hbm, ⟨28, _⟩ => ⟨S100x256, .f32⟩
  | .hbm, ⟨29, _⟩ => ⟨S_, .i32⟩
  | .hbm, ⟨30, _⟩ => ⟨S_, .f32⟩
  | .hbm, ⟨31, _⟩ => ⟨S128x256, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S_, .f32⟩
  | .hbm, ⟨37, _⟩ => ⟨S128x64, .f32⟩
  | .hbm, ⟨38, _⟩ => ⟨S128x512, .f32⟩
  | .hbm, ⟨39, _⟩ => ⟨S64x256, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x512, .f32⟩
  | .hbm, ⟨47, _⟩ => ⟨S64x256, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S_, .f32⟩
  | .hbm, ⟨53, _⟩ => ⟨S64x64, .f32⟩
  | .hbm, ⟨54, _⟩ => ⟨S64x512, .f32⟩
  | .hbm, ⟨55, _⟩ => ⟨S384x512, .f32⟩
  | .hbm, ⟨56, _⟩ => ⟨S256, .f32⟩
  | .hbm, ⟨57, _⟩ => ⟨S1x256, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S_, .f32⟩
  | .hbm, ⟨63, _⟩ => ⟨S1x64, .f32⟩
  | .hbm, ⟨64, _⟩ => ⟨S1x512, .f32⟩
  | .hbm, ⟨65, _⟩ => ⟨S256, .f32⟩
  | .hbm, ⟨66, _⟩ => ⟨S1x256, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x512, .f32⟩
  | .hbm, ⟨74, _⟩ => ⟨S1x512, .f32⟩
  | .hbm, ⟨75, _⟩ => ⟨S_, .f32⟩
  | .hbm, ⟨76, _⟩ => ⟨S512, .f32⟩
  | .hbm, ⟨77, _⟩ => ⟨S_, .i32⟩
  | .hbm, ⟨78, _⟩ => ⟨S1, .i32⟩
  | .hbm, ⟨79, _⟩ => ⟨S_, .f32⟩
  | .hbm, ⟨80, _⟩ => ⟨S128, .f32⟩
  | .hbm, ⟨81, _⟩ => ⟨S512, .f32⟩
  | .hbm, ⟨82, _⟩ => ⟨S1x512, .f32⟩
  | .hbm, ⟨83, _⟩ => ⟨S384x512, .f32⟩
  | .hbm, ⟨84, _⟩ => ⟨S384x512, .f32⟩
  | .hbm, ⟨85, _⟩ => ⟨S384x512, .bf16⟩
  | .hbm, ⟨86, _⟩ => ⟨S1x512, .f32⟩
  | .hbm, ⟨87, _⟩ => ⟨S1x512, .f32⟩
  | .hbm, ⟨88, _⟩ => ⟨S_, .f32⟩
  | .hbm, ⟨89, _⟩ => ⟨S128x16, .f32⟩
  | .hbm, ⟨90, _⟩ => ⟨S8x64, .f32⟩
  | .hbm, ⟨91, _⟩ => ⟨S64x8, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S128x16, .f32⟩
  | .hbm, ⟨98, _⟩ => ⟨S8x64, .f32⟩
  | .hbm, ⟨99, _⟩ => ⟨S64x8, .f32⟩
  | .hbm, ⟨100, _⟩ => ⟨S_, .i32⟩
  | .hbm, ⟨101, _⟩ => ⟨S1, .i32⟩
  | .hbm, ⟨102, _⟩ => ⟨S_, .i32⟩
  | .hbm, ⟨103, _⟩ => ⟨S1, .i32⟩
  | .hbm, ⟨104, _⟩ => ⟨S2, .i32⟩
  | .hbm, ⟨105, _⟩ => ⟨S128x16, .f32⟩
  | .hbm, ⟨106, _⟩ => ⟨S1x8, .f32⟩
  | .hbm, ⟨107, _⟩ => ⟨S128x512x8, .f32⟩
  | .hbm, ⟨108, _⟩ => ⟨S512x128x8, .f32⟩
  | .local .tc .vmem, ⟨0, _⟩ => ⟨S2000x100, .f32⟩
  | .local .tc .vmem, ⟨1, _⟩ => ⟨S2000x100, .f32⟩
  | .local .tc .vmem, ⟨2, _⟩ => ⟨S2000x128, .f32⟩
  | .local .tc .vmem, ⟨3, _⟩ => ⟨S2000x128, .f32⟩
  | .local .tc .vmem, ⟨4, _⟩ => ⟨S1x512x128, .f32⟩
  | .local .tc .vmem, ⟨5, _⟩ => ⟨S1x512x128, .f32⟩
  | .local .tc .vmem, ⟨6, _⟩ => ⟨S1x512x128, .f32⟩
  | .local .tc .vmem, ⟨7, _⟩ => ⟨S1x512x128, .f32⟩
  | .local .tc .vmem, ⟨8, _⟩ => ⟨S384x512, .bf16⟩
  | .local .tc .vmem, ⟨9, _⟩ => ⟨S1x512, .f32⟩
  | .local .tc .vmem, ⟨10, _⟩ => ⟨S128x16, .f32⟩
  | .local .tc .vmem, ⟨11, _⟩ => ⟨S1x8, .f32⟩
  | .local .tc .vmem, ⟨12, _⟩ => ⟨S128x512x8, .f32⟩
  | .local .tc .vmem, ⟨13, _⟩ => ⟨S512x384, .bf16⟩
  | .local .tc .vmem, ⟨14, _⟩ => ⟨S512x128, .f32⟩
  | .local .scVector .vmem, ⟨0, _⟩ => ⟨S16x128, .i32⟩
  | .local .scVector .vmem, ⟨1, _⟩ => ⟨S128x128, .f32⟩
  | _, _ => ⟨S512x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_10 : Ref sig .tc := ⟨.hbm, 92, rfl⟩
abbrev main_v66 : Ref sig .tc := ⟨.hbm, 93, rfl⟩
abbrev main_c_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_12 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v2_scv : Ref sig .scVector := ⟨.hbm, 14, rfl⟩
abbrev main_v1_scv : Ref sig .scVector := ⟨.hbm, 13, rfl⟩
abbrev main_v3_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_scratch0 : Ref sig .tc := ⟨.vmem, 13, rfl⟩
abbrev cc2_scratch1 : Ref sig .tc := ⟨.vmem, 14, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_114_r0 : BitVec 32 := 0#32
  ![v3.toNat, 0]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v10 : BitVec 32 := Scalar.addi v2 c0_i32_7
  let c0_i32_114_r1 : BitVec 32 := 0#32
  ![v10.toNat, 0]
abbrev grid2 : Pipeline.Grid := ⟨1, ![128], ![false]⟩

def k2_off1 (i : grid2.Coords) : Fin 3 → Nat :=
  let arg0 : BitVec 32 := BitVec.ofNat 32 (i 0).val
  let v48 : Index := Scalar.indexCast arg0
  let c0_25 : Index := 0#32
  let c0_26 : Index := 0#32
  ![v48.toNat, 0, 0]
def k2_off2 (i : grid2.Coords) : Fin 3 → Nat :=
  let c127_i32 : BitVec 32 := 127#32
  let arg0 : BitVec 32 := BitVec.ofNat 32 (i 0).val
  let v61 : BitVec 32 := Scalar.subi c127_i32 arg0
  let v62 : Index := Scalar.indexCast v61
  let c0_31 : Index := 0#32
  let c0_32 : Index := 0#32
  ![v62.toNat, 0, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S1x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x512x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x128 : Shape := ⟨2, ![512, 128]⟩
abbrev S100000x100 : Shape := ⟨2, ![100000, 100]⟩
abbrev S256x100 : Shape := ⟨2, ![256, 100]⟩
abbrev S256x64 : Shape := ⟨2, ![256, 64]⟩
abbrev S256 : Shape := ⟨1, ![256]⟩
abbrev S8x128 : Shape := ⟨2, ![8, 128]⟩
abbrev S8 : Shape := ⟨1, ![8]⟩
abbrev S_ : Shape := ⟨0, ![]⟩
abbrev S1 : Shape := ⟨1, ![1]⟩
abbrev S100 : Shape := ⟨1, ![100]⟩
abbrev S512x128x1 : Shape := ⟨3, ![512, 128, 1]⟩
abbrev S1x1x1 : Shape := ⟨3, ![1, 1, 1]⟩
abbrev S512x128x100 : Shape := ⟨3, ![512, 128, 100]⟩
abbrev S128x512x100 : Shape := ⟨3, ![128, 512, 100]⟩
abbrev S512x64 : Shape := ⟨2, ![512, 64]⟩
abbrev S128x512x64 : Shape := ⟨3, ![128, 512, 64]⟩
abbrev S1x512x100 : Shape := ⟨3, ![1, 512, 100]⟩
abbrev S512x100 : Shape := ⟨2, ![512, 100]⟩
abbrev S100x256 : Shape := ⟨2, ![100, 256]⟩
abbrev S512x256 : Shape := ⟨2, ![512, 256]⟩
abbrev S64x256 : Shape := ⟨2, ![64, 256]⟩
abbrev S1x256 : Shape := ⟨2, ![1, 256]⟩
abbrev S1x512x64 : Shape := ⟨3, ![1, 512, 64]⟩
abbrev S512x128x64 : Shape := ⟨3, ![512, 128, 64]⟩
abbrev S512x128x128 : Shape := ⟨3, ![512, 128, 128]⟩
abbrev S128x8 : Shape := ⟨2, ![128, 8]⟩
abbrev S512x128x8 : Shape := ⟨3, ![512, 128, 8]⟩
abbrev S1x1x8 : Shape := ⟨3, ![1, 1, 8]⟩

abbrev nBuf : Space → Nat
  | .hbm => 198
  | .vmem => 0
  | .smem => 0
  | _ => 0

abbrev hbmTy0_0 (i : Nat) : BufTy := match i % 128 with
  | 0 => ⟨S512x128, .i32⟩
  | 1 => ⟨S100000x100, .f32⟩
  | 2 => ⟨S256x100, .f32⟩
  | 3 => ⟨S256x64, .f32⟩
  | 4 => ⟨S256, .f32⟩
  | 5 => ⟨S256, .f32⟩
  | 6 => ⟨S256x100, .f32⟩
  | 7 => ⟨S256x64, .f32⟩
  | 8 => ⟨S256, .f32⟩
  | 9 => ⟨S256, .f32⟩
  | 10 => ⟨S8x128, .f32⟩
  | 11 => ⟨S8, .f32⟩
  | 12 => ⟨S_, .i32⟩
  | 13 => ⟨S1, .i32⟩
  | 14 => ⟨S_, .f32⟩
  | 15 => ⟨S100, .f32⟩
  | 16 => ⟨S100000x100, .f32⟩
  | 17 => ⟨S_, .i32⟩
  | 18 => ⟨S512x128, .i32⟩
  | 19 => ⟨S512x128, .i1⟩
  | 20 => ⟨S_, .i32⟩
  | 21 => ⟨S512x128, .i32⟩
  | 22 => ⟨S512x128, .i32⟩
  | 23 => ⟨S512x128, .i32⟩
  | 24 => ⟨S512x128x1, .i32⟩
  | 25 => ⟨S1, .i32⟩
  | 26 => ⟨S_, .i32⟩
  | 27 => ⟨S512x128x1, .i32⟩
  | 28 => ⟨S512x128x1, .i1⟩
  | 29 => ⟨S1x1x1, .i32⟩
  | 30 => ⟨S512x128x1, .i32⟩
  | 31 => ⟨S512x128x1, .i1⟩
  | 32 => ⟨S512x128x1, .i1⟩
  | 33 => ⟨S_, .i1⟩
  | 34 => ⟨S512x128, .i1⟩
  | 35 => ⟨S512x128x100, .f32⟩
  | 36 => ⟨S512x128x100, .i1⟩
  | 37 => ⟨S_, .f32⟩
  | 38 => ⟨S512x128x100, .f32⟩
  | 39 => ⟨S512x128x100, .f32⟩
  | 40 => ⟨S128x512x100, .f32⟩
  | 41 => ⟨S_, .f32⟩
  | 42 => ⟨S512x64, .f32⟩
  | 43 => ⟨S_, .f32⟩
  | 44 => ⟨S512x64, .f32⟩
  | 45 => ⟨S_, .f32⟩
  | 46 => ⟨S128x512x64, .f32⟩
  | 47 => ⟨S_, .i32⟩
  | 48 => ⟨S128x512x100, .f32⟩
  | 49 => ⟨S256x100, .f32⟩
  | 50 => ⟨S256x64, .f32⟩
  | 51 => ⟨S256, .f32⟩
  | 52 => ⟨S256, .f32⟩
  | 53 => ⟨S_, .i32⟩
  | 54 => ⟨S512x64, .f32⟩
  | 55 => ⟨S512x64, .f32⟩
  | 56 => ⟨S128x512x64, .f32⟩
  | 57 => ⟨S_, .i32⟩
  | 58 => ⟨S_, .i1⟩
  | 59 => ⟨S_, .i32⟩
  | 60 => ⟨S_, .i32⟩
  | 61 => ⟨S1x512x100, .f32⟩
  | 62 => ⟨S512x100, .f32⟩
  | 63 => ⟨S100x256, .f32⟩
  | 64 => ⟨S512x256, .f32⟩
  | 65 => ⟨S64x256, .f32⟩
  | 66 => ⟨S512x256, .f32⟩
  | 67 => ⟨S512x256, .f32⟩
  | 68 => ⟨S1x256, .f32⟩
  | 69 => ⟨S512x256, .f32⟩
  | 70 => ⟨S512x256, .f32⟩
  | 71 => ⟨S1x256, .f32⟩
  | 72 => ⟨S512x256, .f32⟩
  | 73 => ⟨S512x256, .f32⟩
  | 74 => ⟨S512x64, .f32⟩
  | 75 => ⟨S512x64, .f32⟩
  | 76 => ⟨S512x64, .f32⟩
  | 77 => ⟨S512x64, .f32⟩
  | 78 => ⟨S512x64, .f32⟩
  | 79 => ⟨S512x64, .f32⟩
  | 80 => ⟨S_, .f32⟩
  | 81 => ⟨S512x64, .f32⟩
  | 82 => ⟨S512x64, .f32⟩
  | 83 => ⟨S_, .f32⟩
  | 84 => ⟨S512x64, .f32⟩
  | 85 => ⟨S512x64, .f32⟩
  | 86 => ⟨S512x64, .f32⟩
  | 87 => ⟨S512x64, .f32⟩
  | 88 => ⟨S_, .f32⟩
  | 89 => ⟨S512x64, .f32⟩
  | 90 => ⟨S512x64, .f32⟩
  | 91 => ⟨S_, .f32⟩
  | 92 => ⟨S512x64, .f32⟩
  | 93 => ⟨S512x64, .f32⟩
  | 94 => ⟨S512x64, .f32⟩
  | 95 => ⟨S512x64, .f32⟩
  | 96 => ⟨S512x64, .f32⟩
  | 97 => ⟨S_, .f32⟩
  | 98 => ⟨S512x64, .f32⟩
  | 99 => ⟨S512x64, .f32⟩
  | 100 => ⟨S_, .f32⟩
  | 101 => ⟨S512x64, .f32⟩
  | 102 => ⟨S512x64, .f32⟩
  | 103 => ⟨S512x64, .f32⟩
  | 104 => ⟨S512x64, .f32⟩
  | 105 => ⟨S512x64, .f32⟩
  | 106 => ⟨S512x64, .f32⟩
  | 107 => ⟨S512x64, .f32⟩
  | 108 => ⟨S1x512x64, .f32⟩
  | 109 => ⟨S_, .i32⟩
  | 110 => ⟨S_, .i32⟩
  | 111 => ⟨S128x512x64, .f32⟩
  | 112 => ⟨S_, .i32⟩
  | 113 => ⟨S_, .i32⟩
  | 114 => ⟨S512x128x64, .f32⟩
  | 115 => ⟨S128x512x100, .f32⟩
  | 116 => ⟨S128x512x100, .f32⟩
  | 117 => ⟨S_, .f32⟩
  | 118 => ⟨S512x64, .f32⟩
  | 119 => ⟨S_, .f32⟩
  | 120 => ⟨S512x64, .f32⟩
  | 121 => ⟨S_, .f32⟩
  | 122 => ⟨S128x512x64, .f32⟩
  | 123 => ⟨S_, .i32⟩
  | 124 => ⟨S128x512x100, .f32⟩
  | 125 => ⟨S256x100, .f32⟩
  | 126 => ⟨S256x64, .f32⟩
  | 127 => ⟨S256, .f32⟩
  | _ => ⟨S512x128, .i32⟩

abbrev hbmTy0_1 (i : Nat) : BufTy := match i % 128 with
  | 0 => ⟨S256, .f32⟩
  | 1 => ⟨S_, .i32⟩
  | 2 => ⟨S512x64, .f32⟩
  | 3 => ⟨S512x64, .f32⟩
  | 4 => ⟨S128x512x64, .f32⟩
  | 5 => ⟨S_, .i32⟩
  | 6 => ⟨S_, .i1⟩
  | 7 => ⟨S_, .i32⟩
  | 8 => ⟨S_, .i32⟩
  | 9 => ⟨S1x512x100, .f32⟩
  | 10 => ⟨S512x100, .f32⟩
  | 11 => ⟨S100x256, .f32⟩
  | 12 => ⟨S512x256, .f32⟩
  | 13 => ⟨S64x256, .f32⟩
  | 14 => ⟨S512x256, .f32⟩
  | 15 => ⟨S512x256, .f32⟩
  | 16 => ⟨S1x256, .f32⟩
  | 17 => ⟨S512x256, .f32⟩
  | 18 => ⟨S512x256, .f32⟩
  | 19 => ⟨S1x256, .f32⟩
  | 20 => ⟨S512x256, .f32⟩
  | 21 => ⟨S512x256, .f32⟩
  | 22 => ⟨S512x64, .f32⟩
  | 23 => ⟨S512x64, .f32⟩
  | 24 => ⟨S512x64, .f32⟩
  | 25 => ⟨S512x64, .f32⟩
  | 26 => ⟨S512x64, .f32⟩
  | 27 => ⟨S512x64, .f32⟩
  | 28 => ⟨S_, .f32⟩
  | 29 => ⟨S512x64, .f32⟩
  | 30 => ⟨S512x64, .f32⟩
  | 31 => ⟨S_, .f32⟩
  | 32 => ⟨S512x64, .f32⟩
  | 33 => ⟨S512x64, .f32⟩
  | 34 => ⟨S512x64, .f32⟩
  | 35 => ⟨S512x64, .f32⟩
  | 36 => ⟨S_, .f32⟩
  | 37 => ⟨S512x64, .f32⟩
  | 38 => ⟨S512x64, .f32⟩
  | 39 => ⟨S_, .f32⟩
  | 40 => ⟨S512x64, .f32⟩
  | 41 => ⟨S512x64, .f32⟩
  | 42 => ⟨S512x64, .f32⟩
  | 43 => ⟨S512x64, .f32⟩
  | 44 => ⟨S512x64, .f32⟩
  | 45 => ⟨S_, .f32⟩
  | 46 => ⟨S512x64, .f32⟩
  | 47 => ⟨S512x64, .f32⟩
  | 48 => ⟨S_, .f32⟩
  | 49 => ⟨S512x64, .f32⟩
  | 50 => ⟨S512x64, .f32⟩
  | 51 => ⟨S512x64, .f32⟩
  | 52 => ⟨S512x64, .f32⟩
  | 53 => ⟨S512x64, .f32⟩
  | 54 => ⟨S512x64, .f32⟩
  | 55 => ⟨S512x64, .f32⟩
  | 56 => ⟨S1x512x64, .f32⟩
  | 57 => ⟨S_, .i32⟩
  | 58 => ⟨S_, .i32⟩
  | 59 => ⟨S128x512x64, .f32⟩
  | 60 => ⟨S_, .i32⟩
  | 61 => ⟨S_, .i32⟩
  | 62 => ⟨S128x512x64, .f32⟩
  | 63 => ⟨S512x128x64, .f32⟩
  | 64 => ⟨S512x128x128, .f32⟩
  | 65 => ⟨S128x8, .f32⟩
  | 66 => ⟨S512x128x8, .f32⟩
  | 67 => ⟨S1x1x8, .f32⟩
  | 68 => ⟨S512x128x8, .f32⟩
  | 69 => ⟨S512x128x8, .f32⟩
  | _ => ⟨S512x128, .i32⟩

abbrev hbmTy (i : Nat) : BufTy := match i / 128 with
  | 0 => hbmTy0_0 i
  | 1 => hbmTy0_1 i
  | _ => ⟨S512x128, .i32⟩

abbrev bufTy : (tb : Table) → Fin (tcTables nBuf tb) → BufTy
  | .hbm, ⟨i, _⟩ => hbmTy i
  | _, _ => ⟨S512x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v3 : Ref sig .tc := ⟨.hbm, 39, rfl⟩
abbrev main_v4 : Ref sig .tc := ⟨.hbm, 40, rfl⟩
abbrev main_cst_0 : Ref sig .tc := ⟨.hbm, 41, rfl⟩
abbrev main_v5 : Ref sig .tc := ⟨.hbm, 42, rfl⟩
abbrev main_cst_1 : Ref sig .tc := ⟨.hbm, 43, rfl⟩
abbrev main_v6 : Ref sig .tc := ⟨.hbm, 44, rfl⟩
abbrev main_cst_2 : Ref sig .tc := ⟨.hbm, 45, rfl⟩
abbrev main_v7 : Ref sig .tc := ⟨.hbm, 46, rfl⟩
abbrev main_c_3 : Ref sig .tc := ⟨.hbm, 47, rfl⟩
abbrev main_v8_0 : Ref sig .tc := ⟨.hbm, 48, rfl⟩
abbrev main_v8_1 : Ref sig .tc := ⟨.hbm, 49, rfl⟩
abbrev main_v8_2 : Ref sig .tc := ⟨.hbm, 50, rfl⟩
abbrev main_v8_3 : Ref sig .tc := ⟨.hbm, 51, rfl⟩
abbrev main_v8_4 : Ref sig .tc := ⟨.hbm, 52, rfl⟩
abbrev main_v8_5 : Ref sig .tc := ⟨.hbm, 53, rfl⟩
abbrev main_v8_6 : Ref sig .tc := ⟨.hbm, 54, rfl⟩
abbrev main_v8_7 : Ref sig .tc := ⟨.hbm, 55, rfl⟩
abbrev main_v8_8 : Ref sig .tc := ⟨.hbm, 56, rfl⟩
abbrev main_while0c_c_16 : Ref sig .tc := ⟨.hbm, 57, rfl⟩
abbrev main_while0c_v24 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_v0 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_cst_16 : Ref sig .tc := ⟨.hbm, 80, rfl⟩
abbrev main_while0b_v42 : Ref sig .tc := ⟨.hbm, 81, rfl⟩
abbrev main_while0b_v43 : Ref sig .tc := ⟨.hbm, 82, rfl⟩
abbrev main_while0b_cst_17 : Ref sig .tc := ⟨.hbm, 83, rfl⟩
abbrev main_while0b_v44 : Ref sig .tc := ⟨.hbm, 84, rfl⟩
abbrev main_while0b_v45 : Ref sig .tc := ⟨.hbm, 85, rfl⟩
abbrev main_while0b_v46 : Ref sig .tc := ⟨.hbm, 86, rfl⟩
abbrev main_while0b_v47 : Ref sig .tc := ⟨.hbm, 87, rfl⟩
abbrev main_while0b_cst_18 : Ref sig .tc := ⟨.hbm, 88, rfl⟩
abbrev main_while0b_v48 : Ref sig .tc := ⟨.hbm, 89, rfl⟩
abbrev main_while0b_v49 : Ref sig .tc := ⟨.hbm, 90, rfl⟩
abbrev main_while0b_cst_19 : Ref sig .tc := ⟨.hbm, 91, rfl⟩
abbrev main_while0b_v50 : Ref sig .tc := ⟨.hbm, 92, rfl⟩
abbrev main_while0b_v51 : Ref sig .tc := ⟨.hbm, 93, rfl⟩
abbrev main_while0b_v52 : Ref sig .tc := ⟨.hbm, 94, rfl⟩
abbrev main_while0b_v53 : Ref sig .tc := ⟨.hbm, 95, rfl⟩
abbrev main_while0b_v54 : Ref sig .tc := ⟨.hbm, 96, rfl⟩
abbrev main_while0b_cst_20 : Ref sig .tc := ⟨.hbm, 97, rfl⟩
abbrev main_while0b_v55 : Ref sig .tc := ⟨.hbm, 98, rfl⟩
abbrev main_while0b_v56 : Ref sig .tc := ⟨.hbm, 99, rfl⟩
abbrev main_while0b_cst_21 : Ref sig .tc := ⟨.hbm, 100, rfl⟩
abbrev main_while0b_v57 : Ref sig .tc := ⟨.hbm, 101, rfl⟩
abbrev main_while0b_v58 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_v63 : Ref sig .tc := ⟨.hbm, 107, rfl⟩
abbrev main_while0b_call2_v0 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_v64 : Ref sig .tc := ⟨.hbm, 111, rfl⟩
abbrev main_while0b_c_22 : Ref sig .tc := ⟨.hbm, 112, rfl⟩
abbrev main_while0b_v65 : Ref sig .tc := ⟨.hbm, 113, rfl⟩
abbrev main_v9 : Ref sig .tc := ⟨.hbm, 114, rfl⟩
abbrev main_v10 : Ref sig .tc := ⟨.hbm, 115, rfl⟩
abbrev main_v11 : Ref sig .tc := ⟨.hbm, 116, rfl⟩
abbrev main_cst_4 : Ref sig .tc := ⟨.hbm, 117, rfl⟩
abbrev main_v12 : Ref sig .tc := ⟨.hbm, 118, rfl⟩
abbrev main_cst_5 : Ref sig .tc := ⟨.hbm, 119, rfl⟩
abbrev main_v13 : Ref sig .tc := ⟨.hbm, 120, rfl⟩
abbrev main_cst_6 : Ref sig .tc := ⟨.hbm, 121, rfl⟩
abbrev main_v14 : Ref sig .tc := ⟨.hbm, 122, rfl⟩
abbrev main_c_7 : Ref sig .tc := ⟨.hbm, 123, rfl⟩
abbrev main_v15_0 : Ref sig .tc := ⟨.hbm, 124, rfl⟩
abbrev main_v15_1 : Ref sig .tc := ⟨.hbm, 125, rfl⟩
abbrev main_v15_2 : Ref sig .tc := ⟨.hbm, 126, rfl⟩
abbrev main_v15_3 : Ref sig .tc := ⟨.hbm, 127, rfl⟩
abbrev main_v15_4 : Ref sig .tc := ⟨.hbm, 128, rfl⟩
abbrev main_v15_5 : Ref sig .tc := ⟨.hbm, 129, rfl⟩
abbrev main_v15_6 : Ref sig .tc := ⟨.hbm, 130, rfl⟩
abbrev main_v15_7 : Ref sig .tc := ⟨.hbm, 131, rfl⟩
abbrev main_v15_8 : Ref sig .tc := ⟨.hbm, 132, rfl⟩
abbrev main_while1c_c_16 : Ref sig .tc := ⟨.hbm, 133, rfl⟩
abbrev main_while1c_v24 : Ref sig .tc := ⟨.hbm, 134, rfl⟩
abbrev main_while1b_call3_c : Ref sig .tc := ⟨.hbm, 135, rfl⟩
abbrev main_while1b_call3_c_0 : Ref sig .tc := ⟨.hbm, 136, rfl⟩
abbrev main_while1b_call3_v0 : Ref sig .tc := ⟨.hbm, 137, rfl⟩
abbrev main_while1b_v24 : Ref sig .tc := ⟨.hbm, 138, rfl⟩
abbrev main_while1b_v25 : Ref sig .tc := ⟨.hbm, 139, rfl⟩
abbrev main_while1b_v26 : Ref sig .tc := ⟨.hbm, 140, rfl⟩
abbrev main_while1b_v27 : Ref sig .tc := ⟨.hbm, 141, rfl⟩
abbrev main_while1b_v28 : Ref sig .tc := ⟨.hbm, 142, rfl⟩
abbrev main_while1b_v29 : Ref sig .tc := ⟨.hbm, 143, rfl⟩
abbrev main_while1b_v30 : Ref sig .tc := ⟨.hbm, 144, rfl⟩
abbrev main_while1b_v31 : Ref sig .tc := ⟨.hbm, 145, rfl⟩
abbrev main_while1b_v32 : Ref sig .tc := ⟨.hbm, 146, rfl⟩
abbrev main_while1b_v33 : Ref sig .tc := ⟨.hbm, 147, rfl⟩
abbrev main_while1b_v34 : Ref sig .tc := ⟨.hbm, 148, rfl⟩
abbrev main_while1b_v35 : Ref sig .tc := ⟨.hbm, 149, rfl⟩
abbrev main_while1b_v36 : Ref sig .tc := ⟨.hbm, 150, rfl⟩
abbrev main_while1b_v37 : Ref sig .tc := ⟨.hbm, 151, rfl⟩
abbrev main_while1b_v38 : Ref sig .tc := ⟨.hbm, 152, rfl⟩
abbrev main_while1b_v39 : Ref sig .tc := ⟨.hbm, 153, rfl⟩
abbrev main_while1b_v40 : Ref sig .tc := ⟨.hbm, 154, rfl⟩
abbrev main_while1b_v41 : Ref sig .tc := ⟨.hbm, 155, rfl⟩
abbrev main_while1b_cst_16 : Ref sig .tc := ⟨.hbm, 156, rfl⟩
abbrev main_while1b_v42 : Ref sig .tc := ⟨.hbm, 157, rfl⟩
abbrev main_while1b_v43 : Ref sig .tc := ⟨.hbm, 158, rfl⟩
abbrev main_while1b_cst_17 : Ref sig .tc := ⟨.hbm, 159, rfl⟩
abbrev main_while1b_v44 : Ref sig .tc := ⟨.hbm, 160, rfl⟩
abbrev main_while1b_v45 : Ref sig .tc := ⟨.hbm, 161, rfl⟩
abbrev main_while1b_v46 : Ref sig .tc := ⟨.hbm, 162, rfl⟩
abbrev main_while1b_v47 : Ref sig .tc := ⟨.hbm, 163, rfl⟩
abbrev main_while1b_cst_18 : Ref sig .tc := ⟨.hbm, 164, rfl⟩
abbrev main_while1b_v48 : Ref sig .tc := ⟨.hbm, 165, rfl⟩
abbrev main_while1b_v49 : Ref sig .tc := ⟨.hbm, 166, rfl⟩
abbrev main_while1b_cst_19 : Ref sig .tc := ⟨.hbm, 167, rfl⟩
abbrev main_while1b_v50 : Ref sig .tc := ⟨.hbm, 168, rfl⟩
abbrev main_while1b_v51 : Ref sig .tc := ⟨.hbm, 169, rfl⟩
abbrev main_while1b_v52 : Ref sig .tc := ⟨.hbm, 170, rfl⟩
abbrev main_while1b_v53 : Ref sig .tc := ⟨.hbm, 171, rfl⟩
abbrev main_while1b_v54 : Ref sig .tc := ⟨.hbm, 172, rfl⟩
abbrev main_while1b_cst_20 : Ref sig .tc := ⟨.hbm, 173, rfl⟩
abbrev main_while1b_v55 : Ref sig .tc := ⟨.hbm, 174, rfl⟩
abbrev main_while1b_v56 : Ref sig .tc := ⟨.hbm, 175, rfl⟩
abbrev main_while1b_cst_21 : Ref sig .tc := ⟨.hbm, 176, rfl⟩
abbrev main_while1b_v57 : Ref sig .tc := ⟨.hbm, 177, rfl⟩
abbrev main_while1b_v58 : Ref sig .tc := ⟨.hbm, 178, rfl⟩
abbrev main_while1b_v59 : Ref sig .tc := ⟨.hbm, 179, rfl⟩
abbrev main_while1b_v60 : Ref sig .tc := ⟨.hbm, 180, rfl⟩
abbrev main_while1b_v61 : Ref sig .tc := ⟨.hbm, 181, rfl⟩
abbrev main_while1b_v62 : Ref sig .tc := ⟨.hbm, 182, rfl⟩
abbrev main_while1b_v63 : Ref sig .tc := ⟨.hbm, 183, rfl⟩
abbrev main_while1b_call4_v0 : Ref sig .tc := ⟨.hbm, 184, rfl⟩
abbrev main_while1b_call4_c : Ref sig .tc := ⟨.hbm, 185, rfl⟩
abbrev main_while1b_call4_c_0 : Ref sig .tc := ⟨.hbm, 186, rfl⟩
abbrev main_while1b_v64 : Ref sig .tc := ⟨.hbm, 187, rfl⟩
abbrev main_while1b_c_22 : Ref sig .tc := ⟨.hbm, 188, rfl⟩
abbrev main_while1b_v65 : Ref sig .tc := ⟨.hbm, 189, rfl⟩
abbrev main_v16 : Ref sig .tc := ⟨.hbm, 190, rfl⟩
abbrev main_v17 : Ref sig .tc := ⟨.hbm, 191, rfl⟩
abbrev main_v18 : Ref sig .tc := ⟨.hbm, 192, rfl⟩
abbrev main_v19 : Ref sig .tc := ⟨.hbm, 193, rfl⟩
abbrev main_v20 : Ref sig .tc := ⟨.hbm, 194, rfl⟩
abbrev main_v21 : Ref sig .tc := ⟨.hbm, 195, rfl⟩
abbrev main_v22 : Ref sig .tc := ⟨.hbm, 196, rfl⟩
abbrev main_v23 : Ref sig .tc := ⟨.hbm, 197, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Proof.Base.lean ====
/- The program as the launch theorem sees it, its resource algebra, and the buffers a TensorCore holds between launches. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow
public import Idealize.ShloMosaic.Lib.Tactic
public import Idealize.ShloMosaic.Lib.SparseCore.Ops
public import Idealize.ShloMosaic.Lib.SparseCore.Stream
public import Idealize.ShloMosaic.Lib.SparseCore.Quiescent
public import Idealize.ShloMosaic.Lib.StableHlo.Run
public import Idealize.ShloMosaic.Lib.Pipeline.Kit
public import Idealize.ShloMosaic.Lib.Pipeline.RegionsLoop
public import Idealize.ShloMosaic.Lib.Pipeline.ValueKit

@[expose] public section

noncomputable section

namespace Cert.KernelIdeal.Pf

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Facts₀ Facts
open Cert.KernelIdeal.Gen (facts₀ facts)

variable {F : FTy → Type} [FloatOps F]

/-! ## Whole buffers held at values -/

section Own
variable {U : Type} [URA U]

/-- Memref `M`'s buffer on device `c`, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp (MT nD τ sig (Option (Fin 1)) (Elt F) ℕ U ℕ) :=
  M.view.loc (c : Thread nD τ) ↦{fullShare} f

/-- Memref `M`'s buffer held whole, at the values `X`. -/
def ow (c : Dev nD) {sp : Space} {S : Shape} {e : EltTy} (M : Memref sig .tc sp S e) (X : Vec F S e) : sProp (MT nD τ sig (Option (Fin 1)) (Elt F) ℕ U ℕ) :=
  iprop(∃ f : Bf F c M, ⌜M.view.read (Elt F) f = X⌝ ∗ pt c M f)

end Own

/-! ## The program -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch runs on 16 tiles of each SparseCore. -/
theorem nSub_zero : (K (F := F)).nSub 0 = 16 := rfl
/-- The launch runs on both SparseCores. -/
theorem nCore_zero : (K (F := F)).nCore 0 = 2 := rfl

/-- The launch's four handshake semaphores are distinct and of the kinds the protocol takes, and its buffers are the program's own. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The pipelines prefetch no table. -/
def adm : (p : Fin 2) → (pcfgs (F := F) p).Adm := fun p => (cfgs p).toPCfg_adm

/-! ## The resource algebra: the launch's handshakes, the pipelines' cells, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) :=
  ((Emb.inl : Emb UP (UP × Counters)).trans (Emb.inr : Emb (UP × Counters) UU)).trans (uEmb (nD := nD) (sig := sig) (τ := τ) (Ix := HIx 1) (Val := Elt F) (Name := ℕ) (U := UU) (Lvl := ℕ)).toEmb

instance EP_landsIn : (EP (F := F)).LandsIn (upEmb : UEmb _ (MT nD τ sig (HIx 1) (Elt F) ℕ UU ℕ)) := by
  unfold EP; infer_instance

/-! ## The buffers a TensorCore holds between launches -/

/-- What every buffer of a TensorCore outside the launches' own holds. -/
abbrev Vals (F : FTy → Type) : Type := (c : Dev nD) → (b : Ref sig .tc) → Buf (Elt F) ((c : Thread nD τ).loc b)

/-- A memref of a whole buffer, owned at values, is that buffer held whole at them. -/
theorem owns_ow (c : Dev nD) {sp : Space} {S : Shape} {e : EltTy} (M : Memref sig .tc sp S e) (h : M.IsWhole) (X : Vec F S e) :
    (owns (c : Thread nD τ) M fullShare X : sProp 𝕄) = ow c M X := by
  unfold owns ow pt
  rw [h.set_eq_univ]

/-- A whole buffer held at contents is it held at those values, -/
theorem ow_of_loc (c : Dev nD) (b : Ref sig .tc) (f : Buf (Elt F) ((c : Thread nD τ).loc b)) :
    (((c : Thread nD τ).loc b ↦{fullShare} f) : sProp 𝕄) ⊢ ow (F := F) c (Memref.whole b) f := by
  unfold ow pt
  iintro H
  iexists f
  isplitr
  · ipureintro; exact View.read_whole _ _
  · iexact H

/-- and back. -/
theorem loc_of_ow (c : Dev nD) (b : Ref sig .tc) (f : Buf (Elt F) ((c : Thread nD τ).loc b)) :
    ow (F := F) c (Memref.whole b) f ⊢ (((c : Thread nD τ).loc b ↦{fullShare} f) : sProp 𝕄) := by
  unfold ow pt
  iintro ⟨%g, %hg, H⟩
  rw [show f = g from hg.symm.trans (View.read_whole _ _)]
  iexact H

/-- A proof data for a pipeline that is not run at an entry: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The waits recorded so far by core `c` that lie at or below a level. -/
def recd (c : Dev nD) (b : ℕ) : Set (SemLoc sig × HIx 1) := {p | (K (F := F)).lev ((c : Thread nD τ), p.1) p.2 ≤ b}

variable (O : Dev nD → CellTallies nD τ sig (HIx 1)) (lb : ℕ)

/-- What a TensorCore holds between launches: its buffers at values, what rides along, what it owes. -/
def between (R : Dev nD → sProp 𝕄) (V : Vals F) (c : Dev nD) : sProp 𝕄 :=
  iprop(unscopedBufs c (V c) ∗ R c ∗ ∃ W, ⌜(K (F := F)).WBelow (c : Thread nD τ) W lb⌝ ∗ owes (c : Thread nD τ) (O c) W)

end Cert.KernelIdeal.Pf

end
-- ==== Proof.GatherProg.lean ====
/- The SparseCore gather as one fetch of the index rows and a run of like chunks. -/
module

public import proofs.«01_k».proof.Proof.Base

@[expose] public section

noncomputable section

namespace Cert.KernelIdeal.Pf

open Idealize.ShloMosaic
open Idealize.ShloMosaic.TcCoe Idealize.ShloMosaic.Tactic
open Idealize.SL.Sem
open Cert.KernelIdeal Facts₀ Facts
open Cert.KernelIdeal.Gen (facts₀ facts)

variable {F : FTy → Type} [FloatOps F]

/-! ## The memrefs a tile names -/

/-- The padded table, the index rows and the gathered rows in HBM; the tile's own index rows and row buffer. -/
abbrev xM : Memref sig .scVector .hbm S100000x128 .f32 := Memref.whole main_v2_scv
abbrev ixM : Memref sig .scVector .hbm S512x128 .i32 := Memref.whole main_v1_scv
abbrev oM : Memref sig .scVector .hbm S65536x128 .f32 := Memref.whole main_v3_scv
abbrev sM : Memref sig .scVector .vmem S16x128 .i32 := Memref.whole cc1_scratch0
abbrev rM : Memref sig .scVector .vmem S128x128 .f32 := Memref.whole cc1_scratch1

/-- The table, sliced at its whole extent. -/
abbrev xAll : Memref sig .scVector .hbm S100000x128 .f32 :=
  xM.slice (Rect.unit (s := S100000x128) ![0, 0] S100000x128.size inb_S100000x128_S100000x128_0_0) (fun _ => rfl)

/-- A list of 128 indices lies within the fetched block of 16 lists. -/
theorem inb_list (j : Fin 16) : ∀ a, (![j.val, 0] : Fin 2 → ℕ) a + S1x128.size a ≤ S16x128.size a := fun a => by
  match a with
  | 0 => exact j.isLt
  | 1 => exact le_refl 128

/-- Row `j` of the tile's index rows: the list chunk `j` gathers by. -/
abbrev list (j : Fin 16) : Memref sig .scVector .vmem S128 .i32 :=
  (sM.slice (Rect.unit (s := S16x128) ![j.val, 0] S1x128.size (inb_list j)) (fun _ => rfl)).squeeze S128 squeezes_S1x128_S128

/-- The tile's sixteen rows of the indices, and its chunk `j` of the gathered rows. -/
abbrev ixSl (i : grid1.Coords) : Memref sig .scVector .hbm S16x128 .i32 :=
  ixM.slice (Rect.unit (s := S512x128) (k1_off1 i) S16x128.size (k1_off1_inb i)) (fun _ => rfl)
abbrev oSl (i : grid1.Coords) (j : Fin 16) : Memref sig .scVector .hbm S128x128 .f32 :=
  oM.slice (Rect.unit (s := S65536x128) (k1_off2 i (BitVec.ofNat 32 (128 * j.val))) S128x128.size (k1_off2_inb i j)) (fun _ => rfl)

/-- The semaphores: the gathers', the index fetch's, and each store's. -/
abbrev gSem : DmaSem sig := cc1_scratch2.sem
abbrev fSem : DmaSem sig := cc1_scoped0.sem

/-- A chunk's store semaphore lies within the tile's semaphores. -/
theorem inb_sem (j : Fin 16) : 6 + j.val + S_.numel ≤ 31 := by have := j.isLt; have : S_.numel = 1 := rfl; omega

abbrev oSem (j : Fin 16) : DmaSem sig := (SemArray.consecutive (6 + j.val) S_ (inb_sem j)).sem

/-! ## The program -/

/-- The program of a tile. -/
abbrev TP (F : FTy → Type) [FloatOps F] (i : grid1.Coords) :=
  Prog (TpuEff nD τ sig (Elt F) Λ₀ (.scVector ((i 0).castLE hcore1) ((i 1).castLE hsub1)))

/-- Chunk `j`: the rows its list names are gathered into the row buffer, which is then stored. -/
def chunk (i : grid1.Coords) (j : Fin 16) : TP F i PUnit := do
  SparseCore.enqueueIndirectGather rfl xAll rM gathers_S100000x128_S128x128 (list j) rfl gSem (View.wordExact_bits rfl) rfl (Or.inl rfl)
  SparseCore.waitIndirectGather gSem xAll rM (View.wordExact_bits rfl) (Memref.isWhole_whole _).wordExact
  Prog.lift (.enqueueDma rM (.here (oSl i j)) (.dma (oSem j)) (Memref.isWhole_whole _).wordExact (View.wordExact_bits rfl) ⟨Or.inl rfl, trivial⟩)
  Prog.lift (.waitDma2 (oSem j) rM (oSl i j) (Memref.isWhole_whole _).wordExact (View.wordExact_bits rfl))

/-- The chunks of a list, in its order. -/
def chunks (i : grid1.Coords) : List (Fin 16) → TP F i PUnit
  | [] => pure ⟨⟩
  | j :: js => chunk i j >>= fun _ => chunks i js

/-- The fetch of the tile's index rows. -/
def fetch (i : grid1.Coords) : TP F i PUnit := do
  Prog.lift (.enqueueDma (ixSl i) (.here sM) (.dma fSem) (View.wordExact_bits rfl) (Memref.isWhole_whole _).wordExact ⟨Or.inl rfl, trivial⟩)
  Prog.lift (.waitDma2 fSem (ixSl i) sM (View.wordExact_bits rfl) (Memref.isWhole_whole _).wordExact)

/-- The sixteen chunks, in order. -/
abbrev all16 : List (Fin 16) := [0, 1, 2, 3, 4, 5, 6, 7, 8, 9, 10, 11, 12, 13, 14, 15]

/-- The printed gather body is the fetch of the index lists followed by the sixteen chunks. -/
theorem gather_eq (i : grid1.Coords) :
    cc1_gather (F := F) i xM (Memref.isWhole_whole _) ixM (Memref.isWhole_whole _) oM (Memref.isWhole_whole _) sM (Memref.isWhole_whole _) rM (Memref.isWhole_whole _)
        cc1_scratch2 cc1_scoped0 cc1_scoped1 cc1_scoped2 cc1_scoped3 cc1_scoped4 cc1_scoped5 cc1_scoped6 cc1_scoped7 cc1_scoped8 cc1_scoped9 cc1_scoped10
        cc1_scoped11 cc1_scoped12 cc1_scoped13 cc1_scoped14 cc1_scoped15 cc1_scoped16
      = (fetch i >>= fun _ => chunks i all16) := by
  chain_rfl

end Cert.KernelIdeal.Pf
-- ==== Proof.GatherValue.lean ====
/- What the SparseCore gather writes, and the parts of its arrays each tile holds. -/
module

public import proofs.«01_k».proof.Proof.GatherProg
public import Idealize.ShloMosaic.Lib.ValueIdxCore

@[expose] public section

noncomputable section

namespace Cert.KernelIdeal.Pf

open Idealize.ShloMosaic
open Idealize.ShloMosaic.TcCoe Idealize.ShloMosaic.Tactic
open Idealize.SL.Sem
open Cert.KernelIdeal Facts₀ Facts
open Cert.KernelIdeal.Gen (facts₀ facts)

variable {F : FTy → Type} [FloatOps F]

/-- The index named at flat position `n`: row `n / 128`, lane `n % 128`. -/
abbrev at2 (n : Fin 65536) : S512x128.Idx := ix2 (n0 := 512) (n1 := 128) ⟨n.val / 128, by have := n.isLt; omega⟩ ⟨n.val % 128, by omega⟩

/-- The gathered rows: row `n` is the table's row at the index in flat position `n`. -/
def gath (tbl : Vec F S100000x128 .f32) (ix : Vec F S512x128 .i32) : Vec F S65536x128 .f32 := fun y =>
  tbl (ix2 (n0 := 100000) (n1 := 128) ⟨(ix (at2 (y 0))).toNat % 100000, Nat.mod_lt _ (by decide)⟩ (y 1))

/-- Every index names a row of the table. -/
def InR (ix : Vec F S512x128 .i32) : Prop := ∀ j, (ix j).toNat < 100000

/-! ## The views a chunk names -/

/-- Where the row list `j` has its entry `n`. -/
theorem list_emb (j : Fin 16) (n : Fin 128) (z : S128.Idx) (hz : (S128.rowMajor z).val = n.val) :
    (list j).view.emb z = ix2 (n0 := 16) (n1 := 128) j n := by
  show (Rect.unit (s := S16x128) ![j.val, 0] S1x128.size (inb_list j)).emb (Shape.reshapeEquiv squeezes_S1x128_S128.numel_eq z) = _
  rw [Shape.reshapeEquiv_eq_of_rowMajor (s := S1x128) (s' := S128) squeezes_S1x128_S128.numel_eq (y := ix2 (n0 := 1) (n1 := 128) 0 n)
    (by rw [hz]; refine (Shape.rowMajor_val_two (d := ![1, 128]) (ix2 (n0 := 1) (n1 := 128) 0 n)).trans ?_; simp)]
  funext a
  match a with
  | 0 => exact Fin.ext (show j.val + 1 * 0 = j.val by omega)
  | 1 => exact Fin.ext (show 0 + 1 * n.val = n.val by omega)

/-- Where an entry of a tile's block of index lists sits in the whole array of lists. -/
theorem ixSl_emb (i : grid1.Coords) (a : Fin 16) (b : Fin 128) (r : Fin 512) (hr : r.val = 32 * (i 1).val + 16 * (i 0).val + a.val) :
    (ixSl i).view.emb (ix2 (n0 := 16) (n1 := 128) a b) = ix2 (n0 := 512) (n1 := 128) r b := by
  show (Rect.unit (s := S512x128) (k1_off1 i) S16x128.size (k1_off1_inb i)).emb _ = _
  funext x
  match x with
  | 0 => exact Fin.ext (show k1_off1 i 0 + 1 * a.val = r.val by rw [Gen.k1_off1_eq, hr]; show 32 * (i 1).val + 16 * (i 0).val + 1 * a.val = _; omega)
  | 1 => exact Fin.ext (show k1_off1 i 1 + 1 * b.val = b.val by rw [Gen.k1_off1_eq]; show 0 + 1 * b.val = _; omega)

/-- The row of the result at which an entry of a tile's chunk sits. -/
theorem oSl_emb_zero (i : grid1.Coords) (j : Fin 16) (x : S128x128.Idx) :
    ((oSl i j).view.emb x 0 : ℕ) = 4096 * (i 1).val + 2048 * (i 0).val + 128 * j.val + (x 0).val := by
  show k1_off2 i (BitVec.ofNat 32 (128 * j.val)) 0 + 1 * (x 0).val = _
  rw [Gen.k1_off2_eq]; show 4096 * (i 1).val + 2048 * (i 0).val + 128 * j.val + 1 * (x 0).val = _; omega

/-- The column of the result at which an entry of a tile's chunk sits. -/
theorem oSl_emb_one (i : grid1.Coords) (j : Fin 16) (x : S128x128.Idx) : ((oSl i j).view.emb x 1 : ℕ) = (x 1).val := by
  show k1_off2 i (BitVec.ofNat 32 (128 * j.val)) 1 + 1 * (x 1).val = _
  rw [Gen.k1_off2_eq]; show 0 + 1 * (x 1).val = _; omega

/-- The index rows a tile fetched. -/
abbrev fetched (i : grid1.Coords) (ix : Vec F S512x128 .i32) : Vec F S16x128 .i32 := (ixSl i).view.read (Elt F) ix

/-- A fetched index is the array's at the place the block gives it. -/
theorem fetched_apply (i : grid1.Coords) (ix : Vec F S512x128 .i32) (y : S16x128.Idx) : fetched i ix y = ix ((ixSl i).view.emb y) :=
  (View.read_apply _ _).trans (cast_eq _ _)

/-- A list read out of the fetched block is the block's entries at the list's places. -/
theorem list_read (j : Fin 16) (f : Vec F S16x128 .i32) (z : S128.Idx) : (list j).view.read (Elt F) f z = f ((list j).view.emb z) :=
  (View.read_apply _ _).trans (cast_eq _ _)

/-- If every index of the array names a row of the table, so does every index of a fetched list. -/
theorem inR_list (i : grid1.Coords) (j : Fin 16) (ix : Vec F S512x128 .i32) (h : InR ix) :
    ∀ x, ((list j).view.read (Elt F) (fetched i ix) x).toNat < S100000x128.size gathers_S100000x128_S128x128.axis := fun x => by
  rw [list_read, fetched_apply]; exact h _

/-- The word list `j` has in its entry `n`. -/
theorem list_word (i : grid1.Coords) (j : Fin 16) (ix : Vec F S512x128 .i32) (n : Fin 128) (r : Fin 512)
    (hr : r.val = 32 * (i 1).val + 16 * (i 0).val + j.val) (z : S128.Idx) (hz : (S128.rowMajor z).val = n.val) :
    (list j).view.read (Elt F) (fetched i ix) z = ix (ix2 (n0 := 512) (n1 := 128) r n) := by
  rw [list_read, list_emb j n z hz, fetched_apply, ixSl_emb i j n r hr]

/-- A chunk's payload is its part of the gathered rows. -/
theorem payload_eq (i : grid1.Coords) (j : Fin 16) (tbl : Vec F S100000x128 .f32) (ix : Vec F S512x128 .i32) (hix : InR ix)
    (hn : S128.numel = S128x128.size gathers_S100000x128_S128x128.axis')
    (hin : ∀ x, ((list j).view.read (Elt F) (fetched i ix) x).toNat < S100000x128.size gathers_S100000x128_S128x128.axis) (x : S128x128.Idx) :
    SparseCore.gatherPayload gathers_S100000x128_S128x128 (xAll.view.read (Elt F) tbl) (SparseCore.rows ((list j).view.read (Elt F) (fetched i ix)) hn hin) x
      = gath tbl ix ((oSl i j).view.emb x) := by
  unfold SparseCore.gatherPayload gath
  refine ((View.read_apply _ _).trans (cast_eq _ _)).trans (congrArg tbl ?_)
  have hi0 : (i 0).val < 2 := (i 0).isLt
  have hi1 : (i 1).val < 16 := (i 1).isLt
  have hj := j.isLt
  obtain ⟨n, hxn⟩ : ∃ n : Fin 128, (x 0 : Fin 128) = n := ⟨_, rfl⟩
  have hx0 := n.isLt
  have e0 : ((oSl i j).view.emb x 0 : ℕ) = 4096 * (i 1).val + 2048 * (i 0).val + 128 * j.val + n.val := hxn ▸ oSl_emb_zero i j x
  have e1 := oSl_emb_one i j x
  obtain ⟨r, hr⟩ : ∃ r : Fin 512, r.val = 32 * (i 1).val + 16 * (i 0).val + j.val := ⟨⟨_, by omega⟩, rfl⟩
  have hat : at2 ((oSl i j).view.emb x 0) = ix2 (n0 := 512) (n1 := 128) r n := by
    unfold at2
    congr 1
    · exact Fin.ext (show ((oSl i j).view.emb x 0 : ℕ) / 128 = _ by rw [e0]; omega)
    · exact Fin.ext (show ((oSl i j).view.emb x 0 : ℕ) % 128 = _ by rw [e0]; omega)
  funext a
  match a with
  | 0 =>
    refine Fin.ext ?_
    show 0 + 1 * (gathers_S100000x128_S128x128.idx (SparseCore.rows ((list j).view.read (Elt F) (fetched i ix)) hn hin) x gathers_S100000x128_S128x128.axis : ℕ)
      = (ix (at2 ((oSl i j).view.emb x 0))).toNat % 100000
    rw [hat, Nat.mod_eq_of_lt (hix _), Shape.Gathers.idx_axis]
    have hw := list_word i j ix n r hr (S128.rowMajor.symm ((x gathers_S100000x128_S128x128.axis').cast hn.symm))
      (by rw [Equiv.apply_symm_apply]; exact congrArg Fin.val hxn)
    refine Eq.trans ?_ (congrArg BitVec.toNat hw)
    show 0 + 1 * _ = _
    rw [Nat.zero_add, Nat.one_mul]; rfl
  | 1 =>
    refine Fin.ext ?_
    show 0 + 1 * (gathers_S100000x128_S128x128.idx (SparseCore.rows ((list j).view.read (Elt F) (fetched i ix)) hn hin) x 1 : ℕ) = ((oSl i j).view.emb x 1 : ℕ)
    rw [e1, Nat.zero_add, Nat.one_mul]
    exact Shape.Gathers.idx_of_ne gathers_S100000x128_S128x128 _ x 1 (by decide)

/-! ## Parts -/

/-- 32 divides the number of index lists. -/
theorem div32 : 32 ∣ S512x128.size 0 := ⟨16, rfl⟩
/-- 512 divides the number of gathered rows. -/
theorem div512 : 512 ∣ S65536x128.size 0 := ⟨128, rfl⟩

/-- Tile `n`'s part of the index rows, chunk `n`'s part of the gathered rows (`16` chunks to a tile). -/
abbrev ixSet (n : Fin 32) : Finset S512x128.Idx := (Rect.part (s := S512x128) (a₀ := 0) div32 n).set
abbrev oSet (n : Fin 512) : Finset S65536x128.Idx := (Rect.part (s := S65536x128) (a₀ := 0) div512 n).set

/-- The tile on subcore `s` of SparseCore `c` works part `2 s + c`; its chunk `j` is part `16 (2 s + c) + j`. -/
abbrev tix (c : Fin 2) (s : Fin 16) : Fin 32 := ⟨2 * s.val + c.val, by have := c.isLt; have := s.isLt; omega⟩
abbrev oix (t : Fin 32) (j : Fin 16) : Fin 512 := ⟨16 * t.val + j.val, by have := t.isLt; have := j.isLt; omega⟩

abbrev cL (i : grid1.Coords) : Fin 2 := Fin.cast (show grid1.bound 0 = 2 from rfl) (i 0)
abbrev sL (i : grid1.Coords) : Fin 16 := Fin.cast (show grid1.bound 1 = 16 from rfl) (i 1)

/-- The places of a tile's block of lists are the tile's part of the lists. -/
theorem ixSl_set (i : grid1.Coords) : (ixSl i).view.set = ixSet (tix (cL i) (sL i)) := by
  refine (View.set_slice_whole _ _).trans ?_
  unfold ixSet Rect.part Rect.block
  refine congrArg (fun r : Rect _ => r.set) ?_
  congr 1 <;> funext a
  · rw [Gen.k1_off1_eq]
    match a with
    | 0 => simp [Shape.partIx, Shape.partSize]; omega
    | 1 => simp [Shape.partIx, Shape.partSize]
  · match a with
    | 0 => simp [Shape.partSize]
    | 1 => simp [Shape.partSize]

/-- The places of a tile's chunk are the chunk's part of the result. -/
theorem oSl_set (i : grid1.Coords) (j : Fin 16) : (oSl i j).view.set = oSet (oix (tix (cL i) (sL i)) j) := by
  refine (View.set_slice_whole _ _).trans ?_
  unfold oSet Rect.part Rect.block
  refine congrArg (fun r : Rect _ => r.set) ?_
  congr 1 <;> funext a
  · rw [Gen.k1_off2_eq]
    match a with
    | 0 => simp [Shape.partIx, Shape.partSize]; omega
    | 1 => simp [Shape.partIx, Shape.partSize]
  · match a with
    | 0 => simp [Shape.partSize]
    | 1 => simp [Shape.partSize]

end Cert.KernelIdeal.Pf
-- ==== Proof.GatherTile.lean ====
/- One tile's task: what it holds, its sixteen chunks, and the task whole. -/
module

public import proofs.«01_k».proof.Proof.GatherValue

@[expose] public section

noncomputable section

namespace Cert.KernelIdeal.Pf

open Idealize.ShloMosaic
open Idealize.ShloMosaic.TcCoe Idealize.ShloMosaic.Tactic
open Idealize.ShloMosaic.SparseCore (S V T)
open Idealize.ShloMosaic.SparseCore.Cfg (HIx Pay ownCells ownSems0 ownBufs ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (facts₀ facts)

variable {F : FTy → Type} [FloatOps F]

local notation "𝕄" => MT nD τ sig (HIx 1) (Elt F) ℕ UU ℕ

/-- A chunk and what follows it, its four steps in a row. -/
theorem chunk_bind (i : grid1.Coords) (j : Fin 16) (k : PUnit → TP F i PUnit) :
    (chunk i j >>= k)
      = (SparseCore.enqueueIndirectGather rfl xAll rM gathers_S100000x128_S128x128 (list j) rfl gSem (View.wordExact_bits rfl) rfl (Or.inl rfl) >>= fun _ =>
          (.op (.waitDma2 gSem xAll rM (View.wordExact_bits rfl) (Memref.isWhole_whole _).wordExact) fun _ =>
          .op (.enqueueDma rM (.here (oSl i j)) (.dma (oSem j)) (Memref.isWhole_whole _).wordExact (View.wordExact_bits rfl) ⟨Or.inl rfl, trivial⟩) fun _ =>
          .op (.waitDma2 (oSem j) rM (oSl i j) (Memref.isWhole_whole _).wordExact (View.wordExact_bits rfl)) k : TP F i PUnit)) := rfl

/-! ## What a tile holds -/

abbrev xLoc (d : Dev nD) : Loc nD τ sig := (SparseCore.T d).loc main_v2
abbrev ixLoc (d : Dev nD) : Loc nD τ sig := (SparseCore.T d).loc main_v1
abbrev oLoc (d : Dev nD) : Loc nD τ sig := (SparseCore.T d).loc main_v3

/-- The thread running at coordinates `i`. -/
abbrev thr (d : Dev nD) (i : grid1.Coords) : Thread nD τ := V d ((i 0).castLE hcore1) ((i 1).castLE hsub1)

/-- Tile `t`'s share of the table. -/
abbrev xSh (t : Fin 32) : PosShare TreeShare := pieceOf fullShare 32 (by decide) t

section Tile
variable (d : Dev nD) (i : grid1.Coords) (tbl : Vec F S100000x128 .f32) (ix : Vec F S512x128 .i32) (O : CellTallies nD τ sig (HIx 1))
  (W : Waits sig (HIx 1)) (hO : ∀ g, O g none = 0) (hix : InR ix) (q : PosShare TreeShare)

/-- Between chunks: the table's share, the fetched index rows, the row buffer at some contents, the gathers' semaphore at
    zero, and what is owed, with the waits made so far. -/
def Inv : sProp 𝕄 :=
  iprop(((thr d i).loc main_v2_scv ↦{q} tbl) ∗ ((thr d i).loc cc1_scratch0 ↦{fullShare} fetched i ix)
    ∗ (∃ f, (thr d i).loc cc1_scratch1 ↦{fullShare} f) ∗ semVal (thr d i, .dma gSem) 0
    ∗ ∃ W', ⌜∀ p ∈ W', p ∈ W ∨ p.2 = none⌝ ∗ owes (thr d i) O W')

/-- Chunk `j`'s part of the gathered rows at `f`, with its store's semaphore at zero. -/
def Part (f : Vec F S65536x128 .f32) (j : Fin 16) : sProp 𝕄 :=
  iprop(semVal (thr d i, .dma (oSem j)) 0 ∗ ((oSl i j).view.loc (thr d i) ↦[(oSl i j).view.set]{fullShare} f))

set_option maxHeartbeats 4000000 in
include hO hix in
/-- One chunk: its rows are gathered and stored, so its part of the result goes from any contents to the gathered rows. -/
theorem chunk_wp (j : Fin 16) (f : Vec F S65536x128 .f32) {Q : PUnit → sProp 𝕄}
    (k : PUnit → TP F i PUnit) :
    iprop(levAts (K (F := F)).L (K (F := F)).lev ∗ Inv d i tbl ix O W q ∗ Part d i f j
        ∗ (Inv d i tbl ix O W q ∗ Part d i (gath tbl ix) j -∗ wp frame (wpE (defs₀ (F := F)) 𝒱₀ (thr d i) none) Set.univ (k ⟨⟩) Q))
      ⊢ wp frame (wpE (defs₀ (F := F)) 𝒱₀ (thr d i) none) Set.univ (chunk i j >>= k) Q := by
  have hxs : ((xAll).view.loc (thr d i) ↦{q} tbl : sProp 𝕄)
      ⊣⊢ iprop(((xAll).view.loc (thr d i) ↦[(xAll).view.set]{q} tbl) ∗ (xAll).view.loc (thr d i) ↦[Finset.univ \ (xAll).view.set]{q} tbl) :=
    pointsTo_split_subset fun _ _ => Finset.mem_univ _
  have hss : ((list j).view.loc (thr d i) ↦{fullShare} fetched i ix : sProp 𝕄)
      ⊣⊢ iprop(((list j).view.loc (thr d i) ↦[(list j).view.set]{fullShare} fetched i ix)
        ∗ (list j).view.loc (thr d i) ↦[Finset.univ \ (list j).view.set]{fullShare} fetched i ix) :=
    pointsTo_split_subset fun _ _ => Finset.mem_univ _
  rw [chunk_bind]
  unfold Inv Part
  iintro ⟨#Hlv, ⟨Hx, Hs, ⟨%fr, Hr⟩, Hg, ⟨%W', %hW', HO⟩⟩, ⟨Hv, Ho⟩, Hk⟩
  ihave Hmw := (show levAts (K (F := F)).L (K (F := F)).lev ⊢ Transfers.MayWaits (thr d i) (default : HIx 1) O from
    (K (F := F)).mayWaits_none (thr := thr d i) hO) $$ Hlv
  have hN : ∀ h : S100000x128.Gathers 0 S128x128, ∑ j, ((rM).slice (S128x128.rowRect h.axis' j) (S128x128.stride_rowRect h.axis' j)).view.dmaCredit
      = (rM).view.dmaCredit := by decide
  have hrs : (rM).view.set = Finset.univ := View.set_whole _
  ihave Hxs := hxs.1 $$ Hx
  icases Hxs with ⟨Hxs, Hxr⟩
  ihave Hss := hss.1 $$ Hs
  icases Hss with ⟨Hss, Hsr⟩
  ihave Hr' := (Entails.of_eq (show ((thr d i).loc cc1_scratch1 ↦{fullShare} fr : sProp 𝕄)
      = (rM).view.loc (thr d i) ↦[(rM).view.set]{fullShare} fr by rw [hrs])) $$ Hr
  iapply (SparseCore.wp_indirectGatherLocal countersEmb 𝒱₀ (thr d i) none (hg := gathers_S100000x128_S128x128) (default : HIx 1)
      (rM).view.dmaCredit (hN _) (by decide) (inR_list i j ix hix)) $$ [Hxs Hr' Hss Hg]
  · isplitl [Hxs]; · iexact Hxs
    isplitl [Hr']; · iexact Hr'
    isplitl [Hss]; · iexact Hss
    iexact Hg
  iintro Hfl
  iapply (Transfers.wp_waitLocalO countersEmb 𝒱₀ (thr d i) none (default : HIx 1) (rfl : (rM).view.dmaCredit = _)) $$ [Hfl HO]
  · isplitl [Hfl]; · iexact Hfl
    isplitl [HO]; · iexact HO
    iapply (Transfers.MayWaits.elim (SemLoc.dma gSem)) $$ Hmw
  iintro ⟨⟨Hr', Hxs, Hss⟩, Hg, HO⟩
  ihave Hx := hxs.2 $$ [Hxs Hxr]
  · isplitl [Hxs] <;> iassumption
  ihave Hs := hss.2 $$ [Hss Hsr]
  · isplitl [Hss] <;> iassumption
  iapply (Transfers.wp_dmaLocal countersEmb 𝒱₀ (thr d i) none (dst := oSl i j) (sm := SemLoc.dma (oSem j)) (default : HIx 1) (oSl i j).view.dmaCredit rfl (View.dmaCredit_pos (oSl i j).view (by decide)) (Finset.Subset.refl (oSl i j).view.set)) $$ [Hr' Ho Hv]
  · isplitl [Hr']; · iexact Hr'
    isplitl [Ho]; · iexact Ho
    iexact Hv
  iintro Hfl
  iapply (Transfers.wp_waitLocalO countersEmb 𝒱₀ (thr d i) none (default : HIx 1) rfl) $$ [Hfl HO]
  · isplitl [Hfl]; · iexact Hfl
    isplitl [HO]; · iexact HO
    iapply (Transfers.MayWaits.elim (SemLoc.dma (oSem j))) $$ Hmw
  iintro ⟨⟨Ho, Hr'⟩, Hv, HO⟩
  iapply Hk
  isplitl [Hx Hs Hr' Hg HO]
  · isplitl [Hx]; · iexact Hx
    isplitl [Hs]; · iexact Hs
    isplitl [Hr']
    · iexists _; iapply (Entails.of_eq (show ((rM).view.loc (thr d i) ↦[(rM).view.set]{fullShare} _ : sProp 𝕄) = (thr d i).loc cc1_scratch1 ↦{fullShare} _ by rw [hrs])); iexact Hr'
    isplitl [Hg]; · iexact Hg
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  isplitl [Hv]; · iexact Hv
  iapply (Entails.of_eq (pointsTo_congr fun y hy => ?_)) $$ Ho
  obtain ⟨x, -, rfl⟩ := Finset.mem_map.mp hy
  refine (View.write_emb_of_mem _ _ (Finset.mem_univ x)).trans ((cast_eq _ _).trans ?_)
  rw [← payload_eq i j tbl ix hix rfl (inR_list i j ix hix) x]
  exact congrFun (View.read_write_univ (v := rM.view) fr _) x

include hO hix in
/-- The chunks of a list without repeats, run one after the other. -/
theorem chunks_wp (f : Vec F S65536x128 .f32) : ∀ (js : List (Fin 16)), js.Nodup →
    iprop(levAts (K (F := F)).L (K (F := F)).lev ∗ Inv d i tbl ix O W q ∗ bigSep js.toFinset (Part d i f))
      ⊢ wp frame (wpE (defs₀ (F := F)) 𝒱₀ (thr d i) none) Set.univ (chunks i js)
          fun _ => iprop(Inv d i tbl ix O W q ∗ bigSep js.toFinset (Part d i (gath tbl ix)))
  | [], _ => by
    unfold chunks
    rw [wp_pure]
    iintro ⟨-, HI, HP⟩
    imodintro
    isplitl [HI]; · iexact HI
    iexact HP
  | j :: js, h => by
    have hj : j ∉ js.toFinset := by rw [List.mem_toFinset]; exact (List.nodup_cons.mp h).1
    rw [List.toFinset_cons, SparseCore.bigSep_insert' hj, SparseCore.bigSep_insert' hj]
    show _ ⊢ wp frame _ _ (chunk i j >>= fun _ => chunks i js) _
    iintro ⟨#Hlv, HI, HP, HPs⟩
    iapply (chunk_wp d i tbl ix O W hO hix q j f fun _ => chunks i js)
    isplitr; · iexact Hlv
    isplitl [HI]; · iexact HI
    isplitl [HP]; · iexact HP
    iintro ⟨HI, HP⟩
    ihave Hw := (chunks_wp f js (List.nodup_cons.mp h).2) $$ [HI HPs]
    · isplitr; · iexact Hlv
      isplitl [HI]; · iexact HI
      iexact HPs
    iapply (wp_wand frame (wpE (defs₀ (F := F)) 𝒱₀ (thr d i) none) Set.univ) $$ Hw
    iintro %_ ⟨HI, HPs⟩
    isplitl [HI]; · iexact HI
    isplitl [HP]; · iexact HP
    iexact HPs

end Tile

/-! ## A tile's own semaphores and buffers -/

section Own
variable (d : Dev nD) (i : grid1.Coords)

abbrev cell (d : Dev nD) (i : grid1.Coords) (s : DmaSem sig) : GSem nD τ sig := (thr d i, .dma s)

/-- Two semaphores of one tile that have one cell are one semaphore. -/
theorem cell_inj {s s' : DmaSem sig} (h : cell d i s = cell d i s') : s = s' := by
  have := (Prod.mk.inj h).2; exact SemLoc.dma.inj this

/-- The number of a chunk's store semaphore. -/
theorem oSem_val (j : Fin 16) : (oSem j).val = 6 + j.val := by revert j; decide

/-- Every chunk's store semaphore is scoped to the tile. -/
theorem oSem_scoped : ∀ j : Fin 16, (SemLoc.dma (oSem j) : SemLoc sig).isScoped .scVector = true := by decide

/-- The cell of chunk `j`'s store. -/
abbrev oCell (d : Dev nD) (i : grid1.Coords) : Fin 16 ↪ GSem nD τ sig :=
  ⟨fun j => cell d i (oSem j), fun j j' h => Fin.ext (by have := congrArg Fin.val (cell_inj d i h); rw [oSem_val, oSem_val] at this; omega)⟩

/-- A scoped semaphore's cell is among the tile's own cells. -/
theorem cell_mem (s : DmaSem sig) (h : (SemLoc.dma s : SemLoc sig).isScoped .scVector = true) : cell d i s ∈ ownCells (thr d i) :=
  mem_ownCells.mpr ⟨rfl, h⟩

/-- The rest of a tile's cells. -/
abbrev restCells (d : Dev nD) (i : grid1.Coords) : Finset (GSem nD τ sig) :=
  (((ownCells (thr d i)).erase (cell d i gSem)).erase (cell d i fSem)) \ Finset.univ.map (oCell d i)

/-- The sixteen store cells are among the tile's cells other than the gather's and the fetch's. -/
theorem oCells_sub : Finset.univ.map (oCell d i) ⊆ ((ownCells (thr d i)).erase (cell d i gSem)).erase (cell d i fSem) := by
  intro g hg
  obtain ⟨j, -, rfl⟩ := Finset.mem_map.mp hg
  refine Finset.mem_erase.mpr ⟨fun h => ?_, Finset.mem_erase.mpr ⟨fun h => ?_, cell_mem d i _ (oSem_scoped j)⟩⟩
  · have := congrArg Fin.val (cell_inj d i h); rw [oSem_val, show fSem.val = 5 from rfl] at this; omega
  · have := congrArg Fin.val (cell_inj d i h); rw [oSem_val, show gSem.val = 4 from rfl] at this; omega

/-- Its scoped semaphores are the gathers', the fetch's, the sixteen stores', and the rest. -/
theorem ownSems_eq :
    (ownSems0 (thr d i) : sProp 𝕄)
      = iprop(semVal (cell d i gSem) 0 ∗ semVal (cell d i fSem) 0 ∗ bigSep Finset.univ (fun j => semVal (cell d i (oSem j)) 0)
          ∗ bigSep (restCells d i) fun g => semVal g 0) := by
  unfold SparseCore.Cfg.ownSems0
  rw [SparseCore.bigSep_erase' (cell_mem d i gSem (by decide)),
    SparseCore.bigSep_erase' (Finset.mem_erase.mpr ⟨fun h => absurd (cell_inj d i h) (by decide), cell_mem d i fSem (by decide)⟩),
    SparseCore.bigSep_sdiff_split' (oCells_sub d i), bigSep_map]
  rfl

/-- Its buffers are the two scratch buffers and the rest. -/
theorem ownBufs_eq :
    (ownBufs (thr d i) : sProp 𝕄)
      = iprop((∃ f, (thr d i).loc cc1_scratch0 ↦{fullShare} f) ∗ (∃ f, (thr d i).loc cc1_scratch1 ↦{fullShare} f)
          ∗ bigSep (((ownRefs (τ := τ) (thr d i).2).erase ((thr d i).2.devRef cc1_scratch0)).erase ((thr d i).2.devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d i).2) (b := (thr d i).2.devRef cc1_scratch1) rfl⟩)]

end Own

/-! ## The task -/

/-- Tile `t`'s resources, its part of the gathered rows at `f`. -/
def Held (d : Dev nD) (tbl : Vec F S100000x128 .f32) (ix : Vec F S512x128 .i32) (f : Vec F S65536x128 .f32) (t : Fin 32) : sProp 𝕄 :=
  iprop((xLoc d ↦{xSh t} tbl) ∗ (ixLoc d ↦[ixSet t]{fullShare} ix) ∗ bigSep Finset.univ fun j : Fin 16 => oLoc d ↦[oSet (oix t j)]{fullShare} f)

/-- The sixteen chunks' parts are their semaphores at zero and their sixteen pieces of the result. -/
theorem parts_eq (d : Dev nD) (i : grid1.Coords) (f : Vec F S65536x128 .f32) :
    (bigSep Finset.univ (Part d i f) : sProp 𝕄)
      = iprop(bigSep Finset.univ (fun j => semVal (cell d i (oSem j)) 0)
        ∗ bigSep Finset.univ fun j : Fin 16 => oLoc d ↦[oSet (oix (tix (cL i) (sL i)) j)]{fullShare} f) := by
  rw [← bigSep_sep']
  refine bigSep_congr fun j _ => ?_
  unfold Part
  rw [oSl_set]

/-- The fetch followed by a continuation is a copy, a wait, and the continuation. -/
theorem fetch_bind (i : grid1.Coords) (k : PUnit → TP F i PUnit) :
    (fetch i >>= k)
      = (.op (.enqueueDma (ixSl i) (.here sM) (.dma fSem) (View.wordExact_bits rfl) (Memref.isWhole_whole _).wordExact ⟨Or.inl rfl, trivial⟩) fun _ =>
          .op (.waitDma2 fSem (ixSl i) sM (View.wordExact_bits rfl) (Memref.isWhole_whole _).wordExact) k : TP F i PUnit) := rfl

set_option maxHeartbeats 4000000 in
/-- The task at coordinates `i`: from the tile's resources, the same with its part of the gathered rows written. -/
theorem tile_wp (hF : (K (F := F)).Facts) (d : Dev nD) (i : grid1.Coords) (tbl : Vec F S100000x128 .f32) (ix : Vec F S512x128 .i32)
    (f : Vec F S65536x128 .f32) (hix : InR ix) (O : CellTallies nD τ sig (HIx 1)) (W : Waits sig (HIx 1)) (hO : ∀ g, O g none = 0) :
    iprop(levAts (K (F := F)).L (K (F := F)).lev ∗ emp ∗ Held d tbl ix f (tix (cL i) (sL i))
        ∗ scopedBufs (thr d i) ∗ scopedSems0 (thr d i) ∗ owes (thr d i) O W)
      ⊢ wp frame (wpE (defs₀ (F := F)) 𝒱₀ (thr d i) none) Set.univ
          (cc1_gather i xM (Memref.isWhole_whole _) ixM (Memref.isWhole_whole _) oM (Memref.isWhole_whole _) sM (Memref.isWhole_whole _) rM (Memref.isWhole_whole _)
            cc1_scratch2 cc1_scoped0 cc1_scoped1 cc1_scoped2 cc1_scoped3 cc1_scoped4 cc1_scoped5 cc1_scoped6 cc1_scoped7 cc1_scoped8 cc1_scoped9 cc1_scoped10
            cc1_scoped11 cc1_scoped12 cc1_scoped13 cc1_scoped14 cc1_scoped15 cc1_scoped16)
          fun _ => iprop(Held d tbl ix (gath tbl ix) (tix (cL i) (sL i)) ∗ scopedBufs (thr d i) ∗ scopedSems0 (thr d i)
            ∗ ∃ W', ⌜∀ p ∈ W', p ∈ W ∨ p.2 = none⌝ ∗ owes (thr d i) O W') := by
  have hss : (sM).view.set = Finset.univ := View.set_whole _
  have hall : all16.toFinset = (Finset.univ : Finset (Fin 16)) := by decide
  have hch := chunks_wp d i tbl ix O W hO hix (xSh (tix (cL i) (sL i))) f all16 (by decide)
  rw [hall, parts_eq, parts_eq] at hch
  rw [gather_eq, fetch_bind, (K (F := F)).scopedBufs_V hF d _ _, SparseCore.Cfg.scopedSems0_V (Val := Elt F) d _ _, ownSems_eq, ownBufs_eq]
  unfold Held
  unfold Inv at hch
  iintro ⟨#Hlv, -, ⟨Hx, Hi, Ho⟩, ⟨⟨%fs, Hs⟩, Hr, Hbufs⟩, ⟨Hg, Hf, Hv, Hsems⟩, HO⟩
  ihave Hmw := (show levAts (K (F := F)).L (K (F := F)).lev ⊢ Transfers.MayWaits (thr d i) (default : HIx 1) O from
    (K (F := F)).mayWaits_none (thr := thr d i) hO) $$ Hlv
  ihave Hi' := (Entails.of_eq (show (ixLoc d ↦[ixSet (tix (cL i) (sL i))]{fullShare} ix : sProp 𝕄)
    = (ixSl i).view.loc (thr d i) ↦[(ixSl i).view.set]{fullShare} ix by rw [ixSl_set])) $$ Hi
  ihave Hs' := (Entails.of_eq (show ((thr d i).loc cc1_scratch0 ↦{fullShare} fs : sProp 𝕄)
      = (sM).view.loc (thr d i) ↦[(sM).view.set]{fullShare} fs by rw [hss])) $$ Hs
  iapply (Transfers.wp_dmaLocal countersEmb 𝒱₀ (thr d i) none (dst := sM) (sm := SemLoc.dma fSem) (default : HIx 1) (sM).view.dmaCredit rfl
    (View.dmaCredit_pos (sM).view (by decide)) (Finset.Subset.refl (sM).view.set)) $$ [Hi' Hs' Hf]
  · isplitl [Hi']; · iexact Hi'
    isplitl [Hs']; · iexact Hs'
    iexact Hf
  iintro Hfl
  iapply (Transfers.wp_waitLocalO countersEmb 𝒱₀ (thr d i) none (default : HIx 1) rfl) $$ [Hfl HO]
  · isplitl [Hfl]; · iexact Hfl
    isplitl [HO]; · iexact HO
    iapply (Transfers.MayWaits.elim (SemLoc.dma fSem)) $$ Hmw
  iintro ⟨⟨Hs', Hi'⟩, Hf, HO⟩
  ihave Hs := (Entails.of_eq (show ((sM).view.loc (thr d i) ↦[(sM).view.set]{fullShare} View.write (Elt F) (sM).view fs (fetched i ix) Finset.univ : sProp 𝕄)
      = (thr d i).loc cc1_scratch0 ↦{fullShare} fetched i ix by rw [hss, View.write_whole_univ])) $$ Hs'
  ihave Hi := (Entails.of_eq (show ((ixSl i).view.loc (thr d i) ↦[(ixSl i).view.set]{fullShare} ix : sProp 𝕄)
    = ixLoc d ↦[ixSet (tix (cL i) (sL i))]{fullShare} ix by rw [ixSl_set])) $$ Hi'
  ihave Hw := hch $$ [Hx Hs Hr Hg HO Hv Ho]
  · isplitr; · iexact Hlv
    isplitl [Hx Hs Hr Hg HO]
    · isplitl [Hx]; · iexact Hx
      isplitl [Hs]; · iexact Hs
      isplitl [Hr]; · iexact Hr
      isplitl [Hg]; · iexact Hg
      iexists _; isplitr
      swap; · iexact HO
      ipureintro; intro p hp
      rcases Finset.mem_insert.mp hp with hp | hp; · exact .inr (hp ▸ rfl)
      exact .inl hp
    isplitl [Hv]; · iexact Hv
    iexact Ho
  iapply (wp_wand frame (wpE (defs₀ (F := F)) 𝒱₀ (thr d i) none) Set.univ) $$ Hw
  iintro %_ ⟨⟨Hx, Hs, Hr, Hg, HO⟩, Hv, Ho⟩
  isplitl [Hx Hi Ho]
  · isplitl [Hx]; · iexact Hx
    isplitl [Hi]; · iexact Hi
    iexact Ho
  isplitl [Hs Hr Hbufs]
  · isplitl [Hs]; · iexists _; iexact Hs
    isplitl [Hr]; · iexact Hr
    iexact Hbufs
  isplitl [Hg Hf Hv Hsems]
  · isplitl [Hg]; · iexact Hg
    isplitl [Hf]; · iexact Hf
    isplitl [Hv]; · iexact Hv
    iexact Hsems
  iexact HO

end Cert.KernelIdeal.Pf
-- ==== Proof.Launch.lean ====
/- The gather's launch: what the call hands each SparseCore and each tile, the task's obligation, and the arrays' division. -/
module

public import proofs.«01_k».proof.Proof.GatherTile

@[expose] public section

noncomputable section

namespace Cert.KernelIdeal.Pf

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (facts₀ facts)

variable {F : FTy → Type} [FloatOps F]

local notation "𝕄" => MT nD τ sig (HIx 1) (Elt F) ℕ UU ℕ

/-! ## The arrays' division among the tiles -/

/-- The table, the indices and the output rows, whole. -/
def Whole (d : Dev nD) (tbl : Vec F S100000x128 .f32) (ix : Vec F S512x128 .i32) (f : Vec F S65536x128 .f32) : sProp 𝕄 :=
  iprop((xLoc d ↦{fullShare} tbl) ∗ (ixLoc d ↦{fullShare} ix) ∗ (oLoc d ↦{fullShare} f))

/-- The index lists are their 32 tiles' parts. -/
theorem ix_parts (d : Dev nD) (ix : Vec F S512x128 .i32) :
    (ixLoc d ↦{fullShare} ix : sProp 𝕄) = bigSep Finset.univ fun t : Fin 32 => ixLoc d ↦[ixSet t]{fullShare} ix := by
  rw [← pointsTo_biUnion Finset.univ (ℓ := ixLoc d) ixSet (fun i _ j _ h => Rect.part_disjoint div32 h)]
  rw [show (Finset.univ : Finset (Fin 32)).biUnion ixSet = Finset.univ from Rect.biUnion_part div32]

/-- The result is its 32 tiles' sixteen parts each. -/
theorem o_parts (d : Dev nD) (f : Vec F S65536x128 .f32) :
    (oLoc d ↦{fullShare} f : sProp 𝕄)
      = bigSep Finset.univ fun t : Fin 32 => bigSep Finset.univ fun j : Fin 16 => oLoc d ↦[oSet (oix t j)]{fullShare} f := by
  have h : (oLoc d ↦{fullShare} f : sProp 𝕄) = bigSep Finset.univ fun n : Fin 512 => oLoc d ↦[oSet n]{fullShare} f := by
    rw [← pointsTo_biUnion Finset.univ (ℓ := oLoc d) oSet (fun i _ j _ h => Rect.part_disjoint div512 h)]
    rw [show (Finset.univ : Finset (Fin 512)).biUnion oSet = Finset.univ from Rect.biUnion_part div512]
  rw [h, bigSep_univ_equiv (finProdFinEquiv (m := 32) (n := 16)), bigSep_univ_prod]
  refine bigSep_congr fun t _ => bigSep_congr fun j _ => ?_
  rw [show (finProdFinEquiv (t, j) : Fin (32 * 16)) = oix t j from Fin.ext (Nat.add_comm _ _)]

/-- The arrays whole are every tile's part of them. -/
theorem whole_eq (d : Dev nD) (tbl : Vec F S100000x128 .f32) (ix : Vec F S512x128 .i32) (f : Vec F S65536x128 .f32) :
    Whole d tbl ix f = bigSep Finset.univ fun c : Fin 2 => bigSep Finset.univ fun s : Fin 16 => Held d tbl ix f (tix c s) := by
  have h : Whole d tbl ix f = bigSep Finset.univ fun t : Fin 32 => Held d tbl ix f t := by
    unfold Whole Held
    rw [bigSep_sep', bigSep_sep', ← ix_parts, ← o_parts, ← pointsTo_piecesOf]
  rw [h, bigSep_univ_equiv (finProdFinEquiv (m := 16) (n := 2)), bigSep_univ_prod, bigSep_univ_comm]
  refine bigSep_congr fun c _ => bigSep_congr fun s _ => ?_
  rw [show (finProdFinEquiv (s, c) : Fin (16 * 2)) = tix c s from Fin.ext (Nat.add_comm _ _)]

/-! ## What the call hands out -/

variable (tb : Dev nD → Vec F S100000x128 .f32) (ixs : Dev nD → Vec F S512x128 .i32) (o0 : Dev nD → Vec F S65536x128 .f32)

instance held_storable (d : Dev nD) (tbl : Vec F S100000x128 .f32) (ix : Vec F S512x128 .i32) (f : Vec F S65536x128 .f32) (t : Fin 32) :
    BI.Storable (upEmb : UEmb _ 𝕄) (Held d tbl ix f t) := by
  unfold Held; infer_instance

/-- Each tile takes its part of the arrays and brings it back with its rows gathered; a SparseCore takes its tiles' parts. -/
def P : (K (F := F)).Pay (nD := nD) (Val := Elt F) (Name := ℕ) (U := UU) where
  st := fun q d c => match q with
    | 0 => bigSep Finset.univ fun s : Fin 16 => Held d (tb d) (ixs d) (o0 d) (tix (Fin.cast nCore_zero c) s)
  dn := fun q d c => match q with
    | 0 => bigSep Finset.univ fun s : Fin 16 => Held d (tb d) (ixs d) (gath (tb d) (ixs d)) (tix (Fin.cast nCore_zero c) s)
  go := fun q d c i => match q with
    | 0 => Held d (tb d) (ixs d) (o0 d) (tix (Fin.cast nCore_zero c) (Fin.cast nSub_zero i))
  td := fun q d c i => match q with
    | 0 => Held d (tb d) (ixs d) (gath (tb d) (ixs d)) (tix (Fin.cast nCore_zero c) (Fin.cast nSub_zero i))
  x := fun _ _ => iprop(emp)

instance P_storable : (P tb ixs o0).IsStorable where
  st q d c := match q with
    | 0 => (inferInstance : BI.Storable (upEmb : UEmb _ 𝕄)
      (bigSep Finset.univ fun s : Fin 16 => Held d (tb d) (ixs d) (o0 d) (tix (Fin.cast nCore_zero c) s)))
  dn q d c := match q with
    | 0 => (inferInstance : BI.Storable (upEmb : UEmb _ 𝕄)
      (bigSep Finset.univ fun s : Fin 16 => Held d (tb d) (ixs d) (gath (tb d) (ixs d)) (tix (Fin.cast nCore_zero c) s)))
  go q d c i := match q with
    | 0 => held_storable d (tb d) (ixs d) (o0 d) (tix (Fin.cast nCore_zero c) (Fin.cast nSub_zero i))
  td q d c i := match q with
    | 0 => held_storable d (tb d) (ixs d) (gath (tb d) (ixs d)) (tix (Fin.cast nCore_zero c) (Fin.cast nSub_zero i))

/-! ## The task's obligation -/

def coordsV (c : Fin (grid1.bound 0)) (s : Fin (grid1.bound 1)) : grid1.Coords :=
  fun | 0 => c | 1 => s | ⟨_ + 2, h⟩ => absurd h (Nat.not_lt.2 (Nat.le_add_left _ _))

/-- What a tile runs is the gather body at its coordinates. -/
theorem defs₀_vector (c : Fin τ.nSC) (s : Fin τ.nSub) :
    defs₀ (F := F) (.scVector c s) 1 ()
      = SparseCore.onTile hcore1 hsub1 (fun c s => cc1_gather (coordsV c s)
          xM (Memref.isWhole_whole _) ixM (Memref.isWhole_whole _) oM (Memref.isWhole_whole _) sM (Memref.isWhole_whole _) rM (Memref.isWhole_whole _)
            cc1_scratch2 cc1_scoped0 cc1_scoped1 cc1_scoped2 cc1_scoped3 cc1_scoped4 cc1_scoped5 cc1_scoped6 cc1_scoped7 cc1_scoped8 cc1_scoped9 cc1_scoped10
            cc1_scoped11 cc1_scoped12 cc1_scoped13 cc1_scoped14 cc1_scoped15 cc1_scoped16) ⟨⟩ c s := rfl

/-- What the task leaves, its waits recorded as the call's protocol records them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets what the call asks of it. -/
theorem tileObl (hF : (K (F := F)).Facts) (hix : ∀ d, InR (ixs d)) : (K (F := F)).TileObl (D (F := F)) 𝒱 (P tb ixs o0) v₀ 0 := by
  intro d c i O W hO _ _
  simp only [show (P tb ixs o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_wp hF d (coordsV ⟨_, hci.1⟩ ⟨_, hci.2⟩) (tb d) (ixs d) (o0 d) (hix d) O W hO).trans (wp_mono frame _ _ fun _ => obl_post)

/-- A conjunction over the launch's tiles is one over 16. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A conjunction over the launch's SparseCores is one over 2. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its tiles' parts, before and after. -/
theorem vecSplit : (K (F := F)).VecSplit' (P tb ixs o0) 0 := by
  intro d c
  show (bigSep Finset.univ fun s : Fin 16 => Held d (tb d) (ixs d) (o0 d) (tix (Fin.cast nCore_zero c) s)) ⊢ |={Set.univ}=> iprop(
      (bigSep Finset.univ fun i : Fin ((K (F := F)).nSub 0) =>
        Held d (tb d) (ixs d) (o0 d) (tix (Fin.cast nCore_zero c) (Fin.cast nSub_zero i)))
      ∗ ((bigSep Finset.univ fun i : Fin ((K (F := F)).nSub 0) =>
          Held d (tb d) (ixs d) (gath (tb d) (ixs d)) (tix (Fin.cast nCore_zero c) (Fin.cast nSub_zero i)))
          -∗ bigSep Finset.univ fun s : Fin 16 => Held d (tb d) (ixs d) (gath (tb d) (ixs d)) (tix (Fin.cast nCore_zero c) s)))
  rw [bigSep_tasks (F := F) (fun s => Held d (tb d) (ixs d) (o0 d) (tix (Fin.cast nCore_zero c) s)),
    bigSep_tasks (F := F) (fun s => Held d (tb d) (ixs d) (gath (tb d) (ixs d)) (tix (Fin.cast nCore_zero c) s))]
  iintro H; imodintro
  isplitl [H]; · iexact H
  iintro H; iexact H

/-- The call takes the three arrays whole … -/
theorem st_eq (d : Dev nD) : (bigSep Finset.univ fun c : Fin ((K (F := F)).nCore 0) => (P tb ixs o0).st 0 d c) = Whole d (tb d) (ixs d) (o0 d) := by
  rw [whole_eq]
  exact bigSep_cores (fun c => bigSep Finset.univ fun s : Fin 16 => Held d (tb d) (ixs d) (o0 d) (tix c s))

/-- … and returns them with the rows gathered. -/
theorem dn_eq (d : Dev nD) :
    (bigSep Finset.univ fun c : Fin ((K (F := F)).nCore 0) => (P tb ixs o0).dn 0 d c) = Whole d (tb d) (ixs d) (gath (tb d) (ixs d)) := by
  rw [whole_eq]
  exact bigSep_cores (fun c => bigSep Finset.univ fun s : Fin 16 => Held d (tb d) (ixs d) (gath (tb d) (ixs d)) (tix c s))

end Cert.KernelIdeal.Pf

end
-- ==== Proof.Host.lean ====
/- The host operations of the program, as lines, and the program as those lines around its three calls. -/
module

public import proofs.«01_k».proof.Proof.Launch
public import Idealize.ShloMosaic.Lib.StableHlo.RunRead

@[expose] public section

noncomputable section

namespace Cert.KernelIdeal.Pf

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal Facts₀ Facts
open Cert.KernelIdeal.Gen (facts₀ facts)

variable {F : FTy → Type} [FloatOps F]

set_option maxRecDepth 16384 in
/-- The two operations before the calls: the word indices transposed and laid out in rows. -/
def opsA : List (HloOp τ sig (Elt F)) := [
  StableHlo.unary main_arg0 main_v0 ((transpose S128x512 [1, 0] · transposes_S512x128_S128x512_1_0) : (⟨S512x128, .i32⟩ : BufTy).Contents (Elt F) → (⟨S128x512, .i32⟩ : BufTy).Contents (Elt F)),
  StableHlo.reshape main_v0 main_v1 (rfl : (.i32 : EltTy) = .i32) shapeCasts_S128x512_S512x128]

/-- What those operations write, in order. -/
def opsAW : List (Ref sig .tc) := [main_v0, main_v1]

set_option maxRecDepth 16384 in
/-- The operations after the gather, first part: the weights of both directions, their gates interleaved and padded. -/
def opsB : List (HloOp τ sig (Elt F)) := [
  StableHlo.reshape main_v3 main_v4 (rfl : (.f32 : EltTy) = .f32) shapeCasts_S65536x128_S128x512x128,
  StableHlo.unary main_arg2 main_v5 ((transpose S100x256 [1, 0] · transposes_S256x100_S100x256_1_0) : (⟨S256x100, .f32⟩ : BufTy).Contents (Elt F) → (⟨S100x256, .f32⟩ : BufTy).Contents (Elt F)),
  StableHlo.nullary main_c (constantI S_ 32 0#32),
  StableHlo.TRef.unary (.of main_c : StableHlo.TRef sig ⟨S_, .i32⟩) main_call0.v0 (sitofp .f32),
  StableHlo.TRef.binary (.of main_v5 : StableHlo.TRef sig ⟨S100x256, .f32⟩) main_call0.v0 main_call0.v1 (fun x v => pad S128x256 ![0, 0] ![28, 0] ![0, 0] x v pads_S100x256_S128x256_0280_000 h_S_),
  StableHlo.unary main_v6 main_v7 ((extractStridedSlice S128x64 ![0, 0] · slices_S128x256_S128x64_0_0) : (⟨S128x256, .f32⟩ : BufTy).Contents (Elt F) → (⟨S128x64, .f32⟩ : BufTy).Contents (Elt F)),
  StableHlo.unary main_v6 main_v8 ((extractStridedSlice S128x64 ![0, 64] · slices_S128x256_S128x64_0_64) : (⟨S128x256, .f32⟩ : BufTy).Contents (Elt F) → (⟨S128x64, .f32⟩ : BufTy).Contents (Elt F)),
  StableHlo.unary main_v6 main_v9 ((extractStridedSlice S128x64 ![0, 128] · slices_S128x256_S128x64_0_128) : (⟨S128x256, .f32⟩ : BufTy).Contents (Elt F) → (⟨S128x64, .f32⟩ : BufTy).Contents (Elt F)),
  StableHlo.unary main_v6 main_v10 ((extractStridedSlice S128x64 ![0, 192] · slices_S128x256_S128x64_0_192) : (⟨S128x256, .f32⟩ : BufTy).Contents (Elt F) → (⟨S128x64, .f32⟩ : BufTy).Contents (Elt F)),
  StableHlo.nullary main_cst (constant S_ .f32 0x00000000#32),
  StableHlo.unary main_cst main_v11 (broadcastInDim S128x64 ![] bcast_S_S128x64 : (⟨S_, .f32⟩ : BufTy).Contents (Elt F) → (⟨S128x64, .f32⟩ : BufTy).Contents (Elt F)),
  StableHlo.nary ![main_v7, main_v11, main_v8, main_v11, main_v9, main_v11, main_v10, main_v11] main_v12 (fun u => (concatenate S128x512 1 [⟨S128x64, (u 0 : (⟨S128x64, .f32⟩ : BufTy).Contents (Elt F))⟩, ⟨S128x64, (u 1 : (⟨S128x64, .f32⟩ : BufTy).Contents (Elt F))⟩, ⟨S128x64, (u 2 : (⟨S128x64, .f32⟩ : BufTy).Contents (Elt F))⟩, ⟨S128x64, (u 3 : (⟨S128x64, .f32⟩ : BufTy).Contents (Elt F))⟩, ⟨S128x64, (u 4 : (⟨S128x64, .f32⟩ : BufTy).Contents (Elt F))⟩, ⟨S128x64, (u 5 : (⟨S128x64, .f32⟩ : BufTy).Contents (Elt F))⟩, ⟨S128x64, (u 6 : (⟨S128x64, .f32⟩ : BufTy).Contents (Elt F))⟩, ⟨S128x64, (u 7 : (⟨S128x64, .f32⟩ : BufTy).Contents (Elt F))⟩] concatenates_S128x64_S128x64_S128x64_S128x64_S128x64_S128x64_S128x64_S128x64_S128x512_d1 : (⟨S128x512, .f32⟩ : BufTy).Contents (Elt F))),
  StableHlo.unary main_arg6 main_v13 ((transpose S100x256 [1, 0] · transposes_S256x100_S100x256_1_0) : (⟨S256x100, .f32⟩ : BufTy).Contents (Elt F) → (⟨S100x256, .f32⟩ : BufTy).Contents (Elt F)),
  StableHlo.nullary main_c_0 (constantI S_ 32 0#32),
  StableHlo.TRef.unary (.of main_c_0 : StableHlo.TRef sig ⟨S_, .i32⟩) main_call1.v0 (sitofp .f32),
  StableHlo.TRef.binary (.of main_v13 : StableHlo.TRef sig ⟨S100x256, .f32⟩) main_call1.v0 main_call1.v1 (fun x v => pad S128x256 ![0, 0] ![28, 0] ![0, 0] x v pads_S100x256_S128x256_0280_000 h_S_),
  StableHlo.unary main_v14 main_v15 ((extractStridedSlice S128x64 ![0, 0] · slices_S128x256_S128x64_0_0) : (⟨S128x256, .f32⟩ : BufTy).Contents (Elt F) → (⟨S128x64, .f32⟩ : BufTy).Contents (Elt F)),
  StableHlo.unary main_v14 main_v16 ((extractStridedSlice S128x64 ![0, 64] · slices_S128x256_S128x64_0_64) : (⟨S128x256, .f32⟩ : BufTy).Contents (Elt F) → (⟨S128x64, .f32⟩ : BufTy).Contents (Elt F)),
  StableHlo.unary main_v14 main_v17 ((extractStridedSlice S128x64 ![0, 128] · slices_S128x256_S128x64_0_128) : (⟨S128x256, .f32⟩ : BufTy).Contents (Elt F) → (⟨S128x64, .f32⟩ : BufTy).Contents (Elt F)),
  StableHlo.unary main_v14 main_v18 ((extractStridedSlice S128x64 ![0, 192] · slices_S128x256_S128x64_0_192) : (⟨S128x256, .f32⟩ : BufTy).Contents (Elt F) → (⟨S128x64, .f32⟩ : BufTy).Contents (Elt F)),
  StableHlo.nullary main_cst_1 (constant S_ .f32 0x00000000#32),
  StableHlo.unary main_cst_1 main_v19 (broadcastInDim S128x64 ![] bcast_S_S128x64 : (⟨S_, .f32⟩ : BufTy).Contents (Elt F) → (⟨S128x64, .f32⟩ : BufTy).Contents (Elt F)),
  StableHlo.nary ![main_v19, main_v15, main_v19, main_v16, main_v19, main_v17, main_v19, main_v18] main_v20 (fun u => (concatenate S128x512 1 [⟨S128x64, (u 0 : (⟨S128x64, .f32⟩ : BufTy).Contents (Elt F))⟩, ⟨S128x64, (u 1 : (⟨S128x64, .f32⟩ : BufTy).Contents (Elt F))⟩, ⟨S128x64, (u 2 : (⟨S128x64, .f32⟩ : BufTy).Contents (Elt F))⟩, ⟨S128x64, (u 3 : (⟨S128x64, .f32⟩ : BufTy).Contents (Elt F))⟩, ⟨S128x64, (u 4 : (⟨S128x64, .f32⟩ : BufTy).Contents (Elt F))⟩, ⟨S128x64, (u 5 : (⟨S128x64, .f32⟩ : BufTy).Contents (Elt F))⟩, ⟨S128x64, (u 6 : (⟨S128x64, .f32⟩ : BufTy).Contents (Elt F))⟩, ⟨S128x64, (u 7 : (⟨S128x64, .f32⟩ : BufTy).Contents (Elt F))⟩] concatenates_S128x64_S128x64_S128x64_S128x64_S128x64_S128x64_S128x64_S128x64_S128x512_d1 : (⟨S128x512, .f32⟩ : BufTy).Contents (Elt F))),
  StableHlo.unary main_arg3 main_v21 ((transpose S64x256 [1, 0] · transposes_S256x64_S64x256_1_0) : (⟨S256x64, .f32⟩ : BufTy).Contents (Elt F) → (⟨S64x256, .f32⟩ : BufTy).Contents (Elt F)),
  StableHlo.unary main_v21 main_v22 ((extractStridedSlice S64x64 ![0, 0] · slices_S64x256_S64x64_0_0) : (⟨S64x256, .f32⟩ : BufTy).Contents (Elt F) → (⟨S64x64, .f32⟩ : BufTy).Contents (Elt F)),
  StableHlo.unary main_v21 main_v23 ((extractStridedSlice S64x64 ![0, 64] · slices_S64x256_S64x64_0_64) : (⟨S64x256, .f32⟩ : BufTy).Contents (Elt F) → (⟨S64x64, .f32⟩ : BufTy).Contents (Elt F)),
  StableHlo.unary main_v21 main_v24 ((extractStridedSlice S64x64 ![0, 128] · slices_S64x256_S64x64_0_128) : (⟨S64x256, .f32⟩ : BufTy).Contents (Elt F) → (⟨S64x64, .f32⟩ : BufTy).Contents (Elt F)),
  StableHlo.unary main_v21 main_v25 ((extractStridedSlice S64x64 ![0, 192] · slices_S64x256_S64x64_0_192) : (⟨S64x256, .f32⟩ : BufTy).Contents (Elt F) → (⟨S64x64, .f32⟩ : BufTy).Contents (Elt F)),
  StableHlo.nullary main_cst_2 (constant S_ .f32 0x00000000#32),
  StableHlo.unary main_cst_2 main_v26 (broadcastInDim S64x64 ![] bcast_S_S64x64 : (⟨S_, .f32⟩ : BufTy).Contents (Elt F) → (⟨S64x64, .f32⟩ : BufTy).Contents (Elt F)),
  StableHlo.nary ![main_v22, main_v26, main_v23, main_v26, main_v24, main_v26, main_v25, main_v26] main_v27 (fun u => (concatenate S64x512 1 [⟨S64x64, (u 0 : (⟨S64x64, .f32⟩ : BufTy).Contents (Elt F))⟩, ⟨S64x64, (u 1 : (⟨S64x64, .f32⟩ : BufTy).Contents (Elt F))⟩, ⟨S64x64, (u 2 : (⟨S64x64, .f32⟩ : BufTy).Contents (Elt F))⟩, ⟨S64x64, (u 3 : (⟨S64x64, .f32⟩ : BufTy).Contents (Elt F))⟩, ⟨S64x64, (u 4 : (⟨S64x64, .f32⟩ : BufTy).Contents (Elt F))⟩, ⟨S64x64, (u 5 : (⟨S64x64, .f32⟩ : BufTy).Contents (Elt F))⟩, ⟨S64x64, (u 6 : (⟨S64x64, .f32⟩ : BufTy).Contents (Elt F))⟩, ⟨S64x64, (u 7 : (⟨S64x64, .f32⟩ : BufTy).Contents (Elt F))⟩] concatenates_S64x64_S64x64_S64x64_S64x64_S64x64_S64x64_S64x64_S64x64_S64x512_d1 : (⟨S64x512, .f32⟩ : BufTy).Contents (Elt F))),
  StableHlo.unary main_arg7 main_v28 ((transpose S64x256 [1, 0] · transposes_S256x64_S64x256_1_0) : (⟨S256x64, .f32⟩ : BufTy).Contents (Elt F) → (⟨S64x256, .f32⟩ : BufTy).Contents (Elt F)),
  StableHlo.unary main_v28 main_v29 ((extractStridedSlice S64x64 ![0, 0] · slices_S64x256_S64x64_0_0) : (⟨S64x256, .f32⟩ : BufTy).Contents (Elt F) → (⟨S64x64, .f32⟩ : BufTy).Contents (Elt F)),
  StableHlo.unary main_v28 main_v30 ((extractStridedSlice S64x64 ![0, 64] · slices_S64x256_S64x64_0_64) : (⟨S64x256, .f32⟩ : BufTy).Contents (Elt F) → (⟨S64x64, .f32⟩ : BufTy).Contents (Elt F)),
  StableHlo.unary main_v28 main_v31 ((extractStridedSlice S64x64 ![0, 128] · slices_S64x256_S64x64_0_128) : (⟨S64x256, .f32⟩ : BufTy).Contents (Elt F) → (⟨S64x64, .f32⟩ : BufTy).Contents (Elt F)),
  StableHlo.unary main_v28 main_v32 ((extractStridedSlice S64x64 ![0, 192] · slices_S64x256_S64x64_0_192) : (⟨S64x256, .f32⟩ : BufTy).Contents (Elt F) → (⟨S64x64, .f32⟩ : BufTy).Contents (Elt F)),
  StableHlo.nullary main_cst_3 (constant S_ .f32 0x00000000#32),
  StableHlo.unary main_cst_3 main_v33 (broadcastInDim S64x64 ![] bcast_S_S64x64 : (⟨S_, .f32⟩ : BufTy).Contents (Elt F) → (⟨S64x64, .f32⟩ : BufTy).Contents (Elt F)),
  StableHlo.nary ![main_v33, main_v29, main_v33, main_v30, main_v33, main_v31, main_v33, main_v32] main_v34 (fun u => (concatenate S64x512 1 [⟨S64x64, (u 0 : (⟨S64x64, .f32⟩ : BufTy).Contents (Elt F))⟩, ⟨S64x64, (u 1 : (⟨S64x64, .f32⟩ : BufTy).Contents (Elt F))⟩, ⟨S64x64, (u 2 : (⟨S64x64, .f32⟩ : BufTy).Contents (Elt F))⟩, ⟨S64x64, (u 3 : (⟨S64x64, .f32⟩ : BufTy).Contents (Elt F))⟩, ⟨S64x64, (u 4 : (⟨S64x64, .f32⟩ : BufTy).Contents (Elt F))⟩, ⟨S64x64, (u 5 : (⟨S64x64, .f32⟩ : BufTy).Contents (Elt F))⟩, ⟨S64x64, (u 6 : (⟨S64x64, .f32⟩ : BufTy).Contents (Elt F))⟩, ⟨S64x64, (u 7 : (⟨S64x64, .f32⟩ : BufTy).Contents (Elt F))⟩] concatenates_S64x64_S64x64_S64x64_S64x64_S64x64_S64x64_S64x64_S64x64_S64x512_d1 : (⟨S64x512, .f32⟩ : BufTy).Contents (Elt F))),
  StableHlo.nary ![main_v12, main_v20, main_v27, main_v34] main_v35 (fun u => (concatenate S384x512 0 [⟨S128x512, (u 0 : (⟨S128x512, .f32⟩ : BufTy).Contents (Elt F))⟩, ⟨S128x512, (u 1 : (⟨S128x512, .f32⟩ : BufTy).Contents (Elt F))⟩, ⟨S64x512, (u 2 : (⟨S64x512, .f32⟩ : BufTy).Contents (Elt F))⟩, ⟨S64x512, (u 3 : (⟨S64x512, .f32⟩ : BufTy).Contents (Elt F))⟩] concatenates_S128x512_S128x512_S64x512_S64x512_S384x512_d0 : (⟨S384x512, .f32⟩ : BufTy).Contents (Elt F))),
  StableHlo.binary main_arg4 main_arg5 main_v36 (addf : (⟨S256, .f32⟩ : BufTy).Contents (Elt F) → (⟨S256, .f32⟩ : BufTy).Contents (Elt F) → (⟨S256, .f32⟩ : BufTy).Contents (Elt F)),
  StableHlo.unary main_v36 main_v37 (broadcastInDim S1x256 ![1] bcast_S256_S1x256_1 : (⟨S256, .f32⟩ : BufTy).Contents (Elt F) → (⟨S1x256, .f32⟩ : BufTy).Contents (Elt F)),
  StableHlo.unary main_v37 main_v38 ((extractStridedSlice S1x64 ![0, 0] · slices_S1x256_S1x64_0_0) : (⟨S1x256, .f32⟩ : BufTy).Contents (Elt F) → (⟨S1x64, .f32⟩ : BufTy).Contents (Elt F)),
  StableHlo.unary main_v37 main_v39 ((extractStridedSlice S1x64 ![0, 64] · slices_S1x256_S1x64_0_64) : (⟨S1x256, .f32⟩ : BufTy).Contents (Elt F) → (⟨S1x64, .f32⟩ : BufTy).Contents (Elt F)),
  StableHlo.unary main_v37 main_v40 ((extractStridedSlice S1x64 ![0, 128] · slices_S1x256_S1x64_0_128) : (⟨S1x256, .f32⟩ : BufTy).Contents (Elt F) → (⟨S1x64, .f32⟩ : BufTy).Contents (Elt F)),
  StableHlo.unary main_v37 main_v41 ((extractStridedSlice S1x64 ![0, 192] · slices_S1x256_S1x64_0_192) : (⟨S1x256, .f32⟩ : BufTy).Contents (Elt F) → (⟨S1x64, .f32⟩ : BufTy).Contents (Elt F)),
  StableHlo.nullary main_cst_4 (constant S_ .f32 0x00000000#32),
  StableHlo.unary main_cst_4 main_v42 (broadcastInDim S1x64 ![] bcast_S_S1x64 : (⟨S_, .f32⟩ : BufTy).Contents (Elt F) → (⟨S1x64, .f32⟩ : BufTy).Contents (Elt F)),
  StableHlo.nary ![main_v38, main_v42, main_v39, main_v42, main_v40, main_v42, main_v41, main_v42] main_v43 (fun u => (concatenate S1x512 1 [⟨S1x64, (u 0 : (⟨S1x64, .f32⟩ : BufTy).Contents (Elt F))⟩, ⟨S1x64, (u 1 : (⟨S1x64, .f32⟩ : BufTy).Contents (Elt F))⟩, ⟨S1x64, (u 2 : (⟨S1x64, .f32⟩ : BufTy).Contents (Elt F))⟩, ⟨S1x64, (u 3 : (⟨S1x64, .f32⟩ : BufTy).Contents (Elt F))⟩, ⟨S1x64, (u 4 : (⟨S1x64, .f32⟩ : BufTy).Contents (Elt F))⟩, ⟨S1x64, (u 5 : (⟨S1x64, .f32⟩ : BufTy).Contents (Elt F))⟩, ⟨S1x64, (u 6 : (⟨S1x64, .f32⟩ : BufTy).Contents (Elt F))⟩, ⟨S1x64, (u 7 : (⟨S1x64, .f32⟩ : BufTy).Contents (Elt F))⟩] concatenates_S1x64_S1x64_S1x64_S1x64_S1x64_S1x64_S1x64_S1x64_S1x512_d1 : (⟨S1x512, .f32⟩ : BufTy).Contents (Elt F))),
  StableHlo.binary main_arg8 main_arg9 main_v44 (addf : (⟨S256, .f32⟩ : BufTy).Contents (Elt F) → (⟨S256, .f32⟩ : BufTy).Contents (Elt F) → (⟨S256, .f32⟩ : BufTy).Contents (Elt F)),
  StableHlo.unary main_v44 main_v45 (broadcastInDim S1x256 ![1] bcast_S256_S1x256_1 : (⟨S256, .f32⟩ : BufTy).Contents (Elt F) → (⟨S1x256, .f32⟩ : BufTy).Contents (Elt F)),
  StableHlo.unary main_v45 main_v46 ((extractStridedSlice S1x64 ![0, 0] · slices_S1x256_S1x64_0_0) : (⟨S1x256, .f32⟩ : BufTy).Contents (Elt F) → (⟨S1x64, .f32⟩ : BufTy).Contents (Elt F)),
  StableHlo.unary main_v45 main_v47 ((extractStridedSlice S1x64 ![0, 64] · slices_S1x256_S1x64_0_64) : (⟨S1x256, .f32⟩ : BufTy).Contents (Elt F) → (⟨S1x64, .f32⟩ : BufTy).Contents (Elt F)),
  StableHlo.unary main_v45 main_v48 ((extractStridedSlice S1x64 ![0, 128] · slices_S1x256_S1x64_0_128) : (⟨S1x256, .f32⟩ : BufTy).Contents (Elt F) → (⟨S1x64, .f32⟩ : BufTy).Contents (Elt F)),
  StableHlo.unary main_v45 main_v49 ((extractStridedSlice S1x64 ![0, 192] · slices_S1x256_S1x64_0_192) : (⟨S1x256, .f32⟩ : BufTy).Contents (Elt F) → (⟨S1x64, .f32⟩ : BufTy).Contents (Elt F)),
  StableHlo.nullary main_cst_5 (constant S_ .f32 0x00000000#32),
  StableHlo.unary main_cst_5 main_v50 (broadcastInDim S1x64 ![] bcast_S_S1x64 : (⟨S_, .f32⟩ : BufTy).Contents (Elt F) → (⟨S1x64, .f32⟩ : BufTy).Contents (Elt F)),
  StableHlo.nary ![main_v50, main_v46, main_v50, main_v47, main_v50, main_v48, main_v50, main_v49] main_v51 (fun u => (concatenate S1x512 1 [⟨S1x64, (u 0 : (⟨S1x64, .f32⟩ : BufTy).Contents (Elt F))⟩, ⟨S1x64, (u 1 : (⟨S1x64, .f32⟩ : BufTy).Contents (Elt F))⟩, ⟨S1x64, (u 2 : (⟨S1x64, .f32⟩ : BufTy).Contents (Elt F))⟩, ⟨S1x64, (u 3 : (⟨S1x64, .f32⟩ : BufTy).Contents (Elt F))⟩, ⟨S1x64, (u 4 : (⟨S1x64, .f32⟩ : BufTy).Contents (Elt F))⟩, ⟨S1x64, (u 5 : (⟨S1x64, .f32⟩ : BufTy).Contents (Elt F))⟩, ⟨S1x64, (u 6 : (⟨S1x64, .f32⟩ : BufTy).Contents (Elt F))⟩, ⟨S1x64, (u 7 : (⟨S1x64, .f32⟩ : BufTy).Contents (Elt F))⟩] concatenates_S1x64_S1x64_S1x64_S1x64_S1x64_S1x64_S1x64_S1x64_S1x512_d1 : (⟨S1x512, .f32⟩ : BufTy).Contents (Elt F)))]

/-- What those operations write, in order. -/
def opsBW : List (Ref sig .tc) := [main_v4, main_v5, main_c, main_call0_v0, main_v6, main_v7, main_v8, main_v9, main_v10, main_cst, main_v11, main_v12, main_v13, main_c_0, main_call1_v0, main_v14, main_v15, main_v16, main_v17, main_v18, main_cst_1, main_v19, main_v20, main_v21, main_v22, main_v23, main_v24, main_v25, main_cst_2, main_v26, main_v27, main_v28, main_v29, main_v30, main_v31, main_v32, main_cst_3, main_v33, main_v34, main_v35, main_v36, main_v37, main_v38, main_v39, main_v40, main_v41, main_cst_4, main_v42, main_v43, main_v44, main_v45, main_v46, main_v47, main_v48, main_v49, main_cst_5, main_v50, main_v51]

set_option maxRecDepth 16384 in
/-- The operations after the gather, second part: the doubled `g` columns, the output weights and the bias. -/
def opsC : List (HloOp τ sig (Elt F)) := [
  StableHlo.binary main_v43 main_v51 main_v52 (addf : (⟨S1x512, .f32⟩ : BufTy).Contents (Elt F) → (⟨S1x512, .f32⟩ : BufTy).Contents (Elt F) → (⟨S1x512, .f32⟩ : BufTy).Contents (Elt F)),
  StableHlo.nullary main_cst_6 (constant S_ .f32 0x3F800000#32),
  StableHlo.unary main_cst_6 main_v53 (broadcastInDim S512 ![] bcast_S_S512 : (⟨S_, .f32⟩ : BufTy).Contents (Elt F) → (⟨S512, .f32⟩ : BufTy).Contents (Elt F)),
  StableHlo.nullary main_c_7 (constantI S_ 32 256#32),
  StableHlo.unary main_c_7 main_v54 (broadcastInDim S1 ![] bcast_S_S1 : (⟨S_, .i32⟩ : BufTy).Contents (Elt F) → (⟨S1, .i32⟩ : BufTy).Contents (Elt F)),
  StableHlo.nullary main_cst_8 (constant S_ .f32 0x40000000#32),
  StableHlo.unary main_cst_8 main_v55 (broadcastInDim S128 ![] bcast_S_S128 : (⟨S_, .f32⟩ : BufTy).Contents (Elt F) → (⟨S128, .f32⟩ : BufTy).Contents (Elt F)),
  StableHlo.ternary main_v53 main_v54 main_v55 main_v56 ((fun x i u => Host.scatter scatter_S512_S1_S128_0_n_0_0 (fun _ b => b) x i u) : (⟨S512, .f32⟩ : BufTy).Contents (Elt F) → (⟨S1, .i32⟩ : BufTy).Contents (Elt F) → (⟨S128, .f32⟩ : BufTy).Contents (Elt F) → (⟨S512, .f32⟩ : BufTy).Contents (Elt F)),
  StableHlo.unary main_v56 main_v57 (broadcastInDim S1x512 ![1] bcast_S512_S1x512_1 : (⟨S512, .f32⟩ : BufTy).Contents (Elt F) → (⟨S1x512, .f32⟩ : BufTy).Contents (Elt F)),
  StableHlo.unary main_v57 main_v58 (broadcastInDim S384x512 ![0, 1] bcast_S1x512_S384x512_0_1 : (⟨S1x512, .f32⟩ : BufTy).Contents (Elt F) → (⟨S384x512, .f32⟩ : BufTy).Contents (Elt F)),
  StableHlo.binary main_v35 main_v58 main_v59 (mulf : (⟨S384x512, .f32⟩ : BufTy).Contents (Elt F) → (⟨S384x512, .f32⟩ : BufTy).Contents (Elt F) → (⟨S384x512, .f32⟩ : BufTy).Contents (Elt F)),
  StableHlo.unary main_v59 main_v60 ((truncf .bf16 · bitsLt_bf16_f32) : (⟨S384x512, .f32⟩ : BufTy).Contents (Elt F) → (⟨S384x512, .bf16⟩ : BufTy).Contents (Elt F)),
  StableHlo.unary main_v56 main_v61 (broadcastInDim S1x512 ![1] bcast_S512_S1x512_1 : (⟨S512, .f32⟩ : BufTy).Contents (Elt F) → (⟨S1x512, .f32⟩ : BufTy).Contents (Elt F)),
  StableHlo.binary main_v52 main_v61 main_v62 (mulf : (⟨S1x512, .f32⟩ : BufTy).Contents (Elt F) → (⟨S1x512, .f32⟩ : BufTy).Contents (Elt F) → (⟨S1x512, .f32⟩ : BufTy).Contents (Elt F)),
  StableHlo.nullary main_cst_9 (constant S_ .f32 0x00000000#32),
  StableHlo.unary main_cst_9 main_v63 (broadcastInDim S128x16 ![] bcast_S_S128x16 : (⟨S_, .f32⟩ : BufTy).Contents (Elt F) → (⟨S128x16, .f32⟩ : BufTy).Contents (Elt F)),
  StableHlo.unary main_arg10 main_v64 ((extractStridedSlice S8x64 ![0, 0] · slices_S8x128_S8x64_0_0) : (⟨S8x128, .f32⟩ : BufTy).Contents (Elt F) → (⟨S8x64, .f32⟩ : BufTy).Contents (Elt F)),
  StableHlo.unary main_v64 main_v65 ((transpose S64x8 [1, 0] · transposes_S8x64_S64x8_1_0) : (⟨S8x64, .f32⟩ : BufTy).Contents (Elt F) → (⟨S64x8, .f32⟩ : BufTy).Contents (Elt F)),
  StableHlo.nullary main_c_10 (constantI S_ 32 0#32),
  StableHlo.unary main_c_10 main_v66 (broadcastInDim S1 ![] bcast_S_S1 : (⟨S_, .i32⟩ : BufTy).Contents (Elt F) → (⟨S1, .i32⟩ : BufTy).Contents (Elt F)),
  StableHlo.nullary main_c_11 (constantI S_ 32 0#32),
  StableHlo.unary main_c_11 main_v67 (broadcastInDim S1 ![] bcast_S_S1 : (⟨S_, .i32⟩ : BufTy).Contents (Elt F) → (⟨S1, .i32⟩ : BufTy).Contents (Elt F)),
  StableHlo.binary main_v66 main_v67 main_v68 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v63 main_v68 main_v65 main_v69 ((fun x i u => Host.scatter scatter_S128x16_S2_S64x8_01_n_01_0 (fun _ b => b) x i u) : (⟨S128x16, .f32⟩ : BufTy).Contents (Elt F) → (⟨S2, .i32⟩ : BufTy).Contents (Elt F) → (⟨S64x8, .f32⟩ : BufTy).Contents (Elt F) → (⟨S128x16, .f32⟩ : BufTy).Contents (Elt F)),
  StableHlo.unary main_arg10 main_v70 ((extractStridedSlice S8x64 ![0, 64] · slices_S8x128_S8x64_0_64) : (⟨S8x128, .f32⟩ : BufTy).Contents (Elt F) → (⟨S8x64, .f32⟩ : BufTy).Contents (Elt F)),
  StableHlo.unary main_v70 main_v71 ((transpose S64x8 [1, 0] · transposes_S8x64_S64x8_1_0) : (⟨S8x64, .f32⟩ : BufTy).Contents (Elt F) → (⟨S64x8, .f32⟩ : BufTy).Contents (Elt F)),
  StableHlo.nullary main_c_12 (constantI S_ 32 64#32),
  StableHlo.unary main_c_12 main_v72 (broadcastInDim S1 ![] bcast_S_S1 : (⟨S_, .i32⟩ : BufTy).Contents (Elt F) → (⟨S1, .i32⟩ : BufTy).Contents (Elt F)),
  StableHlo.nullary main_c_13 (constantI S_ 32 8#32),
  StableHlo.unary main_c_13 main_v73 (broadcastInDim S1 ![] bcast_S_S1 : (⟨S_, .i32⟩ : BufTy).Contents (Elt F) → (⟨S1, .i32⟩ : BufTy).Contents (Elt F)),
  StableHlo.binary main_v72 main_v73 main_v74 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v69 main_v74 main_v71 main_v75 ((fun x i u => Host.scatter scatter_S128x16_S2_S64x8_01_n_01_0 (fun _ b => b) x i u) : (⟨S128x16, .f32⟩ : BufTy).Contents (Elt F) → (⟨S2, .i32⟩ : BufTy).Contents (Elt F) → (⟨S64x8, .f32⟩ : BufTy).Contents (Elt F) → (⟨S128x16, .f32⟩ : BufTy).Contents (Elt F)),
  StableHlo.unary main_arg11 main_v76 (broadcastInDim S1x8 ![1] bcast_S8_S1x8_1 : (⟨S8, .f32⟩ : BufTy).Contents (Elt F) → (⟨S1x8, .f32⟩ : BufTy).Contents (Elt F))]

/-- What those operations write, in order. -/
def opsCW : List (Ref sig .tc) := [main_v52, main_cst_6, main_v53, main_c_7, main_v54, main_cst_8, main_v55, main_v56, main_v57, main_v58, main_v59, main_v60, main_v61, main_v62, main_cst_9, main_v63, main_v64, main_v65, main_c_10, main_v66, main_c_11, main_v67, main_v68, main_v69, main_v70, main_v71, main_c_12, main_v72, main_c_13, main_v73, main_v74, main_v75, main_v76]

set_option maxRecDepth 16384 in
/-- The operation after the last call: the output transposed. -/
def opsD : List (HloOp τ sig (Elt F)) := [
  StableHlo.unary main_v77 main_v78 ((transpose S512x128x8 [1, 0, 2] · transposes_S128x512x8_S512x128x8_1_0_2) : (⟨S128x512x8, .f32⟩ : BufTy).Contents (Elt F) → (⟨S512x128x8, .f32⟩ : BufTy).Contents (Elt F))]

/-- What those operations write, in order. -/
def opsDW : List (Ref sig .tc) := [main_v78]

set_option maxRecDepth 16384 in
/-- The first stretch of host operations writes only the listed buffers. -/
theorem opsA_writes : (opsA (F := F)).Forall fun op => op.writes ⊆ (opsAW.map (Proc.devRef (τ := τ) .tc)).toFinset :=
  StableHlo.forall_writes_sub_of_map (by rfl)

set_option maxRecDepth 16384 in
/-- The first stretch of host operations allocates nothing. -/
theorem opsA_fresh : ∀ op ∈ opsA (F := F), op.fresh = ∅ :=
  List.forall_iff_forall_mem.mp (StableHlo.forall_fresh_of_map (by rfl))

set_option maxRecDepth 16384 in
/-- The second stretch of host operations writes only the listed buffers. -/
theorem opsB_writes : (opsB (F := F)).Forall fun op => op.writes ⊆ (opsBW.map (Proc.devRef (τ := τ) .tc)).toFinset :=
  StableHlo.forall_writes_sub_of_map (by rfl)

set_option maxRecDepth 16384 in
/-- The second stretch of host operations allocates nothing. -/
theorem opsB_fresh : ∀ op ∈ opsB (F := F), op.fresh = ∅ :=
  List.forall_iff_forall_mem.mp (StableHlo.forall_fresh_of_map (by rfl))

set_option maxRecDepth 16384 in
/-- The third stretch of host operations writes only the listed buffers. -/
theorem opsC_writes : (opsC (F := F)).Forall fun op => op.writes ⊆ (opsCW.map (Proc.devRef (τ := τ) .tc)).toFinset :=
  StableHlo.forall_writes_sub_of_map (by rfl)

set_option maxRecDepth 16384 in
/-- The third stretch of host operations allocates nothing. -/
theorem opsC_fresh : ∀ op ∈ opsC (F := F), op.fresh = ∅ :=
  List.forall_iff_forall_mem.mp (StableHlo.forall_fresh_of_map (by rfl))

set_option maxRecDepth 16384 in
/-- The last stretch of host operations writes only the listed buffers. -/
theorem opsD_writes : (opsD (F := F)).Forall fun op => op.writes ⊆ (opsDW.map (Proc.devRef (τ := τ) .tc)).toFinset :=
  StableHlo.forall_writes_sub_of_map (by rfl)

set_option maxRecDepth 16384 in
/-- The last stretch of host operations allocates nothing. -/
theorem opsD_fresh : ∀ op ∈ opsD (F := F), op.fresh = ∅ :=
  List.forall_iff_forall_mem.mp (StableHlo.forall_fresh_of_map (by rfl))

/-- A line of operations builders made touches the TensorCore's unscoped buffers alone. -/
theorem sub_uc {ops : List (HloOp τ sig (Elt F))} (h : ops.Forall fun op => op.bufs ⊆ StableHlo.tcRefs τ sig) :
    ∀ op ∈ ops, op.bufs ⊆ Pipeline.ucRefs τ sig := fun op ho =>
  Pipeline.sub_ucRefs op (List.forall_iff_forall_mem.mp h op ho)

set_option maxRecDepth 16384 in
/-- The first stretch of host operations touches only the tensor core's buffers. -/
theorem opsA_sub : ∀ op ∈ opsA (F := F), op.bufs ⊆ Pipeline.ucRefs τ sig := by
  refine sub_uc ?_
  simp only [opsA, List.Forall, StableHlo.TRef.unary, StableHlo.TRef.binary, StableHlo.nullary_bufs_sub, StableHlo.unary_bufs_sub, StableHlo.binary_bufs_sub,
    StableHlo.ternary_bufs_sub, StableHlo.reshape_bufs_sub, StableHlo.nary_bufs_sub, and_self]

set_option maxRecDepth 16384 in
/-- The second stretch of host operations touches only the tensor core's buffers. -/
theorem opsB_sub : ∀ op ∈ opsB (F := F), op.bufs ⊆ Pipeline.ucRefs τ sig := by
  refine sub_uc ?_
  simp only [opsB, List.Forall, StableHlo.TRef.unary, StableHlo.TRef.binary, StableHlo.nullary_bufs_sub, StableHlo.unary_bufs_sub, StableHlo.binary_bufs_sub,
    StableHlo.ternary_bufs_sub, StableHlo.reshape_bufs_sub, StableHlo.nary_bufs_sub, and_self]

set_option maxRecDepth 16384 in
/-- The third stretch of host operations touches only the tensor core's buffers. -/
theorem opsC_sub : ∀ op ∈ opsC (F := F), op.bufs ⊆ Pipeline.ucRefs τ sig := by
  refine sub_uc ?_
  simp only [opsC, List.Forall, StableHlo.TRef.unary, StableHlo.TRef.binary, StableHlo.nullary_bufs_sub, StableHlo.unary_bufs_sub, StableHlo.binary_bufs_sub,
    StableHlo.ternary_bufs_sub, StableHlo.reshape_bufs_sub, StableHlo.nary_bufs_sub, and_self]

set_option maxRecDepth 16384 in
/-- The last stretch of host operations touches only the tensor core's buffers. -/
theorem opsD_sub : ∀ op ∈ opsD (F := F), op.bufs ⊆ Pipeline.ucRefs τ sig := by
  refine sub_uc ?_
  simp only [opsD, List.Forall, StableHlo.TRef.unary, StableHlo.TRef.binary, StableHlo.nullary_bufs_sub, StableHlo.unary_bufs_sub, StableHlo.binary_bufs_sub,
    StableHlo.ternary_bufs_sub, StableHlo.reshape_bufs_sub, StableHlo.nary_bufs_sub, and_self]

set_option maxRecDepth 16384 in
set_option maxHeartbeats 4000000 in
/-- The program's main function: the lines around the table's padding, the gather and the recurrence. -/
theorem main_eq (d : Dev nD) :
    main (F := F) d = (StableHlo.seq opsA >>= fun _ => Prog.lift (.customCall (SparseCore.inner (Pipeline.entry 0)) ()) >>= fun _ =>
      sc.run d 0 >>= fun _ => StableHlo.seq opsB >>= fun _ => StableHlo.seq opsC >>= fun _ =>
        Prog.lift (.customCall (SparseCore.inner (Pipeline.entry 1)) ()) >>= fun _ => StableHlo.seq opsD) := by
  chain_rfl

end Cert.KernelIdeal.Pf

end
-- ==== Proof.PadRegion.lean ====
/- The padding launch: each point writes its rows of the table, and zeros beside them; the region it makes of the program. -/
module

public import proofs.«01_k».proof.Proof.Base

@[expose] public section

noncomputable section

namespace Cert.KernelIdeal.Pf

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Facts₀ Facts
open Cert.KernelIdeal.Gen (facts₀ facts)
open VecWindow (window put)

variable {F : FTy → Type} [FloatOps F]

local notation "𝕄" => MT nD τ sig (HIx 1) (Elt F) ℕ UU ℕ

/-- Rows of a hundred words, each followed by twenty-eight zeros. -/
def padRows {n : ℕ} (x : Vec F ⟨2, ![n, 100]⟩ .f32) : Vec F ⟨2, ![n, 128]⟩ .f32 := fun j =>
  if h : (j 1).val < 100 then x (fun | 0 => j 0 | 1 => ⟨(j 1).val, h⟩) else (Scalar.ofBits .f32 0x00000000#32 : F .f32)

/-- A block of rows written beside a block of zeros is the rows padded. -/
theorem put_pad (o : Vec F S2000x128 .f32) (x : Vec F S2000x100 .f32) :
    put (put o ![0, 0] S2000x100.size x) ![0, 100] S2000x28.size (Gen.k0_pay1 (F := F)) = padRows (n := 2000) x := by
  funext j
  unfold put padRows
  have h0 : (j 0).val < 2000 := (j 0).isLt
  have h1 : (j 1).val < 128 := (j 1).isLt
  by_cases h : (j 1).val < 100
  · rw [dif_neg (fun hh => by have := (hh 1).1; simp at this; omega), dif_pos h, dif_pos (fun a => by
      fin_cases a
      · exact ⟨Nat.zero_le _, by simpa using h0⟩
      · exact ⟨Nat.zero_le _, by simpa using h⟩)]
    congr 1; funext a; fin_cases a <;> rfl
  · rw [dif_pos (fun a => by
      fin_cases a
      · exact ⟨Nat.zero_le _, by simpa using h0⟩
      · exact ⟨by simpa using h, by simpa using h1⟩), dif_neg h]
    rfl

section Body
variable {U : Type} [URA U]

/-- The body at a point: the rows with zeros beside them. -/
theorem pad_wp (c : Dev nD) (i : grid0.Coords) (M1 : Memref sig .tc .vmem S2000x100 .f32) (h1 : M1.IsWhole) (M2 : Memref sig .tc .vmem S2000x128 .f32) (h2 : M2.IsWhole)
    (X : Vec F S2000x100 .f32) (o : Vec F S2000x128 .f32) (E : Set ℕ) (Q : PUnit → sProp (MT nD τ sig (Option (Fin 1)) (Elt F) ℕ U ℕ)) :
    iprop(ow c M1 X ∗ ow c M2 o ∗ (iprop(ow c M1 X ∗ ow c M2 (padRows (n := 2000) X)) -∗ Q ⟨⟩))
      ⊢ wp frame (wpE (defs₀ (F := F)) Variants.none c none) E (cc0__pad_body i M1 h1 M2 h2) Q := by
  unfold ow
  simp only [Gen.cc0__pad_body_eq_skeleton]; unfold Gen.cc0__pad_body_skel
  iintro ⟨⟨%f1, %e1, H1⟩, ⟨%f2, %e2, H2⟩, Hk⟩
  sl_exec!
  sl_step
  have r1 := (View.readAt_full M1.view f1 inb_S2000x100_S2000x100_0_0).trans e1
  iapply Hk
  isplitl [H1]
  · iexists _; isplitr; swap; (· iexact H1); ipureintro; exact e1
  iexists _; isplitr; swap; (· iexact H2); ipureintro
  unfold pad_wp.sl.H2_2
  rw [View.read_writes_cons_put _ _ _ _ _ rfl, View.read_writes_cons_put _ _ _ _ _ rfl, r1]
  exact put_pad _ X

end Body

variable (O : Dev nD → CellTallies nD τ sig (HIx 1)) (lb : ℕ) (V : Vals F)

/-- The rows a point pads. -/
def rows0 (c : Dev nD) (t : Fin cfg0.N) : Vec F S2000x100 .f32 := ((cfg0.win 0).blk t).view.read (Elt F) (V c main_arg1)

/-- The proof data: the arrays at the values at entry; the rows left as fetched, the padded rows beside them. -/
def dat0 (c : Dev nD) : Dat τ (Elt F) (HIx 1) ℕ UU ℕ cfg0 c where
  A w := V c (Pipeline.arrRef spec0 w)
  after w t := match w with
    | ⟨0, _⟩ => rows0 V c t
    | ⟨1, _⟩ => padRows (n := 2000) (rows0 V c t)
  Φ _ := Pipeline.scopedRest (Ix := HIx 1) (Name := ℕ) (U := UU) (Lvl := ℕ) (Val := Elt F) spec0 c
  q _ := fullShare
  owed _ := O c
  recorded _ := recd (F := F) c lb

/-- The body finds its block of rows in the first window. -/
theorem in0_0 (c : Dev nD) (t : Fin cfg0.N) (d) : (dat0 O lb V c).before 0 t d = rows0 V c t :=
  (dat0 O lb V c).before_fetched 0 t (Gen.fetch0_0 t) d

/-- The body's obligation at every point. -/
theorem body0 (c : Dev nD) : BodyObligation (dat0 O lb V c) (defs₀ (F := F)) 𝒱₀ none Set.univ := fun t => by
  rw [Gen.bigSep_W0, Gen.bigSep_W0]
  dsimp only
  simp only [in0_0]
  rw [show (dat0 O lb V c).Φ t.succ = (dat0 O lb V c).Φ t.castSucc from rfl,
    show (dat0 O lb V c).owesAt none t.succ = (dat0 O lb V c).owesAt none t.castSucc from rfl]
  have e0 : ∀ X, (owns (c : Thread nD τ) ((cfg0.win 0).stage (cfg0.slots t 0)) fullShare X : sProp 𝕄) = ow c (win0_0.stage (cfg0.slots t 0)) X := fun X => owns_ow c _ (hstage0_0 ((cfg0.slots t 0).cast nbuf0_0)) X
  have e1 : ∀ X, (owns (c : Thread nD τ) ((cfg0.win 1).stage (cfg0.slots t 1)) fullShare X : sProp 𝕄) = ow c (win0_1.stage (cfg0.slots t 1)) X := fun X => owns_ow c _ (hstage0_1 ((cfg0.slots t 1).cast nbuf0_1)) X
  simp only [e0, e1]
  iintro ⟨HΦ, Howes, ⟨%d0, H0⟩, ⟨%d1, H1⟩⟩
  iapply (pad_wp (U := UU) c (grid0.coords t) (win0_0.stage (cfg0.slots t 0)) (hstage0_0 ((cfg0.slots t 0).cast nbuf0_0)) (win0_1.stage (cfg0.slots t 1)) (hstage0_1 ((cfg0.slots t 1).cast nbuf0_1))
    (rows0 V c t) ((dat0 O lb V c).before 1 t d1) Set.univ _)
  isplitl [H0]; · iexact H0
  isplitl [H1]; · iexact H1
  iintro ⟨H0, H1⟩
  isplitl [HΦ]; · iexact HΦ
  isplitl [Howes]; · iexact Howes
  isplitl [H0]; · iexact H0
  iexact H1

/-- Which block each window takes at a grid point. -/
theorem index0 : ∀ t : Fin cfg0.N, win0_0.index t 0 = t.val ∧ win0_0.index t 1 = 0 ∧ win0_1.index t 0 = t.val ∧ win0_1.index t 1 = 0 := by decide +kernel

/-- The table after the launch: the argument's rows padded. -/
theorem table0 (c : Dev nD) : (dat0 O lb V c).arrAt 1 cfg0.N = padRows (n := 100000) (V c main_arg1) := by
  refine (dat0 O lb V c).arrAt_eq_of_covers 1 (padRows (n := 100000) (V c main_arg1)) (by decide +kernel) fun t hf y => ?_
  blk_simp
  obtain ⟨h00, h01, h10, h11⟩ := index0 t
  have j0 : ((win0_1.blk t).view.emb y 0 : ℕ) = t.val * 2000 + (y 0).val := by blk_simp; rw [h10]
  have j1 : ((win0_1.blk t).view.emb y 1 : ℕ) = (y 1).val := by blk_simp; rw [h11]; simp
  have hd : (dat0 O lb V c).after 1 t y = padRows (n := 2000) (rows0 V c t) y := by dsimp only [dat0]
  rw [hd]
  unfold padRows
  by_cases h : (y 1).val < 100
  · rw [dif_pos h, dif_pos (by rw [j1]; exact h)]
    unfold rows0
    rw [View.read_apply]
    refine (cast_eq _ _).trans (congrArg (V c main_arg1) (funext fun a => Fin.ext ?_))
    fin_cases a
    · refine Eq.trans ?_ j0.symm
      blk_simp; rw [h00]
    · refine Eq.trans ?_ j1.symm
      blk_simp; rw [h01]; simp
  · rw [dif_neg h, dif_neg (by rw [j1]; exact h)]

/-- The proof data by pipeline: this launch's. -/
def pdats0 : (p : Fin 2) → (c : Dev nD) → Dat τ (Elt F) (HIx 1) ℕ UU ℕ (Pipeline.pin (pcfgs (F := F)) adm p) c
  | ⟨0, _⟩ => fun c => dat0 O lb V c
  | ⟨1, _⟩ => fun c => junkDat c

variable (hO : ∀ c g, O c g none = 0)
variable (V' : Vals F)

/-- The windows' arrays after the launch are the values it is left at. -/
theorem exit0 (hout : ∀ c, V' c main_v2 = padRows (n := 100000) (V c main_arg1)) (hne : ∀ c (b : Ref sig .tc), b ≠ main_v2 → V' c b = V c b) (c : Dev nD) :
    ∀ w, (dat0 O lb V c).arrAt w cfg0.N = V' c (Pipeline.arrRef spec0 w)
  | ⟨0, _⟩ => ((dat0 O lb V c).arrAt_in 0 rfl _).trans (hne c main_arg1 (by decide)).symm
  | ⟨1, _⟩ => (table0 O lb V c).trans (hout c).symm

set_option backward.isDefEq.respectTransparency.types false in
/-- The padding launch as a region of the program: from the values `V` to the same but the padded table's. -/
def reg0 (R : Dev nD → sProp 𝕄) (hout : ∀ c, V' c main_v2 = padRows (n := 100000) (V c main_arg1)) (hne : ∀ c (b : Ref sig .tc), b ≠ main_v2 → V' c b = V c b) :
    Pipeline.RegionSeg (pcfgs (F := F)) adm (pdats0 O lb V) none defs₀ 𝒱₀ (K (F := F)).L (K (F := F)).lev 0 where
  win := Gen.launch0.win.to₀
  block_pos := Gen.launch0.block_pos
  stage_whole := Gen.launch0.stage_whole
  K := PEmpty
  osem k := k.elim
  ho := Pipeline.OwnSemFacts.none _
  hbody c := (body0 O lb V c).loose
  hwaits c := Pipeline.cellsWaits_intro (Pipeline.pin (pcfgs (F := F)) adm) (pdats0 O lb V) none 0 c fun w s t =>
    (K (F := F)).mayWait_none _ (hO c) _
  pre c := between O lb R V c
  post c := between O lb R V' c
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats0 O lb V) Gen.launch0.win Gen.launch0.arr_whole c
      ((pdats0 O lb V 0 c).share_full fun _ => rfl) (V c) fun _ => rfl
    unfold between
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats0 O lb V 0 c).Φ 0 = Pipeline.scopedRest spec0 c from rfl]
    iintro ⟨-, -, Hr⟩; iexact Hr
  hout c := by
    rw [Pipeline.ownSems0_none, show (pdats0 O lb V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) Gen.launch0.win Gen.launch0.arr_whole c
      (pdats0 O lb V) ((pdats0 O lb V 0 c).share_full fun _ => rfl) (V c) (V' c) ((pdats0 O lb V 0 c).arrAt · cfg0.N)
      (exit0 O lb V V' hout hne c)
      (fun b hb => hne c b fun h => hb (h ▸ Finset.mem_image.mpr ⟨1, Finset.mem_univ _, rfl⟩))
    iintro ⟨Ha, HO, -, Hrest, HR⟩
    imodintro
    unfold between
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.KernelIdeal.Pf

end
-- ==== Proof.LstmStep.lean ====
/- The recurrence at one grid point: the values its state and the scores take, and the run of the body to them. -/
module

public import proofs.«01_k».proof.Proof.Base

@[expose] public section

noncomputable section

namespace Cert.KernelIdeal.Pf

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts
open Cert.KernelIdeal.Gen (facts₀ facts k2_pay1 k2_pay2 k2_pay3 k2_pay4 k2_pay5 k2_pay7 k2_pay8 k2_pay9 k2_pay10 k2_pay12 k2_pay14 k2_pay16 k2_pay17)
open VecWindow (window put)

variable {F : FTy → Type} [FloatOps F]

/-- The recurrence's effects. -/
abbrev LE (F : FTy → Type) [FloatOps F] := TpuEff nD τ sig (Elt F) Λ₀ .tc

/-! ## The program in pieces -/

/-- Whether a grid point is the first. -/
def first (i : grid2.Coords) : BitVec 1 := Scalar.cmpi .ne (Scalar.extui (Scalar.cmpi .eq (BitVec.ofNat 32 (i 0).val) 0#32) : BitVec 32) 0#32

/-- The scores and the state cleared. -/
def clear (M7 : Memref sig .tc .vmem S128x512x8 .f32) (M8 : Memref sig .tc .vmem S512x384 .bf16) (h8 : M8.IsWhole) (M9 : Memref sig .tc .vmem S512x128 .f32) :
    Prog (LE F) PUnit := do
  let v72 : Vec F S128x512x8 .f32 ← Prog.lift (.load M7 (Rect.unit (s := S128x512x8) ![0, 0, 0] S128x512x8.size inb_S128x512x8_S128x512x8_0_0_0).toLoadRect (View.loadsAt_vmem h_S128x512x8))
  Prog.lift (.store M7 (Rect.unit (s := S128x512x8) ![0, 0, 0] S128x512x8.size inb_S128x512x8_S128x512x8_0_0_0) (k2_pay1 (F := F)) Finset.univ (View.stores_vmem_bits_univ h_S128x512x8 rfl) (.inl rfl))
  let v74 : Vec F S512x384 .bf16 ← Prog.lift (.load M8 (Rect.unit (s := S512x384) ![0, 0] S512x384.size inb_S512x384_S512x384_0_0).toLoadRect (View.loadsAt_vmem h_S512x384))
  Prog.lift (.store M8 (Rect.unit (s := S512x384) ![0, 0] S512x384.size inb_S512x384_S512x384_0_0) (k2_pay2 (F := F)) Finset.univ (View.stores_vmem h_S512x384 (h8.storeExact_slice rfl _ packedbf16_S512x384_S512x384_0_0) (fun _ => rfl)) (.inl rfl))
  let v78 : Vec F S512x128 .f32 ← Prog.lift (.load M9 (Rect.unit (s := S512x128) ![0, 0] S512x128.size inb_S512x128_S512x128_0_0).toLoadRect (View.loadsAt_vmem h_S512x128))
  Prog.lift (.store M9 (Rect.unit (s := S512x128) ![0, 0] S512x128.size inb_S512x128_S512x128_0_0) (k2_pay3 (F := F)) Finset.univ (View.stores_vmem_bits_univ h_S512x128 rfl) (.inl rfl))
  pure ⟨⟩

/-- The rows of both directions' words put beside the hidden state, and the four gates. -/
def fill {α : Type} (M1 M2 : Memref sig .tc .vmem S1x512x128 .f32) (M3 : Memref sig .tc .vmem S384x512 .bf16) (M4 : Memref sig .tc .vmem S1x512 .f32)
    (M8 : Memref sig .tc .vmem S512x384 .bf16) (h8 : M8.IsWhole) (M9 : Memref sig .tc .vmem S512x128 .f32)
    (q : FVec F S512x128 .f32 → FVec F S512x128 .f32 → FVec F S512x128 .f32 → FVec F S512x128 .f32 → Vec F S512x128 .f32 → Prog (LE F) α) : Prog (LE F) α := do
  let v3 : Vec F S1x512x128 .f32 ← Prog.lift (.load M1 (Rect.unit (s := S1x512x128) ![0, 0, 0] S1x512x128.size inb_S1x512x128_S1x512x128_0_0_0).toLoadRect (View.loadsAt_vmem h_S1x512x128))
  let v6 : Vec F S512x128 .bf16 ← Prog.lift (.load M8 (Rect.unit (s := S512x384) ![0, 0] S512x128.size inb_S512x384_S512x128_0_0).toLoadRect (View.loadsAt_vmem h_S512x128))
  Prog.lift (.store M8 (Rect.unit (s := S512x384) ![0, 0] S512x128.size inb_S512x384_S512x128_0_0) (k2_pay4 v3) Finset.univ (View.stores_vmem h_S512x128 (h8.storeExact_slice rfl _ packedbf16_S512x384_S512x128_0_0) (fun _ => rfl)) (.inl rfl))
  let v9 : Vec F S1x512x128 .f32 ← Prog.lift (.load M2 (Rect.unit (s := S1x512x128) ![0, 0, 0] S1x512x128.size inb_S1x512x128_S1x512x128_0_0_0).toLoadRect (View.loadsAt_vmem h_S1x512x128))
  let v12 : Vec F S512x128 .bf16 ← Prog.lift (.load M8 (Rect.unit (s := S512x384) ![0, 128] S512x128.size inb_S512x384_S512x128_0_128).toLoadRect (View.loadsAt_vmem h_S512x128))
  Prog.lift (.store M8 (Rect.unit (s := S512x384) ![0, 128] S512x128.size inb_S512x384_S512x128_0_128) (k2_pay5 v9) Finset.univ (View.stores_vmem h_S512x128 (h8.storeExact_slice rfl _ packedbf16_S512x384_S512x128_0_128) (fun _ => rfl)) (.inl rfl))
  let v15 : Vec F S512x384 .bf16 ← Prog.lift (.load M8 (Rect.unit (s := S512x384) ![0, 0] S512x384.size inb_S512x384_S512x384_0_0).toLoadRect (View.loadsAt_vmem h_S512x384))
  let v16 : Vec F S384x512 .bf16 ← Prog.lift (.load M3 (Rect.unit (s := S384x512) ![0, 0] S384x512.size inb_S384x512_S384x512_0_0).toLoadRect (View.loadsAt_vmem h_S384x512))
  let v19 : Vec F S1x512 .f32 ← Prog.lift (.load M4 (Rect.unit (s := S1x512) ![0, 0] S1x512.size inb_S1x512_S1x512_0_0).toLoadRect (View.loadsAt_vmem h_S1x512))
  let v32 : Vec F S512x128 .f32 ← Prog.lift (.load M9 (Rect.unit (s := S512x128) ![0, 0] S512x128.size inb_S512x128_S512x128_0_0).toLoadRect (View.loadsAt_vmem h_S512x128))
  q (k2_pay7 v15 v16 v19) (k2_pay8 v15 v16 v19) (k2_pay9 v15 v16 v19) (k2_pay10 v15 v16 v19) v32

/-- The state kept, and the forward half of its scores added. -/
def keep {α : Type} (i : grid2.Coords) (M5 : Memref sig .tc .vmem S128x16 .f32) (M6 : Memref sig .tc .vmem S1x8 .f32) (M7 : Memref sig .tc .vmem S128x512x8 .f32)
    (M8 : Memref sig .tc .vmem S512x384 .bf16) (h8 : M8.IsWhole) (M9 : Memref sig .tc .vmem S512x128 .f32)
    (v24 v25 v30 v31 : FVec F S512x128 .f32) (v32 : Vec F S512x128 .f32) (q : Vec F S128x16 .f32 → Prog (LE F) α) : Prog (LE F) α := do
  let v36 : Vec F S512x128 .f32 ← Prog.lift (.load M9 (Rect.unit (s := S512x128) ![0, 0] S512x128.size inb_S512x128_S512x128_0_0).toLoadRect (View.loadsAt_vmem h_S512x128))
  Prog.lift (.store M9 (Rect.unit (s := S512x128) ![0, 0] S512x128.size inb_S512x128_S512x128_0_0) (k2_pay12 v24 v25 v30 v32) Finset.univ (View.stores_vmem_bits_univ h_S512x128 rfl) (.inl rfl))
  let v42 : Vec F S512x128 .bf16 ← Prog.lift (.load M8 (Rect.unit (s := S512x384) ![0, 256] S512x128.size inb_S512x384_S512x128_0_256).toLoadRect (View.loadsAt_vmem h_S512x128))
  Prog.lift (.store M8 (Rect.unit (s := S512x384) ![0, 256] S512x128.size inb_S512x384_S512x128_0_256) (k2_pay14 v24 v25 v30 v31 v32) Finset.univ (View.stores_vmem h_S512x128 (h8.storeExact_slice rfl _ packedbf16_S512x384_S512x128_0_256) (fun _ => rfl)) (.inl rfl))
  let v45 : Vec F S128x16 .f32 ← Prog.lift (.load M5 (Rect.unit (s := S128x16) ![0, 0] S128x16.size inb_S128x16_S128x16_0_0).toLoadRect (View.loadsAt_vmem h_S128x16))
  let v49 : Vec F S1x512x8 .f32 ← Prog.lift (.load M7 (Rect.unit (s := S128x512x8) (k2_off1 i) S1x512x8.size (k2_off1_inb i)).toLoadRect (View.loadsAt_vmem h_S1x512x8))
  let v53 : Vec F S1x8 .f32 ← Prog.lift (.load M6 (Rect.unit (s := S1x8) ![0, 0] S1x8.size inb_S1x8_S1x8_0_0).toLoadRect (View.loadsAt_vmem h_S1x8))
  let v58 : Vec F S1x512x8 .f32 ← Prog.lift (.load M7 (Rect.unit (s := S128x512x8) (k2_off1 i) S1x512x8.size (k2_off1_inb i)).toLoadRect (View.loadsAt_vmem h_S1x512x8))
  Prog.lift (.store M7 (Rect.unit (s := S128x512x8) (k2_off1 i) S1x512x8.size (k2_off1_inb i)) (k2_pay16 v24 v25 v30 v31 v32 v45 v49 v53) Finset.univ (View.stores_vmem_bits_univ h_S1x512x8 rfl) (.inl rfl))
  q v45

/-- The backward half of the scores added. -/
def addB (i : grid2.Coords) (M7 : Memref sig .tc .vmem S128x512x8 .f32)
    (v24 v25 v30 v31 : FVec F S512x128 .f32) (v32 : Vec F S512x128 .f32) (v45 : Vec F S128x16 .f32) : Prog (LE F) PUnit := do
  let v63 : Vec F S1x512x8 .f32 ← Prog.lift (.load M7 (Rect.unit (s := S128x512x8) (k2_off2 i) S1x512x8.size (k2_off2_inb i)).toLoadRect (View.loadsAt_vmem h_S1x512x8))
  let v68 : Vec F S1x512x8 .f32 ← Prog.lift (.load M7 (Rect.unit (s := S128x512x8) (k2_off2 i) S1x512x8.size (k2_off2_inb i)).toLoadRect (View.loadsAt_vmem h_S1x512x8))
  Prog.lift (.store M7 (Rect.unit (s := S128x512x8) (k2_off2 i) S1x512x8.size (k2_off2_inb i)) (k2_pay17 v24 v25 v30 v31 v32 v45 v63) Finset.univ (View.stores_vmem_bits_univ h_S1x512x8 rfl) (.inl rfl))
  pure ⟨⟩

section
variable (i : grid2.Coords) (M1 M2 : Memref sig .tc .vmem S1x512x128 .f32) (h1 : M1.IsWhole) (h2 : M2.IsWhole)
  (M3 : Memref sig .tc .vmem S384x512 .bf16) (h3 : M3.IsWhole) (M4 : Memref sig .tc .vmem S1x512 .f32) (h4 : M4.IsWhole)
  (M5 : Memref sig .tc .vmem S128x16 .f32) (h5 : M5.IsWhole) (M6 : Memref sig .tc .vmem S1x8 .f32) (h6 : M6.IsWhole)
  (M7 : Memref sig .tc .vmem S128x512x8 .f32) (h7 : M7.IsWhole) (M8 : Memref sig .tc .vmem S512x384 .bf16) (h8 : M8.IsWhole)
  (M9 : Memref sig .tc .vmem S512x128 .f32) (h9 : M9.IsWhole)

/-- A grid point but for the clearing. -/
def step : Prog (LE F) PUnit :=
  fill M1 M2 M3 M4 M8 h8 M9 fun a b c d e => keep i M5 M6 M7 M8 h8 M9 a b c d e fun w => addB i M7 a b c d e w

/-- The body at a grid point, in its pieces. -/
def body : Prog (LE F) PUnit :=
  if _h : first i = 1#1 then clear M7 M8 h8 M9 >>= fun _ => step i M1 M2 M3 M4 M5 M6 M7 M8 h8 M9
  else step i M1 M2 M3 M4 M5 M6 M7 M8 h8 M9

/-- The printed LSTM body is the body as written out. -/
theorem cc2_eq_body : cc2__lstm_body (F := F) i M1 h1 M2 h2 M3 h3 M4 h4 M5 h5 M6 h6 M7 h7 M8 h8 M9 h9
    = body i M1 M2 M3 M4 M5 M6 M7 M8 h8 M9 := by
  unfold cc2__lstm_body k2_part1 body
  by_cases h : first i = 1#1
  · have h' : Scalar.cmpi .ne (Scalar.extui (Scalar.cmpi .eq (BitVec.ofNat 32 (i 0).val) 0#32) : BitVec 32) 0#32 = 1#1 := h
    dsimp only []
    rw [dif_pos h', dif_pos h]
    refine Eq.trans (b := _) (?_ : _ = _) rfl
    chain_rfl
  · have h' : ¬ Scalar.cmpi .ne (Scalar.extui (Scalar.cmpi .eq (BitVec.ofNat 32 (i 0).val) 0#32) : BitVec 32) 0#32 = 1#1 := h
    dsimp only []
    rw [dif_neg h', dif_neg h]
    refine Eq.trans (b := _) (?_ : _ = _) rfl
    chain_rfl

end

end Cert.KernelIdeal.Pf

end
-- ==== Proof.LstmBody.lean ====
/- The values of the recurrence, step by step, and the run of the body at a grid point to them. -/
module

public import proofs.«01_k».proof.Proof.LstmStep
public import Idealize.ShloMosaic.Lib.Pipeline.Value

@[expose] public section

noncomputable section

namespace Cert.KernelIdeal.Pf

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts
open Cert.KernelIdeal.Gen (facts₀ facts k2_pay1 k2_pay2 k2_pay3 k2_pay4 k2_pay5 k2_pay7 k2_pay8 k2_pay9 k2_pay10 k2_pay12 k2_pay14 k2_pay16 k2_pay17)
open VecWindow (window put)

variable {F : FTy → Type} [FloatOps F]

/-! ## The values -/

/-- What the recurrence reads: the embedded words (by time, then batch row), the packed weights, the bias, the output
    weights and the output bias. -/
structure Ins (F : FTy → Type) where
  x : Vec F S128x512x128 .f32
  w : Vec F S384x512 .bf16
  b : Vec F S1x512 .f32
  wo : Vec F S128x16 .f32
  bo : Vec F S1x8 .f32

/-- The recurrence's state: the rows the gates are computed from (the words of both directions, then the rounded
    hidden state) and the cell state. -/
abbrev St (F : FTy → Type) : Type := Vec F S512x384 .bf16 × Vec F S512x128 .f32

/-- A plane of words lies within the stack. -/
theorem inb_x (t : Fin 128) : ∀ a, (![t.val, 0, 0] : Fin 3 → ℕ) a + S1x512x128.size a ≤ S128x512x128.size a := by
  intro a; fin_cases a
  · show t.val + 1 ≤ 128; omega
  · show 0 + 512 ≤ 512; omega
  · show 0 + 128 ≤ 128; omega

/-- A plane of scores lies within the stack. -/
theorem inb_o (t : Fin 128) : ∀ a, (![t.val, 0, 0] : Fin 3 → ℕ) a + S1x512x8.size a ≤ S128x512x8.size a := by
  intro a; fin_cases a
  · show t.val + 1 ≤ 128; omega
  · show 0 + 512 ≤ 512; omega
  · show 0 + 8 ≤ 8; omega

/-- The embedded words of time `t`. -/
def xAt (x : Vec F S128x512x128 .f32) (t : Fin 128) : Vec F S1x512x128 .f32 := window x ![t.val, 0, 0] S1x512x128.size (inb_x t)

/-- The scores of time `t`. -/
def oAt (o : Vec F S128x512x8 .f32) (t : Fin 128) : Vec F S1x512x8 .f32 := window o ![t.val, 0, 0] S1x512x8.size (inb_o t)

/-- The rows with the words of both directions put into them. -/
def rowsA (a : Vec F S512x384 .bf16) (xf xb : Vec F S1x512x128 .f32) : Vec F S512x384 .bf16 :=
  put (put a ![0, 0] S512x128.size (k2_pay4 xf)) ![0, 128] S512x128.size (k2_pay5 xb)

/-- The rows step `t` computes its gates from. -/
def rowsV (I : Ins F) (s : St F) (t : Fin 128) : Vec F S512x384 .bf16 := rowsA s.1 (xAt I.x t) (xAt I.x t.rev)

/-- The input gate of step `t`. -/
def iV (I : Ins F) (s : St F) (t : Fin 128) : FVec F S512x128 .f32 := k2_pay7 (rowsV I s t) I.w I.b
/-- The forget gate. -/
def fV (I : Ins F) (s : St F) (t : Fin 128) : FVec F S512x128 .f32 := k2_pay8 (rowsV I s t) I.w I.b
/-- The cell candidate. -/
def gV (I : Ins F) (s : St F) (t : Fin 128) : FVec F S512x128 .f32 := k2_pay9 (rowsV I s t) I.w I.b
/-- The output gate. -/
def oV (I : Ins F) (s : St F) (t : Fin 128) : FVec F S512x128 .f32 := k2_pay10 (rowsV I s t) I.w I.b

/-- The state after step `t`. -/
def nextV (I : Ins F) (s : St F) (t : Fin 128) : St F :=
  (put (rowsV I s t) ![0, 256] S512x128.size (k2_pay14 (iV I s t) (fV I s t) (gV I s t) (oV I s t) s.2),
    k2_pay12 (iV I s t) (fV I s t) (gV I s t) s.2)

/-- The scores after the forward half of step `t`'s contribution. -/
def outF (I : Ins F) (s : St F) (o : Vec F S128x512x8 .f32) (t : Fin 128) : Vec F S128x512x8 .f32 :=
  put o ![t.val, 0, 0] S1x512x8.size (k2_pay16 (iV I s t) (fV I s t) (gV I s t) (oV I s t) s.2 I.wo (oAt o t) I.bo)

/-- The scores after the backward half. -/
def outB (I : Ins F) (s : St F) (o : Vec F S128x512x8 .f32) (t : Fin 128) : Vec F S128x512x8 .f32 :=
  put o ![t.rev.val, 0, 0] S1x512x8.size (k2_pay17 (iV I s t) (fV I s t) (gV I s t) (oV I s t) s.2 I.wo (oAt o t.rev))

/-- The scores after step `t`. -/
def outV (I : Ins F) (s : St F) (o : Vec F S128x512x8 .f32) (t : Fin 128) : Vec F S128x512x8 .f32 := outB I s (outF I s o t) t

/-- The state before the first step. -/
def st0 : St F := (k2_pay2, k2_pay3)

/-- The scores before the first step. -/
def out0 : Vec F S128x512x8 .f32 := k2_pay1

/-- The state after the first `n` steps. -/
def stV (I : Ins F) : ℕ → St F
  | 0 => st0
  | n + 1 => if h : n < 128 then nextV I (stV I n) ⟨n, h⟩ else stV I n

/-- The scores after the first `n` steps. -/
def ouV (I : Ins F) : ℕ → Vec F S128x512x8 .f32
  | 0 => out0
  | n + 1 => if h : n < 128 then outV I (stV I n) (ouV I n) ⟨n, h⟩ else ouV I n

/-- The time a grid point's step runs at. -/
def timeOf (i : grid2.Coords) : Fin 128 := ⟨(i 0).val, (i 0).isLt⟩

/-- The step at a grid point moves the states on by one. -/
theorem stV_time (I : Ins F) (i : grid2.Coords) : nextV I (stV I (i 0).val) (timeOf i) = stV I ((i 0).val + 1) := by
  rw [stV, dif_pos (show (i 0).val < 128 from (timeOf i).isLt)]; rfl

/-- The step at a grid point moves the scores on by one. -/
theorem ouV_time (I : Ins F) (i : grid2.Coords) : outV I (stV I (i 0).val) (ouV I (i 0).val) (timeOf i) = ouV I ((i 0).val + 1) := by
  rw [ouV, dif_pos (show (i 0).val < 128 from (timeOf i).isLt)]; rfl

/-- The plane of scores that a grid point's first update takes. -/
theorem off1_eq (i : grid2.Coords) : k2_off1 i = ![(timeOf i).val, 0, 0] := Gen.k2_off1_eq i
/-- The plane of scores that a grid point's second update takes: the mirrored one. -/
theorem off2_eq (i : grid2.Coords) : k2_off2 i = ![(timeOf i).rev.val, 0, 0] := by
  rw [show (timeOf i).rev.val = 127 - (i 0).val by show 128 - ((i 0).val + 1) = _; omega]; exact Gen.k2_off2_eq i

/-! ## The run -/

variable {U : Type} [URA U]
local notation "𝕄" => MT nD τ sig (Option (Fin 1)) (Elt F) ℕ U ℕ

section
variable (c : Dev nD) (i : grid2.Coords) (M1 M2 : Memref sig .tc .vmem S1x512x128 .f32) (h1 : M1.IsWhole) (h2 : M2.IsWhole)
  (M3 : Memref sig .tc .vmem S384x512 .bf16) (h3 : M3.IsWhole) (M4 : Memref sig .tc .vmem S1x512 .f32) (h4 : M4.IsWhole)
  (M5 : Memref sig .tc .vmem S128x16 .f32) (h5 : M5.IsWhole) (M6 : Memref sig .tc .vmem S1x8 .f32) (h6 : M6.IsWhole)
  (M7 : Memref sig .tc .vmem S128x512x8 .f32) (h7 : M7.IsWhole) (M8 : Memref sig .tc .vmem S512x384 .bf16) (h8 : M8.IsWhole)
  (M9 : Memref sig .tc .vmem S512x128 .f32) (h9 : M9.IsWhole)

include h7 h8 h9 in
/-- The scores and the state cleared. -/
theorem clear_wp (o : Vec F S128x512x8 .f32) (s : St F) (E : Set ℕ) (Q : PUnit → sProp 𝕄) :
    iprop(ow c M7 o ∗ ow c M8 s.1 ∗ ow c M9 s.2 ∗ (iprop(ow c M7 out0 ∗ ow c M8 st0.1 ∗ ow c M9 st0.2) -∗ Q ⟨⟩))
      ⊢ wp frame (wpE (defs₀ (F := F)) Variants.none c none) E (clear M7 M8 h8 M9) Q := by
  unfold ow
  iintro ⟨⟨%f7, %e7, H7⟩, ⟨%f8, %e8, H8⟩, ⟨%f9, %e9, H9⟩, Hk⟩
  unfold clear
  sl_exec!
  sl_step
  iapply Hk
  isplitl [H7]
  · iexists _; isplitr; swap; (· iexact H7); ipureintro
    unfold clear_wp.sl.H7_1
    exact (View.read_writes_full M7.view _ _ _ _)
  isplitl [H8]
  · iexists _; isplitr; swap; (· iexact H8); ipureintro
    unfold clear_wp.sl.H8_1
    exact (View.read_writes_full M8.view _ _ _ _)
  · iexists _; isplitr; swap; (· iexact H9); ipureintro
    unfold clear_wp.sl.H9_1
    exact (View.read_writes_full M9.view _ _ _ _)

include h1 h2 h3 h4 h8 h9 in
/-- The words put into the rows, and the gates computed. -/
theorem fill_wp {α : Type} (xf xb : Vec F S1x512x128 .f32) (w : Vec F S384x512 .bf16) (b : Vec F S1x512 .f32) (s : St F)
    (q : FVec F S512x128 .f32 → FVec F S512x128 .f32 → FVec F S512x128 .f32 → FVec F S512x128 .f32 → Vec F S512x128 .f32 → Prog (LE F) α)
    (E : Set ℕ) (Q : α → sProp 𝕄) :
    iprop(ow c M1 xf ∗ ow c M2 xb ∗ ow c M3 w ∗ ow c M4 b ∗ ow c M8 s.1 ∗ ow c M9 s.2
        ∗ (iprop(ow c M1 xf ∗ ow c M2 xb ∗ ow c M3 w ∗ ow c M4 b ∗ ow c M8 (rowsA s.1 xf xb) ∗ ow c M9 s.2)
            -∗ wp frame (wpE (defs₀ (F := F)) Variants.none c none) E
              (q (k2_pay7 (rowsA s.1 xf xb) w b) (k2_pay8 (rowsA s.1 xf xb) w b) (k2_pay9 (rowsA s.1 xf xb) w b) (k2_pay10 (rowsA s.1 xf xb) w b) s.2) Q))
      ⊢ wp frame (wpE (defs₀ (F := F)) Variants.none c none) E (fill M1 M2 M3 M4 M8 h8 M9 q) Q := by
  unfold ow
  iintro ⟨⟨%f1, %e1, H1⟩, ⟨%f2, %e2, H2⟩, ⟨%f3, %e3, H3⟩, ⟨%f4, %e4, H4⟩, ⟨%f8, %e8, H8⟩, ⟨%f9, %e9, H9⟩, Hk⟩
  unfold fill
  sl_exec!
  have r1 := (View.readAt_full M1.view f1 inb_S1x512x128_S1x512x128_0_0_0).trans e1
  have r2 := (View.readAt_full M2.view f2 inb_S1x512x128_S1x512x128_0_0_0).trans e2
  have r3 := (View.readAt_full M3.view f3 inb_S384x512_S384x512_0_0).trans e3
  have r4 := (View.readAt_full M4.view f4 inb_S1x512_S1x512_0_0).trans e4
  have r9 := (View.readAt_full M9.view f9 inb_S512x128_S512x128_0_0).trans e9
  rw [View.readAt_full M8.view _ inb_S512x384_S512x384_0_0]
  generalize hL : M8.view.writes (Elt F) f8 _ = g
  have r8 : M8.view.read (Elt F) g = rowsA s.1 xf xb := by
    rw [← hL]
    refine (View.read_writes_cons_put _ _ _ _ _ rfl).trans ?_
    refine (congrArg (fun z => put z _ _ _) ((View.read_writes_cons_put _ _ _ _ _ rfl).trans (congrArg (fun z => put z _ _ _) ((congrArg _ (View.writes_nil _ _)).trans e8)))).trans ?_
    unfold rowsA
    rw [← r1, ← r2]
  rw [r8, r3, r4, r9]
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H8]; · iexists _; isplitr; swap; (· iexact H8); ipureintro; exact r8
  iexists _; isplitr; swap; (· iexact H9); ipureintro; exact e9

include h5 h6 h7 h8 h9 in
/-- The state kept, and the forward half of the scores added. -/
theorem keep_wp {α : Type} (wo : Vec F S128x16 .f32) (bo : Vec F S1x8 .f32) (o : Vec F S128x512x8 .f32) (a : Vec F S512x384 .bf16) (c0 : Vec F S512x128 .f32)
    (gi gf gg go : FVec F S512x128 .f32) (cp : Vec F S512x128 .f32) (q : Vec F S128x16 .f32 → Prog (LE F) α) (E : Set ℕ) (Q : α → sProp 𝕄) :
    iprop(ow c M5 wo ∗ ow c M6 bo ∗ ow c M7 o ∗ ow c M8 a ∗ ow c M9 c0
        ∗ (iprop(ow c M5 wo ∗ ow c M6 bo
              ∗ ow c M7 (put o ![(timeOf i).val, 0, 0] S1x512x8.size (k2_pay16 gi gf gg go cp wo (oAt o (timeOf i)) bo))
              ∗ ow c M8 (put a ![0, 256] S512x128.size (k2_pay14 gi gf gg go cp)) ∗ ow c M9 (k2_pay12 gi gf gg cp))
            -∗ wp frame (wpE (defs₀ (F := F)) Variants.none c none) E (q wo) Q))
      ⊢ wp frame (wpE (defs₀ (F := F)) Variants.none c none) E (keep i M5 M6 M7 M8 h8 M9 gi gf gg go cp q) Q := by
  unfold ow
  iintro ⟨⟨%f5, %e5, H5⟩, ⟨%f6, %e6, H6⟩, ⟨%f7, %e7, H7⟩, ⟨%f8, %e8, H8⟩, ⟨%f9, %e9, H9⟩, Hk⟩
  unfold keep
  sl_exec!
  have r5 := (View.readAt_full M5.view f5 inb_S128x16_S128x16_0_0).trans e5
  have r6 := (View.readAt_full M6.view f6 inb_S1x8_S1x8_0_0).trans e6
  have r7 : M7.view.readAt (Elt F) (Rect.unit (s := S128x512x8) (k2_off1 i) S1x512x8.size (k2_off1_inb i)).toLoadRect f7
      = oAt o (timeOf i) := (View.readAt_unit M7.view f7 _ (off1_eq i) (inb_o _)).trans (by rw [e7]; rfl)
  rw [r5, r6, r7]
  iapply Hk
  isplitl [H5]; · iexists _; isplitr; swap; (· iexact H5); ipureintro; exact e5
  isplitl [H6]; · iexists _; isplitr; swap; (· iexact H6); ipureintro; exact e6
  isplitl [H7]
  · iexists _; isplitr; swap; (· iexact H7); ipureintro
    rw [View.read_writes_cons_put _ _ _ _ _ (off1_eq i), View.writes_nil, e7]
  isplitl [H8]
  · iexists _; isplitr; swap; (· iexact H8); ipureintro
    rw [View.read_writes_cons_put _ _ _ _ _ rfl, View.writes_nil, e8]
  · iexists _; isplitr; swap; (· iexact H9); ipureintro
    exact (View.read_writes_full M9.view _ _ _ _)

include h7 in
/-- The backward half of the scores added. -/
theorem addB_wp (o : Vec F S128x512x8 .f32) (gi gf gg go : FVec F S512x128 .f32) (cp : Vec F S512x128 .f32) (wo : Vec F S128x16 .f32)
    (E : Set ℕ) (Q : PUnit → sProp 𝕄) :
    iprop(ow c M7 o ∗ (ow c M7 (put o ![(timeOf i).rev.val, 0, 0] S1x512x8.size (k2_pay17 gi gf gg go cp wo (oAt o (timeOf i).rev))) -∗ Q ⟨⟩))
      ⊢ wp frame (wpE (defs₀ (F := F)) Variants.none c none) E (addB i M7 gi gf gg go cp wo) Q := by
  unfold ow
  iintro ⟨⟨%f7, %e7, H7⟩, Hk⟩
  unfold addB
  sl_exec!
  sl_step
  have r7 : M7.view.readAt (Elt F) (Rect.unit (s := S128x512x8) (k2_off2 i) S1x512x8.size (k2_off2_inb i)).toLoadRect f7
      = oAt o (timeOf i).rev := (View.readAt_unit M7.view f7 _ (off2_eq i) (inb_o _)).trans (by rw [e7]; rfl)
  rw [r7]
  iapply Hk
  iexists _; isplitr; swap; (· iexact H7); ipureintro
  rw [View.read_writes_cons_put _ _ _ _ _ (off2_eq i), View.writes_nil, e7]

/-- The inputs' buffers at step `t`, at the values `I`. -/
def insAt (I : Ins F) (t : Fin 128) : sProp 𝕄 :=
  iprop(ow c M1 (xAt I.x t) ∗ ow c M2 (xAt I.x t.rev) ∗ ow c M3 I.w ∗ ow c M4 I.b ∗ ow c M5 I.wo ∗ ow c M6 I.bo)

include h1 h2 h3 h4 h5 h6 h7 h8 h9 in
/-- A step from the values before it to the values after it. -/
theorem step_wp (I : Ins F) (o : Vec F S128x512x8 .f32) (s : St F) (E : Set ℕ) (Q : PUnit → sProp 𝕄) :
    iprop(insAt c M1 M2 M3 M4 M5 M6 I (timeOf i) ∗ ow c M7 o ∗ ow c M8 s.1 ∗ ow c M9 s.2
        ∗ (iprop(insAt c M1 M2 M3 M4 M5 M6 I (timeOf i) ∗ ow c M7 (outV I s o (timeOf i)) ∗ ow c M8 (nextV I s (timeOf i)).1
            ∗ ow c M9 (nextV I s (timeOf i)).2) -∗ Q ⟨⟩))
      ⊢ wp frame (wpE (defs₀ (F := F)) Variants.none c none) E (step i M1 M2 M3 M4 M5 M6 M7 M8 h8 M9) Q := by
  unfold insAt step
  iintro ⟨⟨H1, H2, H3, H4, H5, H6⟩, H7, H8, H9, Hk⟩
  iapply (fill_wp c M1 M2 h1 h2 M3 h3 M4 h4 M8 h8 M9 h9 (xAt I.x (timeOf i)) (xAt I.x (timeOf i).rev) I.w I.b s _ E Q)
  isplitl [H1]; · iexact H1
  isplitl [H2]; · iexact H2
  isplitl [H3]; · iexact H3
  isplitl [H4]; · iexact H4
  isplitl [H8]; · iexact H8
  isplitl [H9]; · iexact H9
  iintro ⟨H1, H2, H3, H4, H8, H9⟩
  iapply (keep_wp c i M5 h5 M6 h6 M7 h7 M8 h8 M9 h9 I.wo I.bo o _ s.2 _ _ _ _ s.2 _ E Q)
  isplitl [H5]; · iexact H5
  isplitl [H6]; · iexact H6
  isplitl [H7]; · iexact H7
  isplitl [H8]; · iexact H8
  isplitl [H9]; · iexact H9
  iintro ⟨H5, H6, H7, H8, H9⟩
  iapply (addB_wp c i M7 h7 _ _ _ _ _ s.2 I.wo E Q)
  isplitl [H7]; · iexact H7
  iintro H7
  iapply Hk
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  iexact H9

/-- A grid point is the first exactly when its number is zero. -/
theorem first_iff : ∀ i : grid2.Coords, first i = 1#1 ↔ (i 0).val = 0 := by decide +kernel

include h1 h2 h3 h4 h5 h6 h7 h8 h9 in
/-- The body at a grid point: from the values the points before left (any, at the first) to the values after it. -/
theorem body_wp (I : Ins F) (o : Vec F S128x512x8 .f32) (s : St F)
    (hv : (i 0).val ≠ 0 → o = ouV I (i 0).val ∧ s = stV I (i 0).val) (E : Set ℕ) (Q : PUnit → sProp 𝕄) :
    iprop(insAt c M1 M2 M3 M4 M5 M6 I (timeOf i) ∗ ow c M7 o ∗ ow c M8 s.1 ∗ ow c M9 s.2
        ∗ (iprop(insAt c M1 M2 M3 M4 M5 M6 I (timeOf i) ∗ ow c M7 (ouV I ((i 0).val + 1)) ∗ ow c M8 (stV I ((i 0).val + 1)).1
            ∗ ow c M9 (stV I ((i 0).val + 1)).2) -∗ Q ⟨⟩))
      ⊢ wp frame (wpE (defs₀ (F := F)) Variants.none c none) E
          (cc2__lstm_body i M1 h1 M2 h2 M3 h3 M4 h4 M5 h5 M6 h6 M7 h7 M8 h8 M9 h9) Q := by
  rw [cc2_eq_body, ← stV_time, ← ouV_time]
  unfold body
  by_cases hf : first i = 1#1
  · have h0 : (i 0).val = 0 := (first_iff i).1 hf
    rw [dif_pos hf, wp_bind, h0]
    iintro ⟨HI, H7, H8, H9, Hk⟩
    iapply (clear_wp c M7 h7 M8 h8 M9 h9 o s E _)
    isplitl [H7]; · iexact H7
    isplitl [H8]; · iexact H8
    isplitl [H9]; · iexact H9
    iintro ⟨H7, H8, H9⟩
    iapply (step_wp c i M1 M2 h1 h2 M3 h3 M4 h4 M5 h5 M6 h6 M7 h7 M8 h8 M9 h9 I (ouV I 0) (stV I 0) E Q)
    isplitl [HI]; · iexact HI
    isplitl [H7]; · iexact H7
    isplitl [H8]; · iexact H8
    isplitl [H9]; · iexact H9
    iexact Hk
  · obtain ⟨rfl, rfl⟩ := hv (fun h => hf ((first_iff i).2 h))
    rw [dif_neg hf]
    exact step_wp c i M1 M2 h1 h2 M3 h3 M4 h4 M5 h5 M6 h6 M7 h7 M8 h8 M9 h9 I _ _ E Q

end

end Cert.KernelIdeal.Pf

end
-- ==== Proof.LstmRegion.lean ====
/- The recurrence's launch: its proof data, from the values at entry, and the region it makes of the program. -/
module

public import proofs.«01_k».proof.Proof.Base
public import proofs.«01_k».proof.Proof.LstmBody
public import proofs.«01_k».proof.Proof.Gen.KernelIdeal.Points

@[expose] public section

noncomputable section

namespace Cert.KernelIdeal.Pf

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Facts₀ Facts
open Cert.KernelIdeal.Gen (facts₀ facts)

variable {F : FTy → Type} [FloatOps F]

local notation "𝕄" => MT nD τ sig (HIx 1) (Elt F) ℕ UU ℕ

variable (O : Dev nD → CellTallies nD τ sig (HIx 1)) (lb : ℕ) (V : Vals F)

/-- What the recurrence reads, at the values at entry. -/
def insV (c : Dev nD) : Ins F where
  x := V c main_v4
  w := V c main_v60
  b := V c main_v62
  wo := V c main_v75
  bo := V c main_v76

/-- The scratch between points: after `t` steps the state of the recurrence, before the first point anything. -/
def scrAt (c : Dev nD) (t : ℕ) : sProp 𝕄 :=
  iprop(∃ s : St F, ⌜t ≠ 0 → s = stV (insV V c) t⌝
      ∗ ow c (Memref.whole cc2_scratch0) s.1 ∗ ow c (Memref.whole cc2_scratch1) s.2)

/-- The time of a grid point. -/
def timeAt (t : Fin cfg2.N) : Fin 128 := ⟨t.val, lt_of_lt_of_eq t.isLt Gen.N_2⟩

/-- The other launch's staging buffers, which ride along. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The proof data: the arrays at the values at entry, the words' array shared by its two windows; the inputs' buffers
    left as fetched, the scores' after the point's step; the scratch at the state of the recurrence. -/
def dat2 (c : Dev nD) : Dat τ (Elt F) (HIx 1) ℕ UU ℕ cfg2 c where
  A w := V c (Pipeline.arrRef spec2 w)
  after w t := match w with
    | ⟨0, _⟩ => xAt (insV V c).x (timeAt t)
    | ⟨1, _⟩ => xAt (insV V c).x (timeAt t).rev
    | ⟨2, _⟩ => (insV V c).w
    | ⟨3, _⟩ => (insV V c).b
    | ⟨4, _⟩ => (insV V c).wo
    | ⟨5, _⟩ => (insV V c).bo
    | ⟨6, _⟩ => ouV (insV V c) (t.val + 1)
  Φ t := iprop(rest2 c ∗ scrAt V c t.val)
  q w := Pipeline.shareOf spec2 w
  owed _ := O c
  recorded _ := recd (F := F) c lb

/-- A grid point's coordinate is its number. -/
theorem coords2 : ∀ t : Fin cfg2.N, ((grid2.coords t) 0).val = t.val := by decide +kernel

/-- A grid point's step is its number. -/
theorem timeOf_coords (t : Fin cfg2.N) : timeOf (grid2.coords t) = timeAt t := Fin.ext (coords2 t)

/-- Which block each window takes at a grid point. -/
theorem index2 : ∀ t : Fin cfg2.N, win2_0.index t 0 = t.val ∧ win2_0.index t 1 = 0 ∧ win2_0.index t 2 = 0
    ∧ win2_1.index t 0 = 127 - t.val ∧ win2_1.index t 1 = 0 ∧ win2_1.index t 2 = 0 := by decide +kernel

/-- After the first point the result's block holds what the points before left in it. -/
theorem out2_kept (c : Dev nD) (t : Fin cfg2.N) (ht : t.val ≠ 0) (d) : (dat2 O lb V c).before 6 t d = ouV (insV V c) t.val := by
  have ht4 : t.val < 128 := (timeAt t).isLt
  rw [(dat2 O lb V c).before_out_kept 6 rfl t ht
    (by rw [← Bool.not_eq_true, Gen.flush2_6]; show ¬ (t.val - 1) % 128 = 127; omega) (fun _ => rfl) (fun _ _ => rfl) d]
  dsimp only [dat2]
  congr 1; omega

/-! Each input's block: the words' are a time's, each other input's is its array. -/

/-- The first window's block is the plane of words of its step. -/
theorem blk2_0 (t : Fin cfg2.N) (f : Vec F S128x512x128 .f32) : ((cfg2.win 0).blk t).view.read (Elt F) f = xAt f (timeAt t) :=
  funext fun j => (View.read_apply _ _).trans ((cast_eq _ _).trans (congrArg f (funext fun a => Fin.ext (by
    have hi := index2 t
    refine (Window.rect_emb_val win2_0 t j a).trans ?_
    fin_cases a
    · show win2_0.index t 0 * 1 + (j 0 : ℕ) = t.val + 1 * (j 0 : ℕ)
      rw [hi.1]; omega
    · show win2_0.index t 1 * 512 + (j 1 : ℕ) = 0 + 1 * (j 1 : ℕ)
      rw [hi.2.1]; omega
    · show win2_0.index t 2 * 128 + (j 2 : ℕ) = 0 + 1 * (j 2 : ℕ)
      rw [hi.2.2.1]; omega))))
/-- The second window's block is the plane of words of the mirrored step. -/
theorem blk2_1 (t : Fin cfg2.N) (f : Vec F S128x512x128 .f32) : ((cfg2.win 1).blk t).view.read (Elt F) f = xAt f (timeAt t).rev :=
  funext fun j => (View.read_apply _ _).trans ((cast_eq _ _).trans (congrArg f (funext fun a => Fin.ext (by
    have hi := index2 t
    refine (Window.rect_emb_val win2_1 t j a).trans ?_
    fin_cases a
    · show win2_1.index t 0 * 1 + (j 0 : ℕ) = (timeAt t).rev.val + 1 * (j 0 : ℕ)
      rw [hi.2.2.2.1, show (timeAt t).rev.val = 127 - t.val by show 128 - (t.val + 1) = _; omega]; omega
    · show win2_1.index t 1 * 512 + (j 1 : ℕ) = 0 + 1 * (j 1 : ℕ)
      rw [hi.2.2.2.2.1]; omega
    · show win2_1.index t 2 * 128 + (j 2 : ℕ) = 0 + 1 * (j 2 : ℕ)
      rw [hi.2.2.2.2.2]; omega))))
/-- This window's block is its whole array. -/
theorem blk2_2 (t : Fin cfg2.N) (f : Vec F S384x512 .bf16) : ((cfg2.win 2).blk t).view.read (Elt F) f = f :=
  funext fun j => (View.read_apply _ _).trans ((cast_eq _ _).trans (congrArg f (funext fun a => Fin.ext
    (Window.rect_emb_val_of_index_zero win2_2 t a (by fin_cases a <;> rfl) j))))
/-- This window's block is its whole array. -/
theorem blk2_3 (t : Fin cfg2.N) (f : Vec F S1x512 .f32) : ((cfg2.win 3).blk t).view.read (Elt F) f = f :=
  funext fun j => (View.read_apply _ _).trans ((cast_eq _ _).trans (congrArg f (funext fun a => Fin.ext
    (Window.rect_emb_val_of_index_zero win2_3 t a (by fin_cases a <;> rfl) j))))
/-- This window's block is its whole array. -/
theorem blk2_4 (t : Fin cfg2.N) (f : Vec F S128x16 .f32) : ((cfg2.win 4).blk t).view.read (Elt F) f = f :=
  funext fun j => (View.read_apply _ _).trans ((cast_eq _ _).trans (congrArg f (funext fun a => Fin.ext
    (Window.rect_emb_val_of_index_zero win2_4 t a (by fin_cases a <;> rfl) j))))
/-- This window's block is its whole array. -/
theorem blk2_5 (t : Fin cfg2.N) (f : Vec F S1x8 .f32) : ((cfg2.win 5).blk t).view.read (Elt F) f = f :=
  funext fun j => (View.read_apply _ _).trans ((cast_eq _ _).trans (congrArg f (funext fun a => Fin.ext
    (Window.rect_emb_val_of_index_zero win2_5 t a (by fin_cases a <;> rfl) j))))

/-! Each input's buffer holds its block when the body runs. -/

/-- The body finds the words of its step in the first window. -/
theorem in2_0 (c : Dev nD) (t : Fin cfg2.N) (d) : (dat2 O lb V c).before 0 t d = xAt (insV V c).x (timeAt t) :=
  ((dat2 O lb V c).before_fetched 0 t (Gen.fetch2_0 t) d).trans (blk2_0 t (insV V c).x)
/-- The body finds the words of the mirrored step in the second window. -/
theorem in2_1 (c : Dev nD) (t : Fin cfg2.N) (d) : (dat2 O lb V c).before 1 t d = xAt (insV V c).x (timeAt t).rev :=
  ((dat2 O lb V c).before_fetched 1 t (Gen.fetch2_1 t) d).trans (blk2_1 t (insV V c).x)
/-- The body finds the packed weights in the third window. -/
theorem in2_2 (c : Dev nD) (t : Fin cfg2.N) (d) : (dat2 O lb V c).before 2 t d = (insV V c).w :=
  ((dat2 O lb V c).before_in_eq_fetched 2 rfl (fun _ => rfl) (fun _ _ _ => rfl) (fun t => (blk2_2 t (insV V c).w).symm) t d).trans
    (blk2_2 t (insV V c).w)
/-- The body finds the packed bias in the fourth window. -/
theorem in2_3 (c : Dev nD) (t : Fin cfg2.N) (d) : (dat2 O lb V c).before 3 t d = (insV V c).b :=
  ((dat2 O lb V c).before_in_eq_fetched 3 rfl (fun _ => rfl) (fun _ _ _ => rfl) (fun t => (blk2_3 t (insV V c).b).symm) t d).trans
    (blk2_3 t (insV V c).b)
/-- The body finds the packed output weights in the fifth window. -/
theorem in2_4 (c : Dev nD) (t : Fin cfg2.N) (d) : (dat2 O lb V c).before 4 t d = (insV V c).wo :=
  ((dat2 O lb V c).before_in_eq_fetched 4 rfl (fun _ => rfl) (fun _ _ _ => rfl) (fun t => (blk2_4 t (insV V c).wo).symm) t d).trans
    (blk2_4 t (insV V c).wo)
/-- The body finds the output bias in the sixth window. -/
theorem in2_5 (c : Dev nD) (t : Fin cfg2.N) (d) : (dat2 O lb V c).before 5 t d = (insV V c).bo :=
  ((dat2 O lb V c).before_in_eq_fetched 5 rfl (fun _ => rfl) (fun _ _ _ => rfl) (fun t => (blk2_5 t (insV V c).bo).symm) t d).trans
    (blk2_5 t (insV V c).bo)

set_option maxHeartbeats 1000000 in
/-- The body's obligation at every point. -/
theorem body2 (c : Dev nD) : BodyObligation (dat2 O lb V c) (defs₀ (F := F)) 𝒱₀ none Set.univ := fun t => by
  rw [Gen.bigSep_W2, Gen.bigSep_W2]
  dsimp only
  simp only [in2_0, in2_1, in2_2, in2_3, in2_4, in2_5]
  rw [show (dat2 O lb V c).Φ t.castSucc = iprop(rest2 c ∗ scrAt V c t.val) from rfl,
    show (dat2 O lb V c).Φ t.succ = iprop(rest2 c ∗ scrAt V c (t.val + 1)) from rfl,
    show (dat2 O lb V c).owesAt none t.succ = (dat2 O lb V c).owesAt none t.castSucc from rfl]
  have e0 : ∀ X, (owns (c : Thread nD τ) ((cfg2.win 0).stage (cfg2.slots t 0)) fullShare X : sProp 𝕄) = ow c (win2_0.stage (cfg2.slots t 0)) X := fun X => owns_ow c _ (hstage2_0 ((cfg2.slots t 0).cast nbuf2_0)) X
  have e1 : ∀ X, (owns (c : Thread nD τ) ((cfg2.win 1).stage (cfg2.slots t 1)) fullShare X : sProp 𝕄) = ow c (win2_1.stage (cfg2.slots t 1)) X := fun X => owns_ow c _ (hstage2_1 ((cfg2.slots t 1).cast nbuf2_1)) X
  have e2 : ∀ X, (owns (c : Thread nD τ) ((cfg2.win 2).stage (cfg2.slots t 2)) fullShare X : sProp 𝕄) = ow c (win2_2.stage (cfg2.slots t 2)) X := fun X => owns_ow c _ (hstage2_2 ((cfg2.slots t 2).cast nbuf2_2)) X
  have e3 : ∀ X, (owns (c : Thread nD τ) ((cfg2.win 3).stage (cfg2.slots t 3)) fullShare X : sProp 𝕄) = ow c (win2_3.stage (cfg2.slots t 3)) X := fun X => owns_ow c _ (hstage2_3 ((cfg2.slots t 3).cast nbuf2_3)) X
  have e4 : ∀ X, (owns (c : Thread nD τ) ((cfg2.win 4).stage (cfg2.slots t 4)) fullShare X : sProp 𝕄) = ow c (win2_4.stage (cfg2.slots t 4)) X := fun X => owns_ow c _ (hstage2_4 ((cfg2.slots t 4).cast nbuf2_4)) X
  have e5 : ∀ X, (owns (c : Thread nD τ) ((cfg2.win 5).stage (cfg2.slots t 5)) fullShare X : sProp 𝕄) = ow c (win2_5.stage (cfg2.slots t 5)) X := fun X => owns_ow c _ (hstage2_5 ((cfg2.slots t 5).cast nbuf2_5)) X
  have e6 : ∀ X, (owns (c : Thread nD τ) ((cfg2.win 6).stage (cfg2.slots t 6)) fullShare X : sProp 𝕄) = ow c (win2_6.stage (cfg2.slots t 6)) X := fun X => owns_ow c _ (hstage2_6 ((cfg2.slots t 6).cast nbuf2_6)) X
  simp only [e0, e1, e2, e3, e4, e5, e6]
  unfold scrAt
  iintro ⟨⟨Hr, %s, %hs, H8, H9⟩, Howes, ⟨%d0, H0⟩, ⟨%d1, H1⟩, ⟨%d2, H2⟩, ⟨%d3, H3⟩, ⟨%d4, H4⟩, ⟨%d5, H5⟩, ⟨%d6, H6⟩⟩
  iapply (body_wp (U := UU) c (grid2.coords t) (win2_0.stage (cfg2.slots t 0)) (win2_1.stage (cfg2.slots t 1)) (hstage2_0 ((cfg2.slots t 0).cast nbuf2_0)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6))
    (Memref.whole cc2_scratch0) (Memref.isWhole_whole _) (Memref.whole cc2_scratch1) (Memref.isWhole_whole _) (insV V c)
    ((dat2 O lb V c).before 6 t d6) s (fun h => by
      rw [coords2] at h ⊢
      exact ⟨out2_kept O lb V c t h d6, hs h⟩) Set.univ _)
  unfold insAt
  rw [timeOf_coords, coords2]
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H8]; · iexact H8
  isplitl [H9]; · iexact H9
  iintro ⟨⟨H0, H1, H2, H3, H4, H5⟩, H6, H8, H9⟩
  isplitl [Hr H8 H9]
  · isplitl [Hr]; · iexact Hr
    iexists _
    isplitr; swap
    · isplitl [H8]; · iexact H8
      iexact H9
    ipureintro; intro _; rfl
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-- The scores' array after the launch: after all the steps. -/
theorem scores2 (c : Dev nD) : (dat2 O lb V c).arrAt 6 cfg2.N = ouV (insV V c) 128 := by
  refine (dat2 O lb V c).arrAt_eq_of_after_last 6 (⟨127, by rw [show cfg2.N = 128 from Gen.N_2]; omega⟩ : Fin cfg2.N) (by decide +kernel) (ouV (insV V c) 128) fun j => ?_
  rfl

/-- The proof data by pipeline: this launch's. -/
def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 O lb V c

variable (hO : ∀ c g, O c g none = 0)
variable (V' : Vals F)

set_option maxHeartbeats 2000000 in
/-- The windows' arrays after the launch are the values it is left at. -/
theorem exit2 (hout : ∀ c, V' c main_v77 = ouV (insV V c) 128) (hne : ∀ c (b : Ref sig .tc), b ≠ main_v77 → V' c b = V c b) (c : Dev nD) :
    ∀ w, (dat2 O lb V c).arrAt w cfg2.N = V' c (Pipeline.arrRef spec2 w)
  | ⟨0, _⟩ => ((dat2 O lb V c).arrAt_in 0 rfl _).trans (hne c main_v4 (by decide)).symm
  | ⟨1, _⟩ => ((dat2 O lb V c).arrAt_in 1 rfl _).trans (hne c main_v4 (by decide)).symm
  | ⟨2, _⟩ => ((dat2 O lb V c).arrAt_in 2 rfl _).trans (hne c main_v60 (by decide)).symm
  | ⟨3, _⟩ => ((dat2 O lb V c).arrAt_in 3 rfl _).trans (hne c main_v62 (by decide)).symm
  | ⟨4, _⟩ => ((dat2 O lb V c).arrAt_in 4 rfl _).trans (hne c main_v75 (by decide)).symm
  | ⟨5, _⟩ => ((dat2 O lb V c).arrAt_in 5 rfl _).trans (hne c main_v76 (by decide)).symm
  | ⟨6, _⟩ => (scores2 O lb V c).trans (hout c).symm

set_option backward.isDefEq.respectTransparency.types false in
/-- The recurrence's launch as a region of the program: from the values `V` to the same but the scores'. -/
def reg2 (R : Dev nD → sProp 𝕄) (hout : ∀ c, V' c main_v77 = ouV (insV V c) 128) (hne : ∀ c (b : Ref sig .tc), b ≠ main_v77 → V' c b = V c b) :
    Pipeline.RegionSeg (pcfgs (F := F)) adm (pdats2 O lb V) none defs₀ 𝒱₀ (K (F := F)).L (K (F := F)).lev 1 where
  win := Gen.launch₀2.win
  block_pos := Gen.launch₀2.block_pos
  stage_whole := Gen.launch₀2.stage_whole
  K := PEmpty
  osem k := k.elim
  ho := Pipeline.OwnSemFacts.none _
  hbody c := (body2 O lb V c).loose
  hwaits c := Pipeline.cellsWaits_intro (Pipeline.pin (pcfgs (F := F)) adm) (pdats2 O lb V) none 1 c fun w s t =>
    (K (F := F)).mayWait_none _ (hO c) _
  pre c := between O lb R V c
  post c := between O lb R V' c
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs_shared (p := 1) (pcfgs (F := F)) adm (pdats2 O lb V) Gen.launch₀2.win Gen.sharedIn2 Gen.launch₀2.arr_whole c
      (fun _ _ => rfl) (V c) fun _ => rfl
    unfold between
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats2 O lb V 1 c).Φ 0 = iprop(rest2 c ∗ scrAt V c 0) from rfl]
    rw [show (Pipeline.scopedRest (Pipeline.pin (pcfgs (F := F)) adm 1).spec c : sProp 𝕄) = Pipeline.scopedRest spec2 c from rfl, Gen.scopedRest2_eq]
    unfold rest2 scrAt
    iintro ⟨-, -, H0, H1, H2, H3, ⟨%a, H4⟩, ⟨%b, H5⟩⟩
    isplitl [H0 H1 H2 H3]
    · isplitl [H0]; · iexact H0
      isplitl [H1]; · iexact H1
      isplitl [H2]; · iexact H2
      iexact H3
    iexists (a, b)
    isplitr; · ipureintro; exact fun h => absurd rfl h
    isplitl [H4]; · iapply (ow_of_loc (F := F) c cc2_scratch0 a); iexact H4
    iapply (ow_of_loc (F := F) c cc2_scratch1 b); iexact H5
  hout c := by
    rw [Pipeline.ownSems0_none, show (pdats2 O lb V 1 c).Φ (Fin.last _) = iprop(rest2 c ∗ scrAt V c 128) from rfl]
    rw [show (Pipeline.scopedRest (Pipeline.pin (pcfgs (F := F)) adm 1).spec c : sProp 𝕄) = Pipeline.scopedRest spec2 c from rfl, Gen.scopedRest2_eq]
    unfold rest2 scrAt
    iintro ⟨⟨H0, H1, H2, H3⟩, ⟨%s, -, H4, H5⟩⟩
    isplitr; · iempintro
    isplitr; · iempintro
    isplitl [H0]; · iexact H0
    isplitl [H1]; · iexact H1
    isplitl [H2]; · iexact H2
    isplitl [H3]; · iexact H3
    isplitl [H4]; · iexists s.1; iapply (loc_of_ow (F := F) c cc2_scratch0 s.1); iexact H4
    iexists s.2; iapply (loc_of_ow (F := F) c cc2_scratch1 s.2); iexact H5
  hexit c := by
    have hjoin := Pipeline.unscopedBufs_of_arrays_shared (p := 1) (pcfgs (F := F)) adm (Ix := HIx 1) (Name := ℕ) (U := UU) (Lvl := ℕ) Gen.launch₀2.win Gen.sharedIn2 Gen.launch₀2.arr_whole c
      (pdats2 O lb V) (fun _ _ => rfl) (V c) (V' c) ((pdats2 O lb V 1 c).arrAt · cfg2.N)
      (exit2 O lb V V' hout hne c)
      (fun b hb => hne c b fun h => hb (h ▸ Finset.mem_image.mpr ⟨6, Finset.mem_univ _, rfl⟩))
    iintro ⟨Ha, HO, -, Hrest, HR⟩
    imodintro
    unfold between
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.KernelIdeal.Pf

end
-- ==== Proof.Main.lean ====
/- The run of the whole program: what every buffer of a TensorCore holds at its end. -/
module

public import proofs.«01_k».proof.Proof.Host
public import proofs.«01_k».proof.Proof.PadRegion
public import proofs.«01_k».proof.Proof.LstmRegion
public import Idealize.ShloMosaic.Lib.SparseCore.Quiescent

@[expose] public section

noncomputable section

namespace Cert.KernelIdeal.Pf

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal Facts₀ Facts
open Cert.KernelIdeal.Gen (facts₀ facts)

variable {F : FTy → Type} [FloatOps F]

local notation "𝕄" => MT nD τ sig (HIx 1) (Elt F) ℕ UU ℕ

/-! ## The buffers' contents between the program's lines and calls -/

abbrev DV (F : FTy → Type) : Type := Valuation τ sig (Elt F)

/-- A buffer's contents replaced. -/
def setAt (W : DV F) (r : Ref sig .tc) (x : (Proc.devRef (τ := τ) .tc r).ty.Contents (Elt F)) : DV F := Function.update W (Proc.devRef .tc r) x

/-- A buffer just set holds what it was set to. -/
theorem setAt_same (W : DV F) (r : Ref sig .tc) (x : (Proc.devRef (τ := τ) .tc r).ty.Contents (Elt F)) : setAt W r x (Proc.devRef .tc r) = x :=
  Function.update_self ..

/-- Setting one buffer leaves the others. -/
theorem setAt_ne (W : DV F) (r : Ref sig .tc) (x : (Proc.devRef (τ := τ) .tc r).ty.Contents (Elt F)) {r' : Ref sig .tc} (h : r' ≠ r) :
    setAt W r x (Proc.devRef .tc r') = W (Proc.devRef .tc r') :=
  Function.update_of_ne (StableHlo.devRef_ne_of_ne h) ..

abbrev vals (W : Dev nD → DV F) : Vals F := fun c b => W c (Proc.devRef .tc b)

section Vals

variable (W0 : Dev nD → DV F)

/-- After the first line, the table's padding, the gather, the second line, the recurrence, the last line. -/
def V1 (d : Dev nD) : DV F := StableHlo.after opsA (W0 d)
def V2 (d : Dev nD) : DV F := setAt (V1 W0 d) main_v2 (padRows (n := 100000) (vals (V1 W0) d main_arg1))
abbrev tbl (d : Dev nD) : Vec F S100000x128 .f32 := V2 W0 d (Proc.devRef .tc main_v2)
abbrev ixs (d : Dev nD) : Vec F S512x128 .i32 := V2 W0 d (Proc.devRef .tc main_v1)
abbrev orow0 (d : Dev nD) : Vec F S65536x128 .f32 := V2 W0 d (Proc.devRef .tc main_v3)
def V3 (d : Dev nD) : DV F := setAt (V2 W0 d) main_v3 (gath (tbl W0 d) (ixs W0 d))
def V4 (d : Dev nD) : DV F := StableHlo.after opsC (StableHlo.after opsB (V3 W0 d))
def V5 (d : Dev nD) : DV F := setAt (V4 W0 d) main_v77 (ouV (insV (vals (V4 W0)) d) 128)
def V6 (d : Dev nD) : DV F := StableHlo.after opsD (V5 W0 d)

/-- What the whole program writes. -/
def written : List (Ref sig .tc) := opsAW ++ [main_v2, main_v3] ++ opsBW ++ opsCW ++ [main_v77] ++ opsDW

/-- A buffer the program does not write holds at its end what it held at its start. -/
theorem V6_of_not_written (d : Dev nD) (r : Ref sig .tc) (h : r ∉ written) : V6 W0 d (Proc.devRef .tc r) = W0 d (Proc.devRef .tc r) := by
  simp only [written, List.mem_append, not_or, List.mem_cons, List.not_mem_nil, or_false] at h
  obtain ⟨⟨⟨⟨⟨hA, h2, h3⟩, hB⟩, hC⟩, h77⟩, hD⟩ := h
  unfold V6
  rw [StableHlo.after_of_writes_sub opsD _ opsD_writes hD]
  unfold V5
  rw [setAt_ne _ _ _ h77]
  unfold V4
  rw [StableHlo.after_of_writes_sub opsC _ opsC_writes hC, StableHlo.after_of_writes_sub opsB _ opsB_writes hB]
  unfold V3
  rw [setAt_ne _ _ _ h3]
  unfold V2
  rw [setAt_ne _ _ _ h2]
  unfold V1
  rw [StableHlo.after_of_writes_sub opsA _ opsA_writes hA]

end Vals

/-! ## The program's steps -/

/-- A pipeline's region, entered from the program around the launches. -/
theorem enter {p : Fin 2} {pdats : (p : Fin 2) → (c : Dev nD) → Dat τ (Elt F) (HIx 1) ℕ UU ℕ (Pipeline.pin (pcfgs (F := F)) adm p) c}
    (R : Pipeline.RegionSeg (pcfgs (F := F)) adm pdats none defs₀ 𝒱₀ (K (F := F)).L (K (F := F)).lev p) (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ (Prog.lift (.customCall (SparseCore.inner (Pipeline.entry p)) ())) Φ := by
  change _ ⊢ wp frame (wpE ((K (F := F)).defs (D (F := F))) 𝒱 (T d) none) Set.univ
    (SparseCore.liftProg (Q := 1) (.op (.customCall (Pipeline.entry p) ()) .ret)) Φ
  refine BIBase.Entails.trans ?_ ((K (F := F)).wp_liftProg (D (F := F)) 𝒱 (T d) Set.univ none _ _)
  refine BIBase.Entails.trans ?_ (Pipeline.RegionSeg.wp (pcfgs (F := F)) adm pdats none Gen.cellOf_inj (EP (F := F)) defs₀ 𝒱₀ _ _ R d none (fun _ h => nomatch h) _ _)
  iintro ⟨Hk, H⟩
  isplitl [Hk]
  · iintro H
    rw [wp_ret]
    imodintro
    iapply Hk; iexact H
  · iexact H

/-- A line of host operations. -/
theorem line (d : Dev nD) (ops : List (HloOp τ sig (Elt F))) (hS : ∀ op ∈ ops, op.bufs ⊆ Pipeline.ucRefs τ sig) (hf : ∀ op ∈ ops, op.fresh = ∅)
    (W : DV F) (Φ : PUnit → sProp 𝕄) :
    iprop((iprop(boundary (T d) ∗ unscopedBufs d (fun b => StableHlo.after ops W b)) -∗ Φ ⟨⟩) ∗ boundary (T d) ∗ unscopedBufs d (fun b => W b))
      ⊢ wp frame (wpE ((K (F := F)).defs (D (F := F))) 𝒱 (T d) none) Set.univ (StableHlo.seq ops) Φ := by
  rw [Pipeline.unscopedBufs_held (Ix := HIx 1) (Name := ℕ) (U := UU) (Lvl := ℕ) d (StableHlo.after ops W),
    Pipeline.unscopedBufs_held (Ix := HIx 1) (Name := ℕ) (U := UU) (Lvl := ℕ) d W]
  have h := StableHlo.wp_seq (defs := (K (F := F)).defs (D (F := F))) (Ix := HIx 1) (Name := ℕ) (U := UU) (Lvl := ℕ) 𝒱 none Set.univ d (Pipeline.ucRefs τ sig) (fun _ => .ret ⟨⟩)
    (K := Φ) ops hS hf W
  rw [show (StableHlo.seq ops >>= fun _ => (.ret ⟨⟩ : Prog (TpuEff nD τ sig (Elt F) (SparseCore.Sig (ΛP (F := F)) 1) .tc) PUnit)) = StableHlo.seq ops from bind_pure _] at h
  iintro ⟨Hk, Hb, Hh⟩
  iapply h $$ [Hb Hh]
  · isplitl [Hb] <;> iassumption
  iintro H
  rw [wp_ret]
  imodintro
  iapply Hk; iexact H

/-! ## The gather's arrays among the buffers -/

def three : Finset (DevRef τ sig) := {Proc.devRef .tc main_v2, Proc.devRef .tc main_v1, Proc.devRef .tc main_v3}

/-- The gather's three buffers are among the tensor core's. -/
theorem three_sub : three ⊆ Pipeline.ucRefs τ sig := by
  intro b hb
  simp only [three, Finset.mem_insert, Finset.mem_singleton] at hb
  refine Finset.mem_filter.mpr ?_
  rcases hb with rfl | rfl | rfl <;> exact ⟨StableHlo.devRef_mem_tcRefs _, by decide⟩

/-- All the buffers are the gather's three and the rest. -/
theorem bufs_three (d : Dev nD) (W : DV F) :
    (unscopedBufs d (fun b => W b) : sProp 𝕄)
      = iprop(Whole d (W (Proc.devRef .tc main_v2)) (W (Proc.devRef .tc main_v1)) (W (Proc.devRef .tc main_v3))
        ∗ StableHlo.held (T d) (Pipeline.ucRefs τ sig \ three) W) := by
  rw [Pipeline.unscopedBufs_held (Ix := HIx 1) (Name := ℕ) (U := UU) (Lvl := ℕ) d W, StableHlo.held_sub_split (T d) three_sub W]
  have h : (StableHlo.held (T d) three W : sProp 𝕄)
      = Whole d (W (Proc.devRef .tc main_v2)) (W (Proc.devRef .tc main_v1)) (W (Proc.devRef .tc main_v3)) := by
    unfold StableHlo.held three Whole
    rw [SparseCore.bigSep_insert' (by
        simp only [Finset.mem_insert, Finset.mem_singleton, not_or]
        exact ⟨StableHlo.devRef_ne_of_ne (by decide), StableHlo.devRef_ne_of_ne (by decide)⟩),
      SparseCore.bigSep_insert' (by
        simp only [Finset.mem_singleton]
        exact StableHlo.devRef_ne_of_ne (by decide)), bigSep_singleton]
  rw [h]

/-- The buffers after the gather, from those before. -/
theorem rest_three (d : Dev nD) (W : DV F) (x : Vec F S65536x128 .f32) :
    (StableHlo.held (T d) (Pipeline.ucRefs τ sig \ three) W : sProp 𝕄) = StableHlo.held (T d) (Pipeline.ucRefs τ sig \ three) (setAt W main_v3 x) :=
  StableHlo.held_congr (T d) fun b hb => (Function.update_of_ne (fun h => (Finset.mem_sdiff.mp hb).2 (by
    rw [h]; simp [three])) ..).symm

end Cert.KernelIdeal.Pf

end
-- ==== Proof.Run.lean ====
/- The main function's run and the program's. -/
module

public import proofs.«01_k».proof.Proof.Main

@[expose] public section

noncomputable section

namespace Cert.KernelIdeal.Pf

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal Facts₀ Facts
open Cert.KernelIdeal.Gen (facts₀ facts)

variable {F : FTy → Type} [FloatOps F]

local notation "𝕄" => MT nD τ sig (HIx 1) (Elt F) ℕ UU ℕ

/-! ## What a TensorCore owes, and its pipelines' ghost state -/

/-- The one call's block of stages. -/
abbrev Zb : SparseCore.Cfg.Blocks 1 1 := inferInstance

/-- What the TensorCore owes before call `n`, its waits so far bounded. -/
def owed (d : Dev nD) (n : ℕ) : sProp 𝕄 :=
  iprop(∃ W, ⌜(K (F := F)).WBelow (T d) W (8 * Zb.fst n)⌝ ∗ owes (T d) ((K (F := F)).Otc d n) W)

/-- The tensor core owes nothing of the launch at the level below all. -/
theorem Otc_none (n : ℕ) (d : Dev nD) (g : GSem nD τ sig) : (K (F := F)).Otc (N := 1) d n g none = 0 := by
  by_contra h
  have := (K (F := F)).lev_of_Otc_pos (Nat.pos_of_ne_zero h)
  rw [SparseCore.Cfg.lev_none] at this
  omega

/-- The rest of the TensorCore's state before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (Zb.last q)) 1)))

/-- The tensor core's launch state is what it owes and the rest. -/
theorem tcSt_eq (d : Dev nD) (n : ℕ) : ((K (F := F)).tcSt EH d n : sProp 𝕄) = iprop(owed d n ∗ tcRest d n) := rfl

/-- One pipeline's ghost state on a core. -/
def pip (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

section Steps

variable (W0 : Dev nD → DV F)

/-- The table's padding. -/
theorem step_pad (d : Dev nD) (n : ℕ) (Φ : PUnit → sProp 𝕄) :
    iprop((iprop(boundary (T d) ∗ unscopedBufs d (fun b => V2 W0 d b) ∗ owed d n) -∗ Φ ⟨⟩)
        ∗ boundary (T d) ∗ unscopedBufs d (fun b => V1 W0 d b) ∗ owed d n ∗ levAts (K (F := F)).L (K (F := F)).lev ∗ pip 0 d)
      ⊢ wp frame (wpE ((K (F := F)).defs (D (F := F))) 𝒱 (T d) none) Set.univ (Prog.lift (.customCall (SparseCore.inner (Pipeline.entry 0)) ())) Φ := by
  refine BIBase.Entails.trans ?_ (enter (reg0 (fun d => (K (F := F)).Otc d n) (8 * Zb.fst n) (vals (V1 W0)) (Otc_none n) (vals (V2 W0)) (fun _ => BI.emp)
    (fun c => setAt_same ..) (fun c b h => setAt_ne _ _ _ h)) d Φ)
  change _ ⊢ iprop((iprop(boundary (T d) ∗ between (fun d => (K (F := F)).Otc d n) (8 * Zb.fst n) (fun _ => BI.emp) (vals (V2 W0)) d) -∗ Φ ⟨⟩)
    ∗ boundary (T d) ∗ between (fun d => (K (F := F)).Otc d n) (8 * Zb.fst n) (fun _ => BI.emp) (vals (V1 W0)) d ∗ _)
  unfold between pip owed
  iintro ⟨Hk, Hb, Hu, HO, Hl, Hg, Ht⟩
  isplitl [Hk]
  · iintro ⟨Hb, Hu, -, HO⟩
    iapply Hk
    isplitl [Hb]; · iexact Hb
    isplitl [Hu]; · iexact Hu
    iexact HO
  isplitl [Hb]; · iexact Hb
  isplitl [Hu HO]
  · isplitl [Hu]; · iexact Hu
    isplitr; · iempintro
    iexact HO
  isplitl [Hl]; · iexact Hl
  isplitl [Hg]; · iexact Hg
  iexact Ht

/-- The recurrence. -/
theorem step_lstm (d : Dev nD) (n : ℕ) (Φ : PUnit → sProp 𝕄) :
    iprop((iprop(boundary (T d) ∗ unscopedBufs d (fun b => V5 W0 d b) ∗ owed d n) -∗ Φ ⟨⟩)
        ∗ boundary (T d) ∗ unscopedBufs d (fun b => V4 W0 d b) ∗ owed d n ∗ levAts (K (F := F)).L (K (F := F)).lev ∗ pip 1 d)
      ⊢ wp frame (wpE ((K (F := F)).defs (D (F := F))) 𝒱 (T d) none) Set.univ (Prog.lift (.customCall (SparseCore.inner (Pipeline.entry 1)) ())) Φ := by
  refine BIBase.Entails.trans ?_ (enter (reg2 (fun d => (K (F := F)).Otc d n) (8 * Zb.fst n) (vals (V4 W0)) (Otc_none n) (vals (V5 W0)) (fun _ => BI.emp)
    (fun c => setAt_same ..) (fun c b h => setAt_ne _ _ _ h)) d Φ)
  change _ ⊢ iprop((iprop(boundary (T d) ∗ between (fun d => (K (F := F)).Otc d n) (8 * Zb.fst n) (fun _ => BI.emp) (vals (V5 W0)) d) -∗ Φ ⟨⟩)
    ∗ boundary (T d) ∗ between (fun d => (K (F := F)).Otc d n) (8 * Zb.fst n) (fun _ => BI.emp) (vals (V4 W0)) d ∗ _)
  unfold between pip owed
  iintro ⟨Hk, Hb, Hu, HO, Hl, Hg, Ht⟩
  isplitl [Hk]
  · iintro ⟨Hb, Hu, -, HO⟩
    iapply Hk
    isplitl [Hb]; · iexact Hb
    isplitl [Hu]; · iexact Hu
    iexact HO
  isplitl [Hb]; · iexact Hb
  isplitl [Hu HO]
  · isplitl [Hu]; · iexact Hu
    isplitr; · iempintro
    iexact HO
  isplitl [Hl]; · iexact Hl
  isplitl [Hg]; · iexact Hg
  iexact Ht

/-- What the gather's call hands out, at the buffers' contents before it. -/
abbrev PP : (K (F := F)).Pay (nD := nD) (Val := Elt F) (Name := ℕ) (U := UU) := P (tbl W0) (ixs W0) (orow0 W0)

/-- After the gather its result is the gathered rows. -/
theorem V3_rows (d : Dev nD) : V3 W0 d (Proc.devRef .tc main_v3) = gath (tbl W0 d) (ixs W0 d) := setAt_same ..
/-- The gather leaves the table. -/
theorem V3_tbl (d : Dev nD) : V3 W0 d (Proc.devRef .tc main_v2) = tbl W0 d := setAt_ne _ _ _ (by decide)
/-- The gather leaves the index lists. -/
theorem V3_ixs (d : Dev nD) : V3 W0 d (Proc.devRef .tc main_v1) = ixs W0 d := setAt_ne _ _ _ (by decide)

/-- The gather. -/
theorem step_gather (κ : GSem nD τ sig → ℕ) (d : Dev nD) (Φ : PUnit → sProp 𝕄) :
    iprop((iprop((K (F := F)).tcSt EH d 1 ∗ unscopedBufs d (fun b => V3 W0 d b)) -∗ Φ ⟨⟩)
        ∗ (K (F := F)).ctx EH (PP W0) κ ∗ (K (F := F)).tcSt EH d 0 ∗ unscopedBufs d (fun b => V2 W0 d b))
      ⊢ wp frame (wpE ((K (F := F)).defs (D (F := F))) 𝒱 (T d) none) Set.univ (sc.run d 0) Φ := by
  rw [bufs_three d (V2 W0 d), bufs_three d (V3 W0 d), V3_rows, V3_tbl, V3_ixs]
  iintro ⟨Hk, Hctx, Hst, Hw, Hrest⟩
  iapply ((K (F := F)).wp_run (D (F := F)) 𝒱 (EH := EH) (P := PP W0) κ d 0) $$ [Hk Hctx Hst Hw Hrest]
  isplitl [Hctx]; · iexact Hctx
  isplitl [Hst]; · iexact Hst
  isplitl [Hw]
  · iapply (Entails.of_eq (st_eq (tbl W0) (ixs W0) (orow0 W0) d).symm); iexact Hw
  iintro ⟨Hst, Hdn⟩
  ihave Hdn' := (Entails.of_eq (dn_eq (tbl W0) (ixs W0) (orow0 W0) d)) $$ Hdn
  iapply Hk
  isplitl [Hst]; · iexact Hst
  isplitl [Hdn']; · iexact Hdn'
  iapply (Entails.of_eq (rest_three d (V2 W0 d) (gath (tbl W0 d) (ixs W0 d))))
  iexact Hrest

end Steps

/-! ## The main function -/

variable (m : (ℓ : Loc nD τ sig) → Buf (Elt F) ℓ) (ρ : Dev nD → PrngReg)

/-- The buffers at launch. -/
abbrev at0 : Dev nD → DV F := fun d b => m (d, b)

/-- What a TensorCore holds at the program's end. -/
abbrev FIN (d : Dev nD) : sProp 𝕄 := unscopedBufs d (fun b => V6 (at0 m) d b)

/-- The buffers at the start hold the start's contents. -/
theorem bufs_at0 (d : Dev nD) : (unscopedBufs d (fun b => m ((SparseCore.T d).loc b)) : sProp 𝕄) = unscopedBufs d (vals (at0 m) d) :=
  congrArg (unscopedBufs d) (funext fun _ => rfl)

/-- A conjunction of nothing is nothing. -/
theorem bigSep_emp' {I : Type} (s : Finset I) : (bigSep s fun _ => iprop(emp)) = (iprop(emp) : sProp 𝕄) := bigSep_emp_const s

set_option maxHeartbeats 1000000 in
/-- The main program runs from the first contents to the last, on each device. -/
theorem hmain (κ : GSem nD τ sig → ℕ) (d : Dev nD) :
    iprop((K (F := F)).ctx EH (PP (at0 m)) κ ∗ (K (F := F)).tcSt EH d 0 ∗ (K (F := F)).tcRes m ρ d ∗ (pip 0 d ∗ pip 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  simp only [wp_bind]
  iintro ⟨#Hctx, Hst, ⟨Hb, Hu, Hts, -⟩, Hg0, Hg1⟩
  ihave Hl := (SparseCore.Cfg.ctx_levAts κ) $$ Hctx
  ihave Hl' := (SparseCore.Cfg.ctx_levAts κ) $$ Hctx
  ihave Hu' := (Entails.of_eq (bufs_at0 m d)) $$ Hu
  iapply (line d opsA opsA_sub opsA_fresh (at0 m d) _)
  isplitr [Hb Hu']; swap; · isplitl [Hb] <;> iassumption
  iintro ⟨Hb, Hu⟩
  ihave Hs := (Entails.of_eq (tcSt_eq d 0)) $$ Hst
  icases Hs with ⟨HO, Hr⟩
  iapply (step_pad (at0 m) d 0 _)
  isplitr [Hb Hu HO Hl Hg0]; swap
  · isplitl [Hb]; · iexact Hb
    isplitl [Hu]; · iexact Hu
    isplitl [HO]; · iexact HO
    isplitl [Hl]; · iexact Hl
    iexact Hg0
  iintro ⟨Hb, Hu, HO⟩
  iapply (step_gather (at0 m) κ d _)
  isplitr [Hu HO Hr]; swap
  · isplitr; · iexact Hctx
    isplitl [HO Hr]
    · rw [tcSt_eq]; isplitl [HO] <;> iassumption
    iexact Hu
  iintro ⟨Hst, Hu⟩
  iapply (line d opsB opsB_sub opsB_fresh (V3 (at0 m) d) _)
  isplitr [Hb Hu]; swap; · isplitl [Hb] <;> iassumption
  iintro ⟨Hb, Hu⟩
  iapply (line d opsC opsC_sub opsC_fresh (StableHlo.after opsB (V3 (at0 m) d)) _)
  isplitr [Hb Hu]; swap; · isplitl [Hb] <;> iassumption
  iintro ⟨Hb, Hu⟩
  ihave Hs := (Entails.of_eq (tcSt_eq d 1)) $$ Hst
  icases Hs with ⟨HO, Hr⟩
  iapply (step_lstm (at0 m) d 1 _)
  isplitr [Hb Hu HO Hl' Hg1]; swap
  · isplitl [Hb]; · iexact Hb
    isplitl [Hu]; · iexact Hu
    isplitl [HO]; · iexact HO
    isplitl [Hl']; · iexact Hl'
    iexact Hg1
  iintro ⟨Hb, Hu, HO⟩
  iapply (line d opsD opsD_sub opsD_fresh (V5 (at0 m) d) _)
  isplitr [Hb Hu]; swap; · isplitl [Hb] <;> iassumption
  iintro ⟨Hb, Hu⟩
  isplitl [HO Hr]
  · rw [tcSt_eq]; isplitl [HO] <;> iassumption
  isplitl [Hu]; · iexact Hu
  isplitl [Hb] <;> iassumption

/-! ## The launch element -/

def u₀ : UU := (initOf (K (F := F)).hsCells (K (F := F)).hsToks,
  (initOf (Pipeline.cells (Pipeline.pin (pcfgs (F := F)) adm) Gen.cellOf_inj) (Pipeline.launchToks (Pipeline.pin (pcfgs (F := F)) adm) Gen.cellOf_inj), 1))

/-- The ghost state that the run starts from gives each part its own. -/
theorem hu₀ : (ownU (u₀ (F := F)) : sProp 𝕄)
    ⊢ |={Set.univ}=> iprop(BI.own (EH (initOf (K (F := F)).hsCells (K (F := F)).hsToks)) ∗ (bigSep Finset.univ fun d : Dev nD => iprop(pip 0 d ∗ pip 1 d))
        ∗ bigSep Finset.univ fun thr : Thread nD τ => bigSep Finset.univ fun q : Fin 1 => (PP (at0 m)).x q thr) := by
  unfold u₀
  iintro Hu
  ihave H := (ownU_pair (initOf (K (F := F)).hsCells (K (F := F)).hsToks) _) $$ Hu
  icases H with ⟨HH, H2⟩
  ihave H3 := (own_pair_emb (embR (nD := nD) (sig := sig) (τ := τ) (Ix := HIx 1) (Val := Elt F) (Name := ℕ) (Lvl := ℕ) (A := UH) (B := UP × Counters)) _ (1 : Counters)) $$ H2
  icases H3 with ⟨HP, -⟩
  imod (Pipeline.fund_ghost (Pipeline.pin (pcfgs (F := F)) adm) (EP (F := F)) Gen.cellOf_inj) $$ [HP] with ⟨Hg, Ht⟩
  · iexact HP
  imodintro
  isplitl [HH]; · iexact HH
  isplitl [Hg Ht]
  · rw [show (fun d : Dev nD => (iprop(pip 0 d ∗ pip 1 d) : sProp 𝕄)) = fun d => bigSep Finset.univ fun p : Fin 2 => pip p d from
      funext fun d => (BI.bigSep_fin_two fun p => pip p d).symm]
    unfold pip
    rw [show (fun d : Dev nD => (bigSep Finset.univ fun p : Fin 2 => iprop(Pipeline.cellsGhost (Pipeline.pin (pcfgs (F := F)) adm) (EP (F := F)) p d ∗ Pipeline.toksInit (Pipeline.pin (pcfgs (F := F)) adm) (EP (F := F)) p d) : sProp 𝕄))
      = fun d => iprop((bigSep Finset.univ fun p : Fin 2 => Pipeline.cellsGhost (Pipeline.pin (pcfgs (F := F)) adm) (EP (F := F)) p d)
        ∗ bigSep Finset.univ fun p : Fin 2 => Pipeline.toksInit (Pipeline.pin (pcfgs (F := F)) adm) (EP (F := F)) p d) from funext fun d => bigSep_sep' ..,
      bigSep_sep']
    isplitl [Hg] <;> iassumption
  rw [show (bigSep Finset.univ fun thr : Thread nD τ => bigSep Finset.univ fun q : Fin 1 => (PP (F := F) (at0 m)).x q thr) = bigSep Finset.univ fun _ => iprop(emp) from
    bigSep_congr fun _ _ => bigSep_univ_of_subsingleton (0 : Fin 1), bigSep_emp']
  iempintro

/-! ## The end -/

/-- Every unscoped buffer holds at the end what the program leaves it. -/
def fq (d : Dev nD) (s' : Phys nD τ sig (Elt F)) : Prop := ∀ b ∈ Pipeline.ucRefs τ sig, s'.mem.mem (d, b) = V6 (at0 m) d b

/-- What the main program ends with says what memory holds. -/
theorem hfin (d : Dev nD) (s' : Phys nD τ sig (Elt F)) : iprop(FIN m d ∗ SI s') ⊢ (⌜fq m d s'⌝ : sProp 𝕄) := by
  have h : ∀ b ∈ Pipeline.ucRefs τ sig, iprop(FIN m d ∗ SI s') ⊢ (⌜s'.mem.mem (d, b) = V6 (at0 m) d b⌝ : sProp 𝕄) := by
    intro b hb
    unfold FIN
    rw [Pipeline.unscopedBufs_held (Ix := HIx 1) (Name := ℕ) (U := UU) (Lvl := ℕ) d (V6 (at0 m) d)]
    unfold StableHlo.held
    iintro ⟨H, HSI⟩
    ihave Hp := (show (bigSep (Pipeline.ucRefs τ sig) fun b => (((T d : Thread nD τ).1, b) : Loc nD τ sig) ↦{fullShare} V6 (at0 m) d b)
      ⊢ (((d, b) : Loc nD τ sig) ↦{fullShare} V6 (at0 m) d b : sProp 𝕄) from
      bigSep_elim (Φ := fun b : DevRef τ sig => ((((T d : Thread nD τ).1, b) : Loc nD τ sig) ↦{fullShare} V6 (at0 m) d b : sProp 𝕄)) hb) $$ H
    ihave H2 := (SI_pointsTo_agree (st := s') (ℓ := (d, b)) (I := Finset.univ) (q := fullShare) (f := V6 (at0 m) d b)) $$ [HSI Hp]
    · isplitl [HSI] <;> iassumption
    icases H2 with %h2
    ipureintro; exact funext fun i => h2 i (Finset.mem_univ i)
  exact fun x hx b hb => (h b hb) x hx

/-- What the program's run ends in: every unscoped buffer at what the program leaves it, every semaphore at zero. -/
def QC : PUnit × MemSt nD τ sig (Elt F) → Prop := fun r =>
  (∀ c : Dev nD, ∀ b ∈ Pipeline.ucRefs τ sig, r.2.mem (c, b) = V6 (at0 m) c b) ∧ r.2.sem = fun _ => 0

/-- The program runs, given word indices within the table. -/
theorem run_main [∀ e, Nonempty (Elt F e)] (hix : ∀ d, InR (ixs (at0 m) d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP (at0 m)) (A := ∅) scFacts v₀
    (fun q hq => match q with | 0 => nomatch hq)
    (fun q _ => match q with | 0 => tileObl _ _ _ scFacts hix)
    (fun q _ => match q with | 0 => SparseCore.Cfg.VecSplit.of_plain (vecSplit _ _ _))
    m ρ main (fun d => iprop(pip 0 d ∗ pip 1 d)) (FIN m) (u₀ (F := F)) (sep_elim_left.trans (hu₀ m)) (hmain m ρ) (fq m) (hfin m) (QC m) (fun _ h hz => ⟨h, hz⟩)

end Cert.KernelIdeal.Pf

end
-- ==== Proof.Inputs.lean ====
/- What the preconditions say of the word indices and of the table. -/
module

public import proofs.«01_k».proof.Pre_pre
public import proofs.«01_k».proof.Pre_word_rows
public import Idealize.ShloMosaic.Lib.ReduceAll
public import Idealize.ShloMosaic.Lib.ValueIdx
public import Idealize.ShloMosaic.PureOps.Ideal.Laws

@[expose] public section

namespace Cert.Pre_word_rows

open Idealize.ShloMosaic Idealize.ShloMosaic.ValueIdx

instance : Subsingleton S_.Idx := ⟨fun a b => funext fun i => i.elim0⟩

/-- The side conditions of the range's own operations. -/
theorem facts : Cert.Pre_word_rows.Facts where
  bcast_S_S512x128 := by decide
  reducesTo_S512x128_S_d0_1 := by decide
  h_S_ := by decide

variable {F : FTy → Type} [FloatOps F] [Facts]
variable {a0 : IVec S512x128 32} {a1 : FVec F S100000x100 .f32} {a2 : FVec F S256x100 .f32} {a3 : FVec F S256x64 .f32} {a4 a5 : FVec F S256 .f32}
  {a6 : FVec F S256x100 .f32} {a7 : FVec F S256x64 .f32} {a8 a9 : FVec F S256 .f32} {a10 : FVec F S8x128 .f32} {a11 : FVec F S8 .f32}

/-- Under the precondition every word index names a row of the table. -/
theorem word_lt (h : fn a0 a1 a2 a3 a4 a5 a6 a7 a8 a9 a10 a11 = fun _ => 1#1) (j : S512x128.Idx) : (a0 j).toNat < 100000 := by
  have e := congrFun h ix0
  obtain ⟨h0, h1⟩ := IntOp.andi_eq_one.1 (Host.reduce_andi_all _ _ _ _ _ e j)
  have h0' := IntOp.cmpi_sge.1 h0
  have h1' := IntOp.cmpi_slt.1 h1
  simp only [broadcastInDim, constantI] at h0' h1'
  simp only [BitVec.toInt_eq_toNat_cond, BitVec.toNat_ofNat, Nat.reducePow, Nat.reduceMod] at h0' h1'
  omega

end Cert.Pre_word_rows

namespace Cert.Pre_pre

open Idealize.ShloMosaic Idealize.ShloMosaic.ValueIdx

section

variable {F : FTy → Type} [FloatOps F] [Facts] [Cert.Pre_word_rows.Facts]
variable {a0 : IVec S512x128 32} {a1 : FVec F S100000x100 .f32} {a2 : FVec F S256x100 .f32} {a3 : FVec F S256x64 .f32} {a4 a5 : FVec F S256 .f32}
  {a6 : FVec F S256x100 .f32} {a7 : FVec F S256x64 .f32} {a8 a9 : FVec F S256 .f32} {a10 : FVec F S8x128 .f32} {a11 : FVec F S8 .f32}

/-- The value claim's precondition has the frames' as its first half. -/
theorem words (h : fn a0 a1 a2 a3 a4 a5 a6 a7 a8 a9 a10 a11 = fun _ => 1#1) : Cert.Pre_word_rows.fn a0 a1 a2 a3 a4 a5 a6 a7 a8 a9 a10 a11 = fun _ => 1#1 :=
  funext fun i => (IntOp.andi_eq_one.1 (congrFun h i)).1

end

section

variable [Facts]
variable {a0 : IVec S512x128 32} {a1 : FVec Ideal S100000x100 .f32} {a2 : FVec Ideal S256x100 .f32} {a3 : FVec Ideal S256x64 .f32} {a4 a5 : FVec Ideal S256 .f32}
  {a6 : FVec Ideal S256x100 .f32} {a7 : FVec Ideal S256x64 .f32} {a8 a9 : FVec Ideal S256 .f32} {a10 : FVec Ideal S8x128 .f32} {a11 : FVec Ideal S8 .f32}

/-- Under the precondition row 0 of the table is zero. -/
theorem row_zero (h : fn a0 a1 a2 a3 a4 a5 a6 a7 a8 a9 a10 a11 = fun _ => 1#1) (q : Fin 100) : a1 (ix2 (0 : Fin 100000) q) = (0 : EReal) := by
  have e := (IntOp.andi_eq_one.1 (congrFun h ix0)).2
  have h0 := Host.reduce_andi_all _ _ _ _ _ e (ix1 q)
  have h1 : shapeCast S100 (extractStridedSlice S1x100 ![0, 0] a1 Facts.slices_S100000x100_S1x100_0_0) Facts.shapeCasts_S1x100_S100 (ix1 q)
      = Ideal.ofBits .f32 0x00000000#32 := of_decide_eq_true ((by decide : ∀ b : Bool, BitVec.ofBool b = 1#1 → b = true) _ h0)
  rw [Ideal.ofBits_zero_f32] at h1
  rw [← h1]
  have hk : (Shape.reshapeEquiv Facts.shapeCasts_S1x100_S100 (ix1 q) : S1x100.Idx) = ix2 (0 : Fin 1) q :=
    Shape.reshapeEquiv_eq_of_rowMajor _ (by simp [Shape.rowMajor_val_two, Shape.rowMajor_val_one])
  unfold shapeCast extractStridedSlice
  rw [hk]
  refine congrArg a1 (funext fun k => ?_)
  fin_cases k
  · rfl
  · exact Fin.ext (Nat.zero_add q.val).symm

end

end Cert.Pre_pre

end
-- ==== Proof.SameTable.lean ====
/- The two kernel programs' body tables at the kernel's own floats are one. -/
module

public import proofs.«01_k».proof.Proof.Gen.Kernel
public import proofs.«01_k».proof.Proof.Gen.KernelIdeal
public import Idealize.ShloMosaic.PureOps.BitExact

@[expose] public section

namespace Cert.KernelIdeal.Pf

open Idealize.ShloMosaic

set_option maxHeartbeats 1000000 in
/-- The kernels' bodies are the same under every label on every processor. -/
theorem bodies_same : Cert.Kernel.defs₀ (F := Bits) = Cert.KernelIdeal.defs₀ (F := Bits) := by
  funext p ℓ a
  obtain ⟨n, hn⟩ := ℓ
  match p, n, hn, a with
  | .tc, 0, _, _ => rfl
  | .tc, 1, _, _ => rfl
  | .tc, 2, _, _ => rfl
  | .scScalar _, 0, _, _ => rfl
  | .scScalar _, 1, _, _ => rfl
  | .scScalar _, 2, _, _ => rfl
  | .scVector _ _, 0, _, _ => rfl
  | .scVector _ _, 1, _, _ => rfl
  | .scVector _ _, 2, _, _ => rfl

/-- The programs' tables are the same. -/
theorem table_same : Cert.Kernel.defs (F := Bits) = Cert.KernelIdeal.defs (F := Bits) :=
  congrArg (fun D => (Cert.KernelIdeal.sc (F := Bits)).defs (Pipeline.defs Cert.KernelIdeal.pcfgs D)) bodies_same

end Cert.KernelIdeal.Pf

end
-- ==== Proof.Frames.lean ====
/- Both kernel programs' frames, from the one run. -/
module

public import proofs.«01_k».proof.Proof.Run
public import proofs.«01_k».proof.Proof.Inputs
public import proofs.«01_k».proof.Proof.SameTable
public import proofs.«01_k».proof.Defs
public import proofs.«01_k».proof.Proof.Gen.Kernel
public import proofs.«01_k».proof.Proof.Gen.Pre_pre

@[expose] public section

noncomputable section

namespace Cert.KernelIdeal.Pf

open Idealize.ShloMosaic
open Idealize.ShloMosaic.TcCoe Idealize.ShloMosaic.Tactic
open Idealize.SL.Sem
open Cert.KernelIdeal Facts₀ Facts
open Cert.KernelIdeal.Gen (facts₀ facts)

variable {F : FTy → Type} [FloatOps F]

/-- The gather reads the word indices transposed: each is one of the first argument's. -/
theorem ixs_eq (W0 : Dev nD → DV F) (d : Dev nD) :
    ∀ j, ∃ i, ixs W0 d j = (W0 d (Proc.devRef .tc main_arg0) : Vec F S512x128 .i32) i := by
  have e : ixs W0 d = StableHlo.after opsA (W0 d) (Proc.devRef .tc main_v1) := setAt_ne _ _ _ (by decide)
  intro j
  rw [e]
  after_reads_simp
  exact ⟨_, rfl⟩

/-- The indices the gather takes lie within the table, if the first argument's do. -/
theorem inR_of (m : (ℓ : Loc nD τ sig) → Buf (Elt F) ℓ)
    (h : ∀ d : Dev nD, ∀ i, ((m ((d.tc : Thread nD τ).loc main_arg0) : Vec F S512x128 .i32) i).toNat < 100000) (d : Dev nD) : InR (ixs (at0 m) d) := by
  intro j
  obtain ⟨i, e⟩ := ixs_eq (at0 m) d j
  rw [e]
  exact h d i

/-- A buffer that no part of the program writes ends at its first contents. -/
theorem arg_kept (m : (ℓ : Loc nD τ sig) → Buf (Elt F) ℓ) (r : PUnit × MemSt nD τ sig (Elt F)) (h : QC m r) (c : Dev nD) (x : Ref sig .tc)
    (hx : (Proc.devRef (τ := τ) .tc x) ∈ Pipeline.ucRefs τ sig) (hw : x ∉ written) :
    r.2.mem ((c.tc : Thread nD τ).loc x) = m ((c.tc : Thread nD τ).loc x) :=
  (h.1 c _ hx).trans (V6_of_not_written (at0 m) c x hw)

/-- At the end of the run every argument is as it was. -/
theorem args_kept (m : (ℓ : Loc nD τ sig) → Buf (Elt F) ℓ) (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have k := fun x hx => arg_kept m r h c x (Finset.mem_filter.mpr ⟨StableHlo.devRef_mem_tcRefs _, hx⟩)
  exact ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide)⟩

/-- The program runs, keeps its arguments and leaves every semaphore at zero, given word indices within the table. -/
theorem frame_run [∀ e, Nonempty (Elt F e)] (m : (ℓ : Loc nD τ sig) → Buf (Elt F) ℓ) (g : Dev nD → PrngReg)
    (h : ∀ d : Dev nD, ∀ i, ((m ((d.tc : Thread nD τ).loc main_arg0) : Vec F S512x128 .i32) i).toNat < 100000) :
    θ_run (Cert.KernelIdeal.defs (F := F)) (Cert.KernelIdeal.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run Cert.KernelIdeal.defs _ _).mono (fun _ h => ⟨args_kept m _ h, h.2⟩) (run_main m g (inR_of m h))

instance : Cert.Pre_word_rows.Facts := Cert.Pre_word_rows.facts

/-- The kernel at the ideal instance runs, keeps its arguments and leaves every semaphore at zero. -/
theorem frame_ideal : Cert.quiescent_KernelIdeal := fun m g hpre =>
  frame_run (F := Ideal) m g fun d i => Cert.Pre_word_rows.word_lt (hpre d) i

/-- The same under the value claim's precondition. -/
theorem frame_ideal_value : Cert.quiescent_KernelIdeal_pre_pre := fun m g hpre =>
  frame_ideal m g fun c => Cert.Pre_pre.words (hpre c)

/-- The same of any table equal to the program's. -/
theorem frame_run_of [∀ e, Nonempty (Elt F e)] (B : Defs nD τ sig (Elt F) (SparseCore.Sig (Pipeline.Sig Λ₀ (Fin 2) fun p => (pcfgs (F := F) p).Adm) 1))
    (hB : B = Cert.KernelIdeal.defs (F := F)) (m : (ℓ : Loc nD τ sig) → Buf (Elt F) ℓ) (g : Dev nD → PrngReg)
    (h : ∀ d : Dev nD, ∀ i, ((m ((d.tc : Thread nD τ).loc main_arg0) : Vec F S512x128 .i32) i).toNat < 100000) :
    θ_run B (Cert.KernelIdeal.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  subst hB
  exact frame_run m g h

set_option maxHeartbeats 4000000 in
/-- The kernel at its own floats runs, keeps its arguments and leaves every semaphore at zero. -/
theorem frame_bits : Cert.quiescent_Kernel := fun m g hpre =>
  frame_run_of (F := Bits) (Cert.Kernel.defs (F := Bits)) table_same m g fun d i => Cert.Pre_word_rows.word_lt (hpre d) i

end Cert.KernelIdeal.Pf

end
-- ==== Proof.RefHost.lean ====
/- The reference's operations, as lines, and its main function and loop bodies as those lines. -/
module

public import proofs.«01_k».proof.Proof.Gen.ReferenceIdeal
public import Idealize.ShloMosaic.Lib.StableHlo.RunLoop
public import Idealize.ShloMosaic.Lib.StableHlo.RunRead

@[expose] public section

noncomputable section

namespace Cert.ReferenceIdeal.Rf

open Idealize.ShloMosaic
open Idealize.ShloMosaic.TcCoe Idealize.ShloMosaic.Tactic
open Cert.ReferenceIdeal Facts₀ Facts
open Cert.ReferenceIdeal.Gen (facts₀ facts)

variable {F : FTy → Type} [FloatOps F]

set_option maxRecDepth 16384 in
/-- The operations before the first loop: the table with its row 0 cleared, the words’ rows taken, the first loop’s start. -/
def opsP : List (HloOp τ sig (Elt F)) := [
  StableHlo.nullary main_c (constantI S_ 32 0#32),
  StableHlo.unary main_c main_v0 (broadcastInDim S1 ![] bcast_S_S1 : (⟨S_, .i32⟩ : BufTy).Contents (Elt F) → (⟨S1, .i32⟩ : BufTy).Contents (Elt F)),
  StableHlo.nullary main_cst (constant S_ .f32 0x00000000#32),
  StableHlo.unary main_cst main_v1 (broadcastInDim S100 ![] bcast_S_S100 : (⟨S_, .f32⟩ : BufTy).Contents (Elt F) → (⟨S100, .f32⟩ : BufTy).Contents (Elt F)),
  StableHlo.ternary main_arg1 main_v0 main_v1 main_v2 ((fun x i u => Host.scatter scatter_S100000x100_S1_S100_0_0_0_0 (fun _ b => b) x i u) : (⟨S100000x100, .f32⟩ : BufTy).Contents (Elt F) → (⟨S1, .i32⟩ : BufTy).Contents (Elt F) → (⟨S100, .f32⟩ : BufTy).Contents (Elt F) → (⟨S100000x100, .f32⟩ : BufTy).Contents (Elt F)),
  StableHlo.TRef.nullary main_call0.c (constantI S_ 32 0#32),
  StableHlo.TRef.unary main_call0.c main_call0.v0 (broadcastInDim S512x128 ![] bcast_S_S512x128),
  StableHlo.TRef.binary (.of main_arg0 : StableHlo.TRef sig ⟨S512x128, .i32⟩) main_call0.v0 main_call0.v1 (cmpi .slt),
  StableHlo.TRef.nullary main_call0.c_0 (constantI S_ 32 100000#32),
  StableHlo.TRef.unary main_call0.c_0 main_call0.v2 (broadcastInDim S512x128 ![] bcast_S_S512x128),
  StableHlo.TRef.binary (.of main_arg0 : StableHlo.TRef sig ⟨S512x128, .i32⟩) main_call0.v2 main_call0.v3 addi,
  StableHlo.TRef.ternary main_call0.v1 main_call0.v3 (.of main_arg0 : StableHlo.TRef sig ⟨S512x128, .i32⟩) main_call0.call0.v0 select,
  StableHlo.TRef.unary main_call0.call0.v0 main_call0.v5 (broadcastInDim S512x128x1 ![0, 1] bcast_S512x128_S512x128x1_0_1),
  StableHlo.TRef.nullary main_call0.c_1 (constantI S1 32 99999#32),
  StableHlo.TRef.nullary main_call0.c_2 (constantI S_ 32 0#32),
  StableHlo.TRef.unary main_call0.c_2 main_call0.v6 (broadcastInDim S512x128x1 ![] bcast_S_S512x128x1),
  StableHlo.TRef.binary main_call0.v5 main_call0.v6 main_call0.v7 (cmpi .sge),
  StableHlo.TRef.unary main_call0.c_1 main_call0.v8 (broadcastInDim S1x1x1 ![2] bcast_S1_S1x1x1_2),
  StableHlo.TRef.unary main_call0.v8 main_call0.v9 (broadcastInDim S512x128x1 ![0, 1, 2] bcast_S1x1x1_S512x128x1_0_1_2),
  StableHlo.TRef.binary main_call0.v5 main_call0.v9 main_call0.v10 (cmpi .sle),
  StableHlo.TRef.binary main_call0.v7 main_call0.v10 main_call0.v11 andi,
  StableHlo.TRef.nullary main_call0.c_3 (constantI S_ 1 1#1),
  StableHlo.TRef.binary main_call0.v11 main_call0.c_3 main_call0.v12 (fun x v => Host.reduce IntOp.andi x v reducesTo_S512x128x1_S512x128_d2 h_S_),
  StableHlo.TRef.binary (.of main_v2 : StableHlo.TRef sig ⟨S100000x100, .f32⟩) main_call0.v5 main_call0.v13 (fun x i => Host.gather gather_S100000x100_S512x128x1_S512x128x100_2_0_n_n_0_2_1100 x i),
  StableHlo.TRef.unary main_call0.v12 main_call0.v14 (broadcastInDim S512x128x100 ![0, 1] bcast_S512x128_S512x128x100_0_1),
  StableHlo.TRef.nullary main_call0.cst (constant S_ .f32 0x7FC00000#32),
  StableHlo.TRef.unary main_call0.cst main_call0.v15 (broadcastInDim S512x128x100 ![] bcast_S_S512x128x100),
  StableHlo.TRef.ternary main_call0.v14 main_call0.v13 main_call0.v15 main_call0.v16 select,
  StableHlo.unary main_v3 main_v4 ((transpose S128x512x100 [1, 0, 2] · transposes_S512x128x100_S128x512x100_1_0_2) : (⟨S512x128x100, .f32⟩ : BufTy).Contents (Elt F) → (⟨S128x512x100, .f32⟩ : BufTy).Contents (Elt F)),
  StableHlo.nullary main_cst_0 (constant S_ .f32 0x00000000#32),
  StableHlo.unary main_cst_0 main_v5 (broadcastInDim S512x64 ![] bcast_S_S512x64 : (⟨S_, .f32⟩ : BufTy).Contents (Elt F) → (⟨S512x64, .f32⟩ : BufTy).Contents (Elt F)),
  StableHlo.nullary main_cst_1 (constant S_ .f32 0x00000000#32),
  StableHlo.unary main_cst_1 main_v6 (broadcastInDim S512x64 ![] bcast_S_S512x64 : (⟨S_, .f32⟩ : BufTy).Contents (Elt F) → (⟨S512x64, .f32⟩ : BufTy).Contents (Elt F)),
  StableHlo.nullary main_cst_2 (constant S_ .f32 0x00000000#32),
  StableHlo.unary main_cst_2 main_v7 (broadcastInDim S128x512x64 ![] bcast_S_S128x512x64 : (⟨S_, .f32⟩ : BufTy).Contents (Elt F) → (⟨S128x512x64, .f32⟩ : BufTy).Contents (Elt F)),
  StableHlo.nullary main_c_3 (constantI S_ 32 0#32),
  StableHlo.unary main_v4 main_v8_0 id,
  StableHlo.unary main_arg2 main_v8_1 id,
  StableHlo.unary main_arg3 main_v8_2 id,
  StableHlo.unary main_arg4 main_v8_3 id,
  StableHlo.unary main_arg5 main_v8_4 id,
  StableHlo.unary main_c_3 main_v8_5 id,
  StableHlo.unary main_v5 main_v8_6 id,
  StableHlo.unary main_v6 main_v8_7 id,
  StableHlo.unary main_v7 main_v8_8 id]

/-- What those operations write, in order. -/
def opsPW : List (Ref sig .tc) := [main_c, main_v0, main_cst, main_v1, main_v2, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v3, main_v4, main_cst_0, main_v5, main_cst_1, main_v6, main_cst_2, main_v7, main_c_3, main_v8_0, main_v8_1, main_v8_2, main_v8_3, main_v8_4, main_v8_5, main_v8_6, main_v8_7, main_v8_8]

set_option maxRecDepth 16384 in
/-- The operations between the loops: the first loop’s outputs transposed, the inputs reversed, the second loop’s start. -/
def opsQ : List (HloOp τ sig (Elt F)) := [
  StableHlo.unary main_v8_8 main_v9 ((transpose S512x128x64 [1, 0, 2] · transposes_S128x512x64_S512x128x64_1_0_2) : (⟨S128x512x64, .f32⟩ : BufTy).Contents (Elt F) → (⟨S512x128x64, .f32⟩ : BufTy).Contents (Elt F)),
  StableHlo.unary main_v3 main_v10 ((transpose S128x512x100 [1, 0, 2] · transposes_S512x128x100_S128x512x100_1_0_2) : (⟨S512x128x100, .f32⟩ : BufTy).Contents (Elt F) → (⟨S128x512x100, .f32⟩ : BufTy).Contents (Elt F)),
  StableHlo.unary main_v10 main_v11 (Host.reverse [0] : (⟨S128x512x100, .f32⟩ : BufTy).Contents (Elt F) → (⟨S128x512x100, .f32⟩ : BufTy).Contents (Elt F)),
  StableHlo.nullary main_cst_4 (constant S_ .f32 0x00000000#32),
  StableHlo.unary main_cst_4 main_v12 (broadcastInDim S512x64 ![] bcast_S_S512x64 : (⟨S_, .f32⟩ : BufTy).Contents (Elt F) → (⟨S512x64, .f32⟩ : BufTy).Contents (Elt F)),
  StableHlo.nullary main_cst_5 (constant S_ .f32 0x00000000#32),
  StableHlo.unary main_cst_5 main_v13 (broadcastInDim S512x64 ![] bcast_S_S512x64 : (⟨S_, .f32⟩ : BufTy).Contents (Elt F) → (⟨S512x64, .f32⟩ : BufTy).Contents (Elt F)),
  StableHlo.nullary main_cst_6 (constant S_ .f32 0x00000000#32),
  StableHlo.unary main_cst_6 main_v14 (broadcastInDim S128x512x64 ![] bcast_S_S128x512x64 : (⟨S_, .f32⟩ : BufTy).Contents (Elt F) → (⟨S128x512x64, .f32⟩ : BufTy).Contents (Elt F)),
  StableHlo.nullary main_c_7 (constantI S_ 32 0#32),
  StableHlo.unary main_v11 main_v15_0 id,
  StableHlo.unary main_arg6 main_v15_1 id,
  StableHlo.unary main_arg7 main_v15_2 id,
  StableHlo.unary main_arg8 main_v15_3 id,
  StableHlo.unary main_arg9 main_v15_4 id,
  StableHlo.unary main_c_7 main_v15_5 id,
  StableHlo.unary main_v12 main_v15_6 id,
  StableHlo.unary main_v13 main_v15_7 id,
  StableHlo.unary main_v14 main_v15_8 id]

/-- What those operations write, in order. -/
def opsQW : List (Ref sig .tc) := [main_v9, main_v10, main_v11, main_cst_4, main_v12, main_cst_5, main_v13, main_cst_6, main_v14, main_c_7, main_v15_0, main_v15_1, main_v15_2, main_v15_3, main_v15_4, main_v15_5, main_v15_6, main_v15_7, main_v15_8]

set_option maxRecDepth 16384 in
/-- The operations after the second loop: the two halves put side by side and projected. -/
def opsR : List (HloOp τ sig (Elt F)) := [
  StableHlo.unary main_v15_8 main_v16 (Host.reverse [0] : (⟨S128x512x64, .f32⟩ : BufTy).Contents (Elt F) → (⟨S128x512x64, .f32⟩ : BufTy).Contents (Elt F)),
  StableHlo.unary main_v16 main_v17 ((transpose S512x128x64 [1, 0, 2] · transposes_S128x512x64_S512x128x64_1_0_2) : (⟨S128x512x64, .f32⟩ : BufTy).Contents (Elt F) → (⟨S512x128x64, .f32⟩ : BufTy).Contents (Elt F)),
  StableHlo.binary main_v9 main_v17 main_v18 ((fun a b => concatenate S512x128x128 2 [⟨S512x128x64, a⟩, ⟨S512x128x64, b⟩] concatenates_S512x128x64_S512x128x64_S512x128x128_d2) : (⟨S512x128x64, .f32⟩ : BufTy).Contents (Elt F) → (⟨S512x128x64, .f32⟩ : BufTy).Contents (Elt F) → (⟨S512x128x128, .f32⟩ : BufTy).Contents (Elt F)),
  StableHlo.unary main_arg10 main_v19 ((transpose S128x8 [1, 0] · transposes_S8x128_S128x8_1_0) : (⟨S8x128, .f32⟩ : BufTy).Contents (Elt F) → (⟨S128x8, .f32⟩ : BufTy).Contents (Elt F)),
  StableHlo.binary main_v18 main_v19 main_v20 ((fun l r => Host.dotGeneral dot_S512x128x128_S128x8_S512x128x8_2_0_01_1_n_n none l r) : (⟨S512x128x128, .f32⟩ : BufTy).Contents (Elt F) → (⟨S128x8, .f32⟩ : BufTy).Contents (Elt F) → (⟨S512x128x8, .f32⟩ : BufTy).Contents (Elt F)),
  StableHlo.unary main_arg11 main_v21 (broadcastInDim S1x1x8 ![2] bcast_S8_S1x1x8_2 : (⟨S8, .f32⟩ : BufTy).Contents (Elt F) → (⟨S1x1x8, .f32⟩ : BufTy).Contents (Elt F)),
  StableHlo.unary main_v21 main_v22 (broadcastInDim S512x128x8 ![0, 1, 2] bcast_S1x1x8_S512x128x8_0_1_2 : (⟨S1x1x8, .f32⟩ : BufTy).Contents (Elt F) → (⟨S512x128x8, .f32⟩ : BufTy).Contents (Elt F)),
  StableHlo.binary main_v20 main_v22 main_v23 (addf : (⟨S512x128x8, .f32⟩ : BufTy).Contents (Elt F) → (⟨S512x128x8, .f32⟩ : BufTy).Contents (Elt F) → (⟨S512x128x8, .f32⟩ : BufTy).Contents (Elt F))]

/-- What those operations write, in order. -/
def opsRW : List (Ref sig .tc) := [main_v16, main_v17, main_v18, main_v19, main_v20, main_v21, main_v22, main_v23]

set_option maxRecDepth 16384 in
/-- The first loop’s test. -/
def condA : List (HloOp τ sig (Elt F)) := [
  StableHlo.nullary main_while0c_c_16 (constantI S_ 32 128#32),
  StableHlo.binary main_v8_5 main_while0c_c_16 main_while0c_v24 (cmpi .slt : (⟨S_, .i32⟩ : BufTy).Contents (Elt F) → (⟨S_, .i32⟩ : BufTy).Contents (Elt F) → (⟨S_, .i1⟩ : BufTy).Contents (Elt F))]

/-- What those operations write, in order. -/
def condAW : List (Ref sig .tc) := [main_while0c_c_16, main_while0c_v24]

set_option maxRecDepth 16384 in
/-- One step of the first loop. -/
def bodyA : List (HloOp τ sig (Elt F)) := [
  StableHlo.TRef.nullary main_while0b_call1.c (constantI S_ 32 0#32),
  StableHlo.TRef.nullary main_while0b_call1.c_0 (constantI S_ 32 0#32),
  StableHlo.TRef.unaryIndexed (.of main_v8_0 : StableHlo.TRef sig ⟨S128x512x100, .f32⟩) ![(.of main_v8_5 : StableHlo.TRef sig ⟨S_, .i32⟩), main_while0b_call1.c, main_while0b_call1.c_0] main_while0b_call1.v0 (fun x i => Host.dynamicSlice S1x512x100 x (fun k => (i k (Shape.Idx.first h_S_)).toInt) sliceFits_S128x512x100_S1x512x100),
  StableHlo.TRef.reshape main_while0b_call1.v0 main_while0b_call1.v1 (rfl : (.f32 : EltTy) = .f32) shapeCasts_S1x512x100_S512x100,
  StableHlo.unary main_v8_1 main_while0b_v25 ((transpose S100x256 [1, 0] · transposes_S256x100_S100x256_1_0) : (⟨S256x100, .f32⟩ : BufTy).Contents (Elt F) → (⟨S100x256, .f32⟩ : BufTy).Contents (Elt F)),
  StableHlo.binary main_while0b_v24 main_while0b_v25 main_while0b_v26 ((fun l r => Host.dotGeneral dot_S512x100_S100x256_S512x256_1_0_0_1_n_n none l r) : (⟨S512x100, .f32⟩ : BufTy).Contents (Elt F) → (⟨S100x256, .f32⟩ : BufTy).Contents (Elt F) → (⟨S512x256, .f32⟩ : BufTy).Contents (Elt F)),
  StableHlo.unary main_v8_2 main_while0b_v27 ((transpose S64x256 [1, 0] · transposes_S256x64_S64x256_1_0) : (⟨S256x64, .f32⟩ : BufTy).Contents (Elt F) → (⟨S64x256, .f32⟩ : BufTy).Contents (Elt F)),
  StableHlo.binary main_v8_6 main_while0b_v27 main_while0b_v28 ((fun l r => Host.dotGeneral dot_S512x64_S64x256_S512x256_1_0_0_1_n_n none l r) : (⟨S512x64, .f32⟩ : BufTy).Contents (Elt F) → (⟨S64x256, .f32⟩ : BufTy).Contents (Elt F) → (⟨S512x256, .f32⟩ : BufTy).Contents (Elt F)),
  StableHlo.binary main_while0b_v26 main_while0b_v28 main_while0b_v29 (addf : (⟨S512x256, .f32⟩ : BufTy).Contents (Elt F) → (⟨S512x256, .f32⟩ : BufTy).Contents (Elt F) → (⟨S512x256, .f32⟩ : BufTy).Contents (Elt F)),
  StableHlo.unary main_v8_3 main_while0b_v30 (broadcastInDim S1x256 ![1] bcast_S256_S1x256_1 : (⟨S256, .f32⟩ : BufTy).Contents (Elt F) → (⟨S1x256, .f32⟩ : BufTy).Contents (Elt F)),
  StableHlo.unary main_while0b_v30 main_while0b_v31 (broadcastInDim S512x256 ![0, 1] bcast_S1x256_S512x256_0_1 : (⟨S1x256, .f32⟩ : BufTy).Contents (Elt F) → (⟨S512x256, .f32⟩ : BufTy).Contents (Elt F)),
  StableHlo.binary main_while0b_v29 main_while0b_v31 main_while0b_v32 (addf : (⟨S512x256, .f32⟩ : BufTy).Contents (Elt F) → (⟨S512x256, .f32⟩ : BufTy).Contents (Elt F) → (⟨S512x256, .f32⟩ : BufTy).Contents (Elt F)),
  StableHlo.unary main_v8_4 main_while0b_v33 (broadcastInDim S1x256 ![1] bcast_S256_S1x256_1 : (⟨S256, .f32⟩ : BufTy).Contents (Elt F) → (⟨S1x256, .f32⟩ : BufTy).Contents (Elt F)),
  StableHlo.unary main_while0b_v33 main_while0b_v34 (broadcastInDim S512x256 ![0, 1] bcast_S1x256_S512x256_0_1 : (⟨S1x256, .f32⟩ : BufTy).Contents (Elt F) → (⟨S512x256, .f32⟩ : BufTy).Contents (Elt F)),
  StableHlo.binary main_while0b_v32 main_while0b_v34 main_while0b_v35 (addf : (⟨S512x256, .f32⟩ : BufTy).Contents (Elt F) → (⟨S512x256, .f32⟩ : BufTy).Contents (Elt F) → (⟨S512x256, .f32⟩ : BufTy).Contents (Elt F)),
  StableHlo.unary main_while0b_v35 main_while0b_v36 ((extractStridedSlice S512x64 ![0, 0] · slices_S512x256_S512x64_0_0) : (⟨S512x256, .f32⟩ : BufTy).Contents (Elt F) → (⟨S512x64, .f32⟩ : BufTy).Contents (Elt F)),
  StableHlo.unary main_while0b_v35 main_while0b_v37 ((extractStridedSlice S512x64 ![0, 64] · slices_S512x256_S512x64_0_64) : (⟨S512x256, .f32⟩ : BufTy).Contents (Elt F) → (⟨S512x64, .f32⟩ : BufTy).Contents (Elt F)),
  StableHlo.unary main_while0b_v35 main_while0b_v38 ((extractStridedSlice S512x64 ![0, 128] · slices_S512x256_S512x64_0_128) : (⟨S512x256, .f32⟩ : BufTy).Contents (Elt F) → (⟨S512x64, .f32⟩ : BufTy).Contents (Elt F)),
  StableHlo.unary main_while0b_v35 main_while0b_v39 ((extractStridedSlice S512x64 ![0, 192] · slices_S512x256_S512x64_0_192) : (⟨S512x256, .f32⟩ : BufTy).Contents (Elt F) → (⟨S512x64, .f32⟩ : BufTy).Contents (Elt F)),
  StableHlo.unary main_while0b_v36 main_while0b_v40 (Host.negf : (⟨S512x64, .f32⟩ : BufTy).Contents (Elt F) → (⟨S512x64, .f32⟩ : BufTy).Contents (Elt F)),
  StableHlo.unary main_while0b_v40 main_while0b_v41 (Host.exp : (⟨S512x64, .f32⟩ : BufTy).Contents (Elt F) → (⟨S512x64, .f32⟩ : BufTy).Contents (Elt F)),
  StableHlo.nullary main_while0b_cst_16 (constant S_ .f32 0x3F800000#32),
  StableHlo.unary main_while0b_cst_16 main_while0b_v42 (broadcastInDim S512x64 ![] bcast_S_S512x64 : (⟨S_, .f32⟩ : BufTy).Contents (Elt F) → (⟨S512x64, .f32⟩ : BufTy).Contents (Elt F)),
  StableHlo.binary main_while0b_v42 main_while0b_v41 main_while0b_v43 (addf : (⟨S512x64, .f32⟩ : BufTy).Contents (Elt F) → (⟨S512x64, .f32⟩ : BufTy).Contents (Elt F) → (⟨S512x64, .f32⟩ : BufTy).Contents (Elt F)),
  StableHlo.nullary main_while0b_cst_17 (constant S_ .f32 0x3F800000#32),
  StableHlo.unary main_while0b_cst_17 main_while0b_v44 (broadcastInDim S512x64 ![] bcast_S_S512x64 : (⟨S_, .f32⟩ : BufTy).Contents (Elt F) → (⟨S512x64, .f32⟩ : BufTy).Contents (Elt F)),
  StableHlo.binary main_while0b_v44 main_while0b_v43 main_while0b_v45 (Host.divf : (⟨S512x64, .f32⟩ : BufTy).Contents (Elt F) → (⟨S512x64, .f32⟩ : BufTy).Contents (Elt F) → (⟨S512x64, .f32⟩ : BufTy).Contents (Elt F)),
  StableHlo.unary main_while0b_v37 main_while0b_v46 (Host.negf : (⟨S512x64, .f32⟩ : BufTy).Contents (Elt F) → (⟨S512x64, .f32⟩ : BufTy).Contents (Elt F)),
  StableHlo.unary main_while0b_v46 main_while0b_v47 (Host.exp : (⟨S512x64, .f32⟩ : BufTy).Contents (Elt F) → (⟨S512x64, .f32⟩ : BufTy).Contents (Elt F)),
  StableHlo.nullary main_while0b_cst_18 (constant S_ .f32 0x3F800000#32),
  StableHlo.unary main_while0b_cst_18 main_while0b_v48 (broadcastInDim S512x64 ![] bcast_S_S512x64 : (⟨S_, .f32⟩ : BufTy).Contents (Elt F) → (⟨S512x64, .f32⟩ : BufTy).Contents (Elt F)),
  StableHlo.binary main_while0b_v48 main_while0b_v47 main_while0b_v49 (addf : (⟨S512x64, .f32⟩ : BufTy).Contents (Elt F) → (⟨S512x64, .f32⟩ : BufTy).Contents (Elt F) → (⟨S512x64, .f32⟩ : BufTy).Contents (Elt F)),
  StableHlo.nullary main_while0b_cst_19 (constant S_ .f32 0x3F800000#32),
  StableHlo.unary main_while0b_cst_19 main_while0b_v50 (broadcastInDim S512x64 ![] bcast_S_S512x64 : (⟨S_, .f32⟩ : BufTy).Contents (Elt F) → (⟨S512x64, .f32⟩ : BufTy).Contents (Elt F)),
  StableHlo.binary main_while0b_v50 main_while0b_v49 main_while0b_v51 (Host.divf : (⟨S512x64, .f32⟩ : BufTy).Contents (Elt F) → (⟨S512x64, .f32⟩ : BufTy).Contents (Elt F) → (⟨S512x64, .f32⟩ : BufTy).Contents (Elt F)),
  StableHlo.unary main_while0b_v38 main_while0b_v52 (Host.tanh : (⟨S512x64, .f32⟩ : BufTy).Contents (Elt F) → (⟨S512x64, .f32⟩ : BufTy).Contents (Elt F)),
  StableHlo.unary main_while0b_v39 main_while0b_v53 (Host.negf : (⟨S512x64, .f32⟩ : BufTy).Contents (Elt F) → (⟨S512x64, .f32⟩ : BufTy).Contents (Elt F)),
  StableHlo.unary main_while0b_v53 main_while0b_v54 (Host.exp : (⟨S512x64, .f32⟩ : BufTy).Contents (Elt F) → (⟨S512x64, .f32⟩ : BufTy).Contents (Elt F)),
  StableHlo.nullary main_while0b_cst_20 (constant S_ .f32 0x3F800000#32),
  StableHlo.unary main_while0b_cst_20 main_while0b_v55 (broadcastInDim S512x64 ![] bcast_S_S512x64 : (⟨S_, .f32⟩ : BufTy).Contents (Elt F) → (⟨S512x64, .f32⟩ : BufTy).Contents (Elt F)),
  StableHlo.binary main_while0b_v55 main_while0b_v54 main_while0b_v56 (addf : (⟨S512x64, .f32⟩ : BufTy).Contents (Elt F) → (⟨S512x64, .f32⟩ : BufTy).Contents (Elt F) → (⟨S512x64, .f32⟩ : BufTy).Contents (Elt F)),
  StableHlo.nullary main_while0b_cst_21 (constant S_ .f32 0x3F800000#32),
  StableHlo.unary main_while0b_cst_21 main_while0b_v57 (broadcastInDim S512x64 ![] bcast_S_S512x64 : (⟨S_, .f32⟩ : BufTy).Contents (Elt F) → (⟨S512x64, .f32⟩ : BufTy).Contents (Elt F)),
  StableHlo.binary main_while0b_v57 main_while0b_v56 main_while0b_v58 (Host.divf : (⟨S512x64, .f32⟩ : BufTy).Contents (Elt F) → (⟨S512x64, .f32⟩ : BufTy).Contents (Elt F) → (⟨S512x64, .f32⟩ : BufTy).Contents (Elt F)),
  StableHlo.binary main_while0b_v51 main_v8_7 main_while0b_v59 (mulf : (⟨S512x64, .f32⟩ : BufTy).Contents (Elt F) → (⟨S512x64, .f32⟩ : BufTy).Contents (Elt F) → (⟨S512x64, .f32⟩ : BufTy).Contents (Elt F)),
  StableHlo.binary main_while0b_v45 main_while0b_v52 main_while0b_v60 (mulf : (⟨S512x64, .f32⟩ : BufTy).Contents (Elt F) → (⟨S512x64, .f32⟩ : BufTy).Contents (Elt F) → (⟨S512x64, .f32⟩ : BufTy).Contents (Elt F)),
  StableHlo.binary main_while0b_v59 main_while0b_v60 main_while0b_v61 (addf : (⟨S512x64, .f32⟩ : BufTy).Contents (Elt F) → (⟨S512x64, .f32⟩ : BufTy).Contents (Elt F) → (⟨S512x64, .f32⟩ : BufTy).Contents (Elt F)),
  StableHlo.unary main_while0b_v61 main_while0b_v62 (Host.tanh : (⟨S512x64, .f32⟩ : BufTy).Contents (Elt F) → (⟨S512x64, .f32⟩ : BufTy).Contents (Elt F)),
  StableHlo.binary main_while0b_v58 main_while0b_v62 main_while0b_v63 (mulf : (⟨S512x64, .f32⟩ : BufTy).Contents (Elt F) → (⟨S512x64, .f32⟩ : BufTy).Contents (Elt F) → (⟨S512x64, .f32⟩ : BufTy).Contents (Elt F)),
  StableHlo.TRef.unary (.of main_while0b_v63 : StableHlo.TRef sig ⟨S512x64, .f32⟩) main_while0b_call2.v0 (broadcastInDim S1x512x64 ![1, 2] bcast_S512x64_S1x512x64_1_2),
  StableHlo.TRef.nullary main_while0b_call2.c (constantI S_ 32 0#32),
  StableHlo.TRef.nullary main_while0b_call2.c_0 (constantI S_ 32 0#32),
  StableHlo.TRef.binaryIndexed (.of main_v8_8 : StableHlo.TRef sig ⟨S128x512x64, .f32⟩) main_while0b_call2.v0 ![(.of main_v8_5 : StableHlo.TRef sig ⟨S_, .i32⟩), main_while0b_call2.c, main_while0b_call2.c_0] main_while0b_call2.v1 (fun x u i => Host.dynamicUpdateSlice x u (fun k => (i k (Shape.Idx.first h_S_)).toInt) updateFits_S128x512x64_S1x512x64),
  StableHlo.nullary main_while0b_c_22 (constantI S_ 32 1#32),
  StableHlo.binary main_v8_5 main_while0b_c_22 main_while0b_v65 (addi : (⟨S_, .i32⟩ : BufTy).Contents (Elt F) → (⟨S_, .i32⟩ : BufTy).Contents (Elt F) → (⟨S_, .i32⟩ : BufTy).Contents (Elt F)),
  StableHlo.unary main_while0b_v65 main_v8_5 id,
  StableHlo.unary main_while0b_v63 main_v8_6 id,
  StableHlo.unary main_while0b_v61 main_v8_7 id,
  StableHlo.unary main_while0b_v64 main_v8_8 id]

/-- What those operations write, in order. -/
def bodyAW : List (Ref sig .tc) := [main_while0b_call1_c, main_while0b_call1_c_0, main_while0b_call1_v0, main_while0b_v24, main_while0b_v25, main_while0b_v26, main_while0b_v27, main_while0b_v28, main_while0b_v29, main_while0b_v30, main_while0b_v31, main_while0b_v32, main_while0b_v33, main_while0b_v34, main_while0b_v35, main_while0b_v36, main_while0b_v37, main_while0b_v38, main_while0b_v39, main_while0b_v40, main_while0b_v41, main_while0b_cst_16, main_while0b_v42, main_while0b_v43, main_while0b_cst_17, main_while0b_v44, main_while0b_v45, main_while0b_v46, main_while0b_v47, main_while0b_cst_18, main_while0b_v48, main_while0b_v49, main_while0b_cst_19, main_while0b_v50, main_while0b_v51, main_while0b_v52, main_while0b_v53, main_while0b_v54, main_while0b_cst_20, main_while0b_v55, main_while0b_v56, main_while0b_cst_21, main_while0b_v57, main_while0b_v58, main_while0b_v59, main_while0b_v60, main_while0b_v61, main_while0b_v62, main_while0b_v63, main_while0b_call2_v0, main_while0b_call2_c, main_while0b_call2_c_0, main_while0b_v64, main_while0b_c_22, main_while0b_v65, main_v8_5, main_v8_6, main_v8_7, main_v8_8]

set_option maxRecDepth 16384 in
/-- The second loop’s test. -/
def condB : List (HloOp τ sig (Elt F)) := [
  StableHlo.nullary main_while1c_c_16 (constantI S_ 32 128#32),
  StableHlo.binary main_v15_5 main_while1c_c_16 main_while1c_v24 (cmpi .slt : (⟨S_, .i32⟩ : BufTy).Contents (Elt F) → (⟨S_, .i32⟩ : BufTy).Contents (Elt F) → (⟨S_, .i1⟩ : BufTy).Contents (Elt F))]

/-- What those operations write, in order. -/
def condBW : List (Ref sig .tc) := [main_while1c_c_16, main_while1c_v24]

set_option maxRecDepth 16384 in
/-- One step of the second loop. -/
def bodyB : List (HloOp τ sig (Elt F)) := [
  StableHlo.TRef.nullary main_while1b_call3.c (constantI S_ 32 0#32),
  StableHlo.TRef.nullary main_while1b_call3.c_0 (constantI S_ 32 0#32),
  StableHlo.TRef.unaryIndexed (.of main_v15_0 : StableHlo.TRef sig ⟨S128x512x100, .f32⟩) ![(.of main_v15_5 : StableHlo.TRef sig ⟨S_, .i32⟩), main_while1b_call3.c, main_while1b_call3.c_0] main_while1b_call3.v0 (fun x i => Host.dynamicSlice S1x512x100 x (fun k => (i k (Shape.Idx.first h_S_)).toInt) sliceFits_S128x512x100_S1x512x100),
  StableHlo.TRef.reshape main_while1b_call3.v0 main_while1b_call3.v1 (rfl : (.f32 : EltTy) = .f32) shapeCasts_S1x512x100_S512x100,
  StableHlo.unary main_v15_1 main_while1b_v25 ((transpose S100x256 [1, 0] · transposes_S256x100_S100x256_1_0) : (⟨S256x100, .f32⟩ : BufTy).Contents (Elt F) → (⟨S100x256, .f32⟩ : BufTy).Contents (Elt F)),
  StableHlo.binary main_while1b_v24 main_while1b_v25 main_while1b_v26 ((fun l r => Host.dotGeneral dot_S512x100_S100x256_S512x256_1_0_0_1_n_n none l r) : (⟨S512x100, .f32⟩ : BufTy).Contents (Elt F) → (⟨S100x256, .f32⟩ : BufTy).Contents (Elt F) → (⟨S512x256, .f32⟩ : BufTy).Contents (Elt F)),
  StableHlo.unary main_v15_2 main_while1b_v27 ((transpose S64x256 [1, 0] · transposes_S256x64_S64x256_1_0) : (⟨S256x64, .f32⟩ : BufTy).Contents (Elt F) → (⟨S64x256, .f32⟩ : BufTy).Contents (Elt F)),
  StableHlo.binary main_v15_6 main_while1b_v27 main_while1b_v28 ((fun l r => Host.dotGeneral dot_S512x64_S64x256_S512x256_1_0_0_1_n_n none l r) : (⟨S512x64, .f32⟩ : BufTy).Contents (Elt F) → (⟨S64x256, .f32⟩ : BufTy).Contents (Elt F) → (⟨S512x256, .f32⟩ : BufTy).Contents (Elt F)),
  StableHlo.binary main_while1b_v26 main_while1b_v28 main_while1b_v29 (addf : (⟨S512x256, .f32⟩ : BufTy).Contents (Elt F) → (⟨S512x256, .f32⟩ : BufTy).Contents (Elt F) → (⟨S512x256, .f32⟩ : BufTy).Contents (Elt F)),
  StableHlo.unary main_v15_3 main_while1b_v30 (broadcastInDim S1x256 ![1] bcast_S256_S1x256_1 : (⟨S256, .f32⟩ : BufTy).Contents (Elt F) → (⟨S1x256, .f32⟩ : BufTy).Contents (Elt F)),
  StableHlo.unary main_while1b_v30 main_while1b_v31 (broadcastInDim S512x256 ![0, 1] bcast_S1x256_S512x256_0_1 : (⟨S1x256, .f32⟩ : BufTy).Contents (Elt F) → (⟨S512x256, .f32⟩ : BufTy).Contents (Elt F)),
  StableHlo.binary main_while1b_v29 main_while1b_v31 main_while1b_v32 (addf : (⟨S512x256, .f32⟩ : BufTy).Contents (Elt F) → (⟨S512x256, .f32⟩ : BufTy).Contents (Elt F) → (⟨S512x256, .f32⟩ : BufTy).Contents (Elt F)),
  StableHlo.unary main_v15_4 main_while1b_v33 (broadcastInDim S1x256 ![1] bcast_S256_S1x256_1 : (⟨S256, .f32⟩ : BufTy).Contents (Elt F) → (⟨S1x256, .f32⟩ : BufTy).Contents (Elt F)),
  StableHlo.unary main_while1b_v33 main_while1b_v34 (broadcastInDim S512x256 ![0, 1] bcast_S1x256_S512x256_0_1 : (⟨S1x256, .f32⟩ : BufTy).Contents (Elt F) → (⟨S512x256, .f32⟩ : BufTy).Contents (Elt F)),
  StableHlo.binary main_while1b_v32 main_while1b_v34 main_while1b_v35 (addf : (⟨S512x256, .f32⟩ : BufTy).Contents (Elt F) → (⟨S512x256, .f32⟩ : BufTy).Contents (Elt F) → (⟨S512x256, .f32⟩ : BufTy).Contents (Elt F)),
  StableHlo.unary main_while1b_v35 main_while1b_v36 ((extractStridedSlice S512x64 ![0, 0] · slices_S512x256_S512x64_0_0) : (⟨S512x256, .f32⟩ : BufTy).Contents (Elt F) → (⟨S512x64, .f32⟩ : BufTy).Contents (Elt F)),
  StableHlo.unary main_while1b_v35 main_while1b_v37 ((extractStridedSlice S512x64 ![0, 64] · slices_S512x256_S512x64_0_64) : (⟨S512x256, .f32⟩ : BufTy).Contents (Elt F) → (⟨S512x64, .f32⟩ : BufTy).Contents (Elt F)),
  StableHlo.unary main_while1b_v35 main_while1b_v38 ((extractStridedSlice S512x64 ![0, 128] · slices_S512x256_S512x64_0_128) : (⟨S512x256, .f32⟩ : BufTy).Contents (Elt F) → (⟨S512x64, .f32⟩ : BufTy).Contents (Elt F)),
  StableHlo.unary main_while1b_v35 main_while1b_v39 ((extractStridedSlice S512x64 ![0, 192] · slices_S512x256_S512x64_0_192) : (⟨S512x256, .f32⟩ : BufTy).Contents (Elt F) → (⟨S512x64, .f32⟩ : BufTy).Contents (Elt F)),
  StableHlo.unary main_while1b_v36 main_while1b_v40 (Host.negf : (⟨S512x64, .f32⟩ : BufTy).Contents (Elt F) → (⟨S512x64, .f32⟩ : BufTy).Contents (Elt F)),
  StableHlo.unary main_while1b_v40 main_while1b_v41 (Host.exp : (⟨S512x64, .f32⟩ : BufTy).Contents (Elt F) → (⟨S512x64, .f32⟩ : BufTy).Contents (Elt F)),
  StableHlo.nullary main_while1b_cst_16 (constant S_ .f32 0x3F800000#32),
  StableHlo.unary main_while1b_cst_16 main_while1b_v42 (broadcastInDim S512x64 ![] bcast_S_S512x64 : (⟨S_, .f32⟩ : BufTy).Contents (Elt F) → (⟨S512x64, .f32⟩ : BufTy).Contents (Elt F)),
  StableHlo.binary main_while1b_v42 main_while1b_v41 main_while1b_v43 (addf : (⟨S512x64, .f32⟩ : BufTy).Contents (Elt F) → (⟨S512x64, .f32⟩ : BufTy).Contents (Elt F) → (⟨S512x64, .f32⟩ : BufTy).Contents (Elt F)),
  StableHlo.nullary main_while1b_cst_17 (constant S_ .f32 0x3F800000#32),
  StableHlo.unary main_while1b_cst_17 main_while1b_v44 (broadcastInDim S512x64 ![] bcast_S_S512x64 : (⟨S_, .f32⟩ : BufTy).Contents (Elt F) → (⟨S512x64, .f32⟩ : BufTy).Contents (Elt F)),
  StableHlo.binary main_while1b_v44 main_while1b_v43 main_while1b_v45 (Host.divf : (⟨S512x64, .f32⟩ : BufTy).Contents (Elt F) → (⟨S512x64, .f32⟩ : BufTy).Contents (Elt F) → (⟨S512x64, .f32⟩ : BufTy).Contents (Elt F)),
  StableHlo.unary main_while1b_v37 main_while1b_v46 (Host.negf : (⟨S512x64, .f32⟩ : BufTy).Contents (Elt F) → (⟨S512x64, .f32⟩ : BufTy).Contents (Elt F)),
  StableHlo.unary main_while1b_v46 main_while1b_v47 (Host.exp : (⟨S512x64, .f32⟩ : BufTy).Contents (Elt F) → (⟨S512x64, .f32⟩ : BufTy).Contents (Elt F)),
  StableHlo.nullary main_while1b_cst_18 (constant S_ .f32 0x3F800000#32),
  StableHlo.unary main_while1b_cst_18 main_while1b_v48 (broadcastInDim S512x64 ![] bcast_S_S512x64 : (⟨S_, .f32⟩ : BufTy).Contents (Elt F) → (⟨S512x64, .f32⟩ : BufTy).Contents (Elt F)),
  StableHlo.binary main_while1b_v48 main_while1b_v47 main_while1b_v49 (addf : (⟨S512x64, .f32⟩ : BufTy).Contents (Elt F) → (⟨S512x64, .f32⟩ : BufTy).Contents (Elt F) → (⟨S512x64, .f32⟩ : BufTy).Contents (Elt F)),
  StableHlo.nullary main_while1b_cst_19 (constant S_ .f32 0x3F800000#32),
  StableHlo.unary main_while1b_cst_19 main_while1b_v50 (broadcastInDim S512x64 ![] bcast_S_S512x64 : (⟨S_, .f32⟩ : BufTy).Contents (Elt F) → (⟨S512x64, .f32⟩ : BufTy).Contents (Elt F)),
  StableHlo.binary main_while1b_v50 main_while1b_v49 main_while1b_v51 (Host.divf : (⟨S512x64, .f32⟩ : BufTy).Contents (Elt F) → (⟨S512x64, .f32⟩ : BufTy).Contents (Elt F) → (⟨S512x64, .f32⟩ : BufTy).Contents (Elt F)),
  StableHlo.unary main_while1b_v38 main_while1b_v52 (Host.tanh : (⟨S512x64, .f32⟩ : BufTy).Contents (Elt F) → (⟨S512x64, .f32⟩ : BufTy).Contents (Elt F)),
  StableHlo.unary main_while1b_v39 main_while1b_v53 (Host.negf : (⟨S512x64, .f32⟩ : BufTy).Contents (Elt F) → (⟨S512x64, .f32⟩ : BufTy).Contents (Elt F)),
  StableHlo.unary main_while1b_v53 main_while1b_v54 (Host.exp : (⟨S512x64, .f32⟩ : BufTy).Contents (Elt F) → (⟨S512x64, .f32⟩ : BufTy).Contents (Elt F)),
  StableHlo.nullary main_while1b_cst_20 (constant S_ .f32 0x3F800000#32),
  StableHlo.unary main_while1b_cst_20 main_while1b_v55 (broadcastInDim S512x64 ![] bcast_S_S512x64 : (⟨S_, .f32⟩ : BufTy).Contents (Elt F) → (⟨S512x64, .f32⟩ : BufTy).Contents (Elt F)),
  StableHlo.binary main_while1b_v55 main_while1b_v54 main_while1b_v56 (addf : (⟨S512x64, .f32⟩ : BufTy).Contents (Elt F) → (⟨S512x64, .f32⟩ : BufTy).Contents (Elt F) → (⟨S512x64, .f32⟩ : BufTy).Contents (Elt F)),
  StableHlo.nullary main_while1b_cst_21 (constant S_ .f32 0x3F800000#32),
  StableHlo.unary main_while1b_cst_21 main_while1b_v57 (broadcastInDim S512x64 ![] bcast_S_S512x64 : (⟨S_, .f32⟩ : BufTy).Contents (Elt F) → (⟨S512x64, .f32⟩ : BufTy).Contents (Elt F)),
  StableHlo.binary main_while1b_v57 main_while1b_v56 main_while1b_v58 (Host.divf : (⟨S512x64, .f32⟩ : BufTy).Contents (Elt F) → (⟨S512x64, .f32⟩ : BufTy).Contents (Elt F) → (⟨S512x64, .f32⟩ : BufTy).Contents (Elt F)),
  StableHlo.binary main_while1b_v51 main_v15_7 main_while1b_v59 (mulf : (⟨S512x64, .f32⟩ : BufTy).Contents (Elt F) → (⟨S512x64, .f32⟩ : BufTy).Contents (Elt F) → (⟨S512x64, .f32⟩ : BufTy).Contents (Elt F)),
  StableHlo.binary main_while1b_v45 main_while1b_v52 main_while1b_v60 (mulf : (⟨S512x64, .f32⟩ : BufTy).Contents (Elt F) → (⟨S512x64, .f32⟩ : BufTy).Contents (Elt F) → (⟨S512x64, .f32⟩ : BufTy).Contents (Elt F)),
  StableHlo.binary main_while1b_v59 main_while1b_v60 main_while1b_v61 (addf : (⟨S512x64, .f32⟩ : BufTy).Contents (Elt F) → (⟨S512x64, .f32⟩ : BufTy).Contents (Elt F) → (⟨S512x64, .f32⟩ : BufTy).Contents (Elt F)),
  StableHlo.unary main_while1b_v61 main_while1b_v62 (Host.tanh : (⟨S512x64, .f32⟩ : BufTy).Contents (Elt F) → (⟨S512x64, .f32⟩ : BufTy).Contents (Elt F)),
  StableHlo.binary main_while1b_v58 main_while1b_v62 main_while1b_v63 (mulf : (⟨S512x64, .f32⟩ : BufTy).Contents (Elt F) → (⟨S512x64, .f32⟩ : BufTy).Contents (Elt F) → (⟨S512x64, .f32⟩ : BufTy).Contents (Elt F)),
  StableHlo.TRef.unary (.of main_while1b_v63 : StableHlo.TRef sig ⟨S512x64, .f32⟩) main_while1b_call4.v0 (broadcastInDim S1x512x64 ![1, 2] bcast_S512x64_S1x512x64_1_2),
  StableHlo.TRef.nullary main_while1b_call4.c (constantI S_ 32 0#32),
  StableHlo.TRef.nullary main_while1b_call4.c_0 (constantI S_ 32 0#32),
  StableHlo.TRef.binaryIndexed (.of main_v15_8 : StableHlo.TRef sig ⟨S128x512x64, .f32⟩) main_while1b_call4.v0 ![(.of main_v15_5 : StableHlo.TRef sig ⟨S_, .i32⟩), main_while1b_call4.c, main_while1b_call4.c_0] main_while1b_call4.v1 (fun x u i => Host.dynamicUpdateSlice x u (fun k => (i k (Shape.Idx.first h_S_)).toInt) updateFits_S128x512x64_S1x512x64),
  StableHlo.nullary main_while1b_c_22 (constantI S_ 32 1#32),
  StableHlo.binary main_v15_5 main_while1b_c_22 main_while1b_v65 (addi : (⟨S_, .i32⟩ : BufTy).Contents (Elt F) → (⟨S_, .i32⟩ : BufTy).Contents (Elt F) → (⟨S_, .i32⟩ : BufTy).Contents (Elt F)),
  StableHlo.unary main_while1b_v65 main_v15_5 id,
  StableHlo.unary main_while1b_v63 main_v15_6 id,
  StableHlo.unary main_while1b_v61 main_v15_7 id,
  StableHlo.unary main_while1b_v64 main_v15_8 id]

/-- What those operations write, in order. -/
def bodyBW : List (Ref sig .tc) := [main_while1b_call3_c, main_while1b_call3_c_0, main_while1b_call3_v0, main_while1b_v24, main_while1b_v25, main_while1b_v26, main_while1b_v27, main_while1b_v28, main_while1b_v29, main_while1b_v30, main_while1b_v31, main_while1b_v32, main_while1b_v33, main_while1b_v34, main_while1b_v35, main_while1b_v36, main_while1b_v37, main_while1b_v38, main_while1b_v39, main_while1b_v40, main_while1b_v41, main_while1b_cst_16, main_while1b_v42, main_while1b_v43, main_while1b_cst_17, main_while1b_v44, main_while1b_v45, main_while1b_v46, main_while1b_v47, main_while1b_cst_18, main_while1b_v48, main_while1b_v49, main_while1b_cst_19, main_while1b_v50, main_while1b_v51, main_while1b_v52, main_while1b_v53, main_while1b_v54, main_while1b_cst_20, main_while1b_v55, main_while1b_v56, main_while1b_cst_21, main_while1b_v57, main_while1b_v58, main_while1b_v59, main_while1b_v60, main_while1b_v61, main_while1b_v62, main_while1b_v63, main_while1b_call4_v0, main_while1b_call4_c, main_while1b_call4_c_0, main_while1b_v64, main_while1b_c_22, main_while1b_v65, main_v15_5, main_v15_6, main_v15_7, main_v15_8]

set_option maxRecDepth 16384 in
/-- The operations before the loops write only the listed buffers. -/
theorem opsP_writes : (opsP (F := F)).Forall fun op => op.writes ⊆ (opsPW.map (Proc.devRef (τ := τ) .tc)).toFinset :=
  StableHlo.forall_writes_sub_of_map (by rfl)

set_option maxRecDepth 16384 in
/-- The operations before the loops allocate nothing. -/
theorem opsP_fresh : ∀ op ∈ opsP (F := F), op.fresh = ∅ :=
  List.forall_iff_forall_mem.mp (StableHlo.forall_fresh_of_map (by rfl))

set_option maxRecDepth 16384 in
/-- The operations before the loops touch only the tensor core's buffers. -/
theorem opsP_sub : (opsP (F := F)).Forall fun op => op.bufs ⊆ StableHlo.tcRefs τ sig := by
  simp only [opsP, List.Forall, StableHlo.TRef.nullary, StableHlo.TRef.unary, StableHlo.TRef.binary, StableHlo.TRef.ternary, StableHlo.TRef.reshape, StableHlo.TRef.unaryIndexed, StableHlo.TRef.binaryIndexed, StableHlo.nullary_bufs_sub, StableHlo.unary_bufs_sub, StableHlo.binary_bufs_sub,
    StableHlo.ternary_bufs_sub, StableHlo.reshape_bufs_sub, StableHlo.unaryIndexed_bufs_sub, StableHlo.binaryIndexed_bufs_sub, and_self]

set_option maxRecDepth 16384 in
/-- The operations between the loops write only the listed buffers. -/
theorem opsQ_writes : (opsQ (F := F)).Forall fun op => op.writes ⊆ (opsQW.map (Proc.devRef (τ := τ) .tc)).toFinset :=
  StableHlo.forall_writes_sub_of_map (by rfl)

set_option maxRecDepth 16384 in
/-- The operations between the loops allocate nothing. -/
theorem opsQ_fresh : ∀ op ∈ opsQ (F := F), op.fresh = ∅ :=
  List.forall_iff_forall_mem.mp (StableHlo.forall_fresh_of_map (by rfl))

set_option maxRecDepth 16384 in
/-- The operations between the loops touch only the tensor core's buffers. -/
theorem opsQ_sub : (opsQ (F := F)).Forall fun op => op.bufs ⊆ StableHlo.tcRefs τ sig := by
  simp only [opsQ, List.Forall, StableHlo.TRef.nullary, StableHlo.TRef.unary, StableHlo.TRef.binary, StableHlo.TRef.ternary, StableHlo.TRef.reshape, StableHlo.TRef.unaryIndexed, StableHlo.TRef.binaryIndexed, StableHlo.nullary_bufs_sub, StableHlo.unary_bufs_sub, StableHlo.binary_bufs_sub,
    StableHlo.ternary_bufs_sub, StableHlo.reshape_bufs_sub, StableHlo.unaryIndexed_bufs_sub, StableHlo.binaryIndexed_bufs_sub, and_self]

set_option maxRecDepth 16384 in
/-- The operations after the loops write only the listed buffers. -/
theorem opsR_writes : (opsR (F := F)).Forall fun op => op.writes ⊆ (opsRW.map (Proc.devRef (τ := τ) .tc)).toFinset :=
  StableHlo.forall_writes_sub_of_map (by rfl)

set_option maxRecDepth 16384 in
/-- The operations after the loops allocate nothing. -/
theorem opsR_fresh : ∀ op ∈ opsR (F := F), op.fresh = ∅ :=
  List.forall_iff_forall_mem.mp (StableHlo.forall_fresh_of_map (by rfl))

set_option maxRecDepth 16384 in
/-- The operations after the loops touch only the tensor core's buffers. -/
theorem opsR_sub : (opsR (F := F)).Forall fun op => op.bufs ⊆ StableHlo.tcRefs τ sig := by
  simp only [opsR, List.Forall, StableHlo.TRef.nullary, StableHlo.TRef.unary, StableHlo.TRef.binary, StableHlo.TRef.ternary, StableHlo.TRef.reshape, StableHlo.TRef.unaryIndexed, StableHlo.TRef.binaryIndexed, StableHlo.nullary_bufs_sub, StableHlo.unary_bufs_sub, StableHlo.binary_bufs_sub,
    StableHlo.ternary_bufs_sub, StableHlo.reshape_bufs_sub, StableHlo.unaryIndexed_bufs_sub, StableHlo.binaryIndexed_bufs_sub, and_self]

set_option maxRecDepth 16384 in
/-- The first loop's test writes only the listed buffers. -/
theorem condA_writes : (condA (F := F)).Forall fun op => op.writes ⊆ (condAW.map (Proc.devRef (τ := τ) .tc)).toFinset :=
  StableHlo.forall_writes_sub_of_map (by rfl)

set_option maxRecDepth 16384 in
/-- The first loop's test allocates nothing. -/
theorem condA_fresh : ∀ op ∈ condA (F := F), op.fresh = ∅ :=
  List.forall_iff_forall_mem.mp (StableHlo.forall_fresh_of_map (by rfl))

set_option maxRecDepth 16384 in
/-- The first loop's test touches only the tensor core's buffers. -/
theorem condA_sub : (condA (F := F)).Forall fun op => op.bufs ⊆ StableHlo.tcRefs τ sig := by
  simp only [condA, List.Forall, StableHlo.TRef.nullary, StableHlo.TRef.unary, StableHlo.TRef.binary, StableHlo.TRef.ternary, StableHlo.TRef.reshape, StableHlo.TRef.unaryIndexed, StableHlo.TRef.binaryIndexed, StableHlo.nullary_bufs_sub, StableHlo.unary_bufs_sub, StableHlo.binary_bufs_sub,
    StableHlo.ternary_bufs_sub, StableHlo.reshape_bufs_sub, StableHlo.unaryIndexed_bufs_sub, StableHlo.binaryIndexed_bufs_sub, and_self]

set_option maxRecDepth 16384 in
/-- The first loop's body writes only the listed buffers. -/
theorem bodyA_writes : (bodyA (F := F)).Forall fun op => op.writes ⊆ (bodyAW.map (Proc.devRef (τ := τ) .tc)).toFinset :=
  StableHlo.forall_writes_sub_of_map (by rfl)

set_option maxRecDepth 16384 in
/-- The first loop's body allocates nothing. -/
theorem bodyA_fresh : ∀ op ∈ bodyA (F := F), op.fresh = ∅ :=
  List.forall_iff_forall_mem.mp (StableHlo.forall_fresh_of_map (by rfl))

set_option maxRecDepth 16384 in
/-- The first loop's body touches only the tensor core's buffers. -/
theorem bodyA_sub : (bodyA (F := F)).Forall fun op => op.bufs ⊆ StableHlo.tcRefs τ sig := by
  simp only [bodyA, List.Forall, StableHlo.TRef.nullary, StableHlo.TRef.unary, StableHlo.TRef.binary, StableHlo.TRef.ternary, StableHlo.TRef.reshape, StableHlo.TRef.unaryIndexed, StableHlo.TRef.binaryIndexed, StableHlo.nullary_bufs_sub, StableHlo.unary_bufs_sub, StableHlo.binary_bufs_sub,
    StableHlo.ternary_bufs_sub, StableHlo.reshape_bufs_sub, StableHlo.unaryIndexed_bufs_sub, StableHlo.binaryIndexed_bufs_sub, and_self]

set_option maxRecDepth 16384 in
/-- The second loop's test writes only the listed buffers. -/
theorem condB_writes : (condB (F := F)).Forall fun op => op.writes ⊆ (condBW.map (Proc.devRef (τ := τ) .tc)).toFinset :=
  StableHlo.forall_writes_sub_of_map (by rfl)

set_option maxRecDepth 16384 in
/-- The second loop's test allocates nothing. -/
theorem condB_fresh : ∀ op ∈ condB (F := F), op.fresh = ∅ :=
  List.forall_iff_forall_mem.mp (StableHlo.forall_fresh_of_map (by rfl))

set_option maxRecDepth 16384 in
/-- The second loop's test touches only the tensor core's buffers. -/
theorem condB_sub : (condB (F := F)).Forall fun op => op.bufs ⊆ StableHlo.tcRefs τ sig := by
  simp only [condB, List.Forall, StableHlo.TRef.nullary, StableHlo.TRef.unary, StableHlo.TRef.binary, StableHlo.TRef.ternary, StableHlo.TRef.reshape, StableHlo.TRef.unaryIndexed, StableHlo.TRef.binaryIndexed, StableHlo.nullary_bufs_sub, StableHlo.unary_bufs_sub, StableHlo.binary_bufs_sub,
    StableHlo.ternary_bufs_sub, StableHlo.reshape_bufs_sub, StableHlo.unaryIndexed_bufs_sub, StableHlo.binaryIndexed_bufs_sub, and_self]

set_option maxRecDepth 16384 in
/-- The second loop's body writes only the listed buffers. -/
theorem bodyB_writes : (bodyB (F := F)).Forall fun op => op.writes ⊆ (bodyBW.map (Proc.devRef (τ := τ) .tc)).toFinset :=
  StableHlo.forall_writes_sub_of_map (by rfl)

set_option maxRecDepth 16384 in
/-- The second loop's body allocates nothing. -/
theorem bodyB_fresh : ∀ op ∈ bodyB (F := F), op.fresh = ∅ :=
  List.forall_iff_forall_mem.mp (StableHlo.forall_fresh_of_map (by rfl))

set_option maxRecDepth 16384 in
/-- The second loop's body touches only the tensor core's buffers. -/
theorem bodyB_sub : (bodyB (F := F)).Forall fun op => op.bufs ⊆ StableHlo.tcRefs τ sig := by
  simp only [bodyB, List.Forall, StableHlo.TRef.nullary, StableHlo.TRef.unary, StableHlo.TRef.binary, StableHlo.TRef.ternary, StableHlo.TRef.reshape, StableHlo.TRef.unaryIndexed, StableHlo.TRef.binaryIndexed, StableHlo.nullary_bufs_sub, StableHlo.unary_bufs_sub, StableHlo.binary_bufs_sub,
    StableHlo.ternary_bufs_sub, StableHlo.reshape_bufs_sub, StableHlo.unaryIndexed_bufs_sub, StableHlo.binaryIndexed_bufs_sub, and_self]

/-- A host program of this module. -/
abbrev HostProg (F : FTy → Type) [FloatOps F] : Type 1 :=
  Idealize.SL.Sem.Prog (TpuEff nD τ sig (Elt F) (HostLoop.Sig (Pipeline.Sig Λ₀ (Fin 0) fun p => (pcfgs (F := F) p).Adm) 2) .tc) PUnit

set_option maxRecDepth 16384 in
set_option maxHeartbeats 4000000 in
/-- The first loop's body as its line. -/
theorem bodyA_eq : main_while0_body (F := F) = Pipeline.chain ([bodyA].map fun ops => (StableHlo.seq ops : HostProg F)) := by
  chain_rfl

set_option maxRecDepth 16384 in
set_option maxHeartbeats 4000000 in
/-- The second loop's body as its line. -/
theorem bodyB_eq : main_while1_body (F := F) = Pipeline.chain ([bodyB].map fun ops => (StableHlo.seq ops : HostProg F)) := by
  chain_rfl

set_option maxRecDepth 16384 in
set_option maxHeartbeats 4000000 in
/-- The main function: the lines around the two loops. -/
theorem main_eq (d : Dev nD) :
    main (F := F) d = Pipeline.chain [StableHlo.seq opsP, HostLoop.enter 0, StableHlo.seq opsQ, HostLoop.enter 1, StableHlo.seq opsR] := by
  chain_rfl

end Cert.ReferenceIdeal.Rf

end
-- ==== Proof.RefRun.lean ====
/- The reference's run: three lines round two counted loops, and what every buffer holds at the end. -/
module

public import proofs.«01_k».proof.Proof.RefHost
public import Idealize.ShloMosaic.Lib.Pipeline.RegionsLoop
public import Idealize.ShloMosaic.Lib.Scf.ExitTest
public import Idealize.ShloMosaic.Lib.Scf.Counter

@[expose] public section

noncomputable section

namespace Cert.ReferenceIdeal.Rf

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)
open Cert.ReferenceIdeal Facts₀ Facts
open Cert.ReferenceIdeal.Gen (facts₀ facts)

variable {F : FTy → Type} [FloatOps F]

local notation "𝕄" => MT nD τ sig Unit (Elt F) ℕ (Option PUnit) ℕ

/-- A valuation of every device. -/
abbrev DV (F : FTy → Type) [FloatOps F] : Type := Dev nD → Valuation τ sig (Elt F)

/-- The memory as a valuation of every device. -/
def at0 (m : (ℓ : Loc nD τ sig) → Buf (Elt F) ℓ) : DV F := fun c b => m ((c : Dev nD), b)

/-- The buffers when the first loop is entered. -/
def E1 (W : DV F) : DV F := fun c => after opsP (W c)
/-- The buffers before the first loop's test of number `k`. -/
def A (W : DV F) (k : ℕ) : DV F := atTrip condA [bodyA] (E1 W) k
/-- The buffers when the second loop is entered. -/
def E2 (W : DV F) : DV F := fun c => after opsQ (after condA (A W 128 c))
/-- The buffers before the second loop's test of number `k`. -/
def B (W : DV F) (k : ℕ) : DV F := atTrip condB [bodyB] (E2 W) k
/-- The buffers at the end. -/
def Z (W : DV F) : DV F := fun c => after opsR (after condB (B W 128 c))

/-- Before any trip of the first loop the buffers are as at its entry. -/
theorem A_zero (W : DV F) : A W 0 = E1 W := rfl
/-- One more trip of the first loop is its test and its body. -/
theorem A_succ (W : DV F) (k : ℕ) (c : Dev nD) : A W (k + 1) c = after bodyA (after condA (A W k c)) := rfl
/-- Before any trip of the second loop the buffers are as at its entry. -/
theorem B_zero (W : DV F) : B W 0 = E2 W := rfl
/-- One more trip of the second loop is its test and its body. -/
theorem B_succ (W : DV F) (k : ℕ) (c : Dev nD) : B W (k + 1) c = after bodyB (after condB (B W k c)) := rfl

/-! ## The counters -/

/-- The first loop's test leaves its counter. -/
theorem ctrA_cond (V : Valuation τ sig (Elt F)) : after condA V (Proc.devRef .tc main_v8_5) = V (Proc.devRef .tc main_v8_5) :=
  after_of_writes_sub condA V condA_writes (by decide)

/-- The second loop's test leaves its counter. -/
theorem ctrB_cond (V : Valuation τ sig (Elt F)) : after condB V (Proc.devRef .tc main_v15_5) = V (Proc.devRef .tc main_v15_5) :=
  after_of_writes_sub condB V condB_writes (by decide)

set_option maxRecDepth 16384 in
set_option maxHeartbeats 2000000 in
/-- The first loop's body adds one to its counter. -/
theorem ctrA_step (X : Valuation τ sig (Elt F)) :
    after bodyA X (Proc.devRef .tc main_v8_5) = addi (X (Proc.devRef .tc main_v8_5)) (constantI S_ 32 1#32) := by
  after_reads_simp
  rfl

set_option maxRecDepth 16384 in
set_option maxHeartbeats 2000000 in
/-- The second loop's body adds one to its counter. -/
theorem ctrB_step (X : Valuation τ sig (Elt F)) :
    after bodyB X (Proc.devRef .tc main_v15_5) = addi (X (Proc.devRef .tc main_v15_5)) (constantI S_ 32 1#32) := by
  after_reads_simp
  rfl

set_option maxRecDepth 16384 in
set_option maxHeartbeats 2000000 in
/-- The first loop's counter starts at zero. -/
theorem ctrA_entry (X : Valuation τ sig (Elt F)) : after opsP X (Proc.devRef .tc main_v8_5) = fun _ => (0#32 : BitVec 32) := by
  after_reads_simp
  rfl

set_option maxRecDepth 16384 in
set_option maxHeartbeats 2000000 in
/-- The second loop's counter starts at zero. -/
theorem ctrB_entry (X : Valuation τ sig (Elt F)) : after opsQ X (Proc.devRef .tc main_v15_5) = fun _ => (0#32 : BitVec 32) := by
  after_reads_simp
  rfl

/-- The first loop's counter after `k` trips. -/
theorem ctrA (W : DV F) (c : Dev nD) : ∀ k, A W k c (Proc.devRef .tc main_v8_5) = fun _ => Scf.iv 0#32 1#32 k
  | 0 => by rw [A_zero, E1, ctrA_entry, Scf.iv_zero]
  | k + 1 => by
    rw [A_succ, ctrA_step, ctrA_cond, ctrA W c k, Scf.iv_succ]
    rfl

/-- The second loop's counter after `k` trips. -/
theorem ctrB (W : DV F) (c : Dev nD) : ∀ k, B W k c (Proc.devRef .tc main_v15_5) = fun _ => Scf.iv 0#32 1#32 k
  | 0 => by rw [B_zero, E2, ctrB_entry, Scf.iv_zero]
  | k + 1 => by
    rw [B_succ, ctrB_step, ctrB_cond, ctrB W c k, Scf.iv_succ]
    rfl

/-! ## The loops' tests -/

set_option backward.isDefEq.respectTransparency.types false in
/-- The first loop's test says that fewer than 128 steps are done. -/
theorem testA (W : DV F) (Rc : Dev nD → sProp 𝕄) :
    LoopCond (pcfgs (F := F)) defs₀ Variants.none loops Rc (main_while0_cond (F := F)) condA [bodyA] (E1 W) 128 := by
  intro k hk c bd
  have hctr := ctrA W c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A W k c) main_v8_5 HostLoop.idx0)
        (HloOp.result _ (A W k c) main_while0c_c_16 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [condA, after_cons, after_cons, after_nil]; iexact Hh
  iexact HR

set_option backward.isDefEq.respectTransparency.types false in
/-- The second loop's test says that fewer than 128 steps are done. -/
theorem testB (W : DV F) (Rc : Dev nD → sProp 𝕄) :
    LoopCond (pcfgs (F := F)) defs₀ Variants.none loops Rc (main_while1_cond (F := F)) condB [bodyB] (E2 W) 128 := by
  intro k hk c bd
  have hctr := ctrB W c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (B W k c) main_v15_5 HostLoop.idx0)
        (HloOp.result _ (B W k c) main_while1c_c_16 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [condB, after_cons, after_cons, after_nil]; iexact Hh
  iexact HR

/-! ## The run -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- No pipeline, so no staging cell. -/
theorem cells : Function.Injective (Pipeline.cellOf (nD := nD) (τ := τ) (Pipeline.pin (pcfgs (F := F)) adm)) := fun k => k.1.elim0

/-- What rides along beside the buffers. -/
abbrev Rw (c : Dev nD) : sProp 𝕄 := iprop(∃ W, owes (c : Thread nD τ) (0 : CellTallies nD τ sig Unit) W)

/-- These host operations are plain: no launch, no allocation. -/
theorem plainP : Plain [opsP (F := F)] := .cons opsP_sub .nil opsP_fresh
/-- These host operations are plain: no launch, no allocation. -/
theorem plainQ : Plain [opsQ (F := F)] := .cons opsQ_sub .nil opsQ_fresh
/-- These host operations are plain: no launch, no allocation. -/
theorem plainR : Plain [opsR (F := F)] := .cons opsR_sub .nil opsR_fresh
/-- The first loop's body is plain host operations. -/
theorem plainA : Plain [bodyA (F := F)] := .cons bodyA_sub .nil bodyA_fresh
/-- The second loop's body is plain host operations. -/
theorem plainB : Plain [bodyB (F := F)] := .cons bodyB_sub .nil bodyB_fresh

/-- The main function's segments: a line, a loop, a line, a loop, a line. -/
def segs (W : DV F) : List (CSeg (pcfgs (F := F)) adm defs₀ Variants.none L lv loops tk) :=
  segsOf _ _ _ _ _ _ _ _ Rw [opsP] plainP W
    ++ loopSeg _ _ _ _ _ _ _ _ 0 main_while0_cond main_while0_body rfl condA [bodyA] plainA bodyA_eq 128 (E1 W) Rw (testA W Rw)
      :: (segsOf _ _ _ _ _ _ _ _ Rw [opsQ] plainQ (fun c => after condA (A W 128 c))
        ++ loopSeg _ _ _ _ _ _ _ _ 1 main_while1_cond main_while1_body rfl condB [bodyB] plainB bodyB_eq 128 (E2 W) Rw (testB W Rw)
          :: segsOf _ _ _ _ _ _ _ _ Rw [opsR] plainR (fun c => after condB (B W 128 c)))

/-- The reference is its five stretches in order. -/
theorem segs_prog (W : DV F) : (segs W).map CSeg.prog = [StableHlo.seq opsP, HostLoop.enter 0, StableHlo.seq opsQ, HostLoop.enter 1, StableHlo.seq opsR] := by
  unfold segs
  rw [List.map_append, List.map_cons, List.map_append, List.map_cons, segsOf_prog, segsOf_prog, segsOf_prog]
  rfl

/-- The five stretches lead from the first contents to the last. -/
theorem segs_chains (W : DV F) :
    CSeg.Chains (fun c => iprop(held (c : Thread nD τ) (ucRefs τ sig) (W c) ∗ Rw c)) (segs W)
      (fun c => iprop(iprop(held (c : Thread nD τ) (ucRefs τ sig) (Z W c)) ∗ ∃ W, owes (c : Thread nD τ) (0 : CellTallies nD τ sig Unit) W)) := by
  unfold segs
  exact CSeg.Chains.append (segsOf_chains _ _ _ _ _ _ _ _ Rw [opsP] plainP W)
    ⟨fun _ => .rfl, CSeg.Chains.append (segsOf_chains _ _ _ _ _ _ _ _ Rw [opsQ] plainQ _)
      ⟨fun _ => .rfl, segsOf_chains _ _ _ _ _ _ _ _ Rw [opsR] plainR _⟩⟩

/-- THE REFERENCE'S RUN: from zero counters it ends, and every tensor buffer holds what the lines and the loops' steps leave. -/
theorem run_main [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = Z (at0 m) c (Proc.devRef .tc b)) :=
  Pipeline.θ_run_regions_loop_kit (Ix := Unit) (Name := ℕ) (U := Option PUnit) (Lvl := ℕ) (J := Fin 0) (P := Fin 0) (Val := Elt F)
    (pcfgs (F := F)) adm cells defs₀ Variants.none L lv loops tk m ρ main (segs (at0 m))
    (fun c Q => by
      unfold CSeg.runL
      rw [main_eq c, segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (at0 m c) ∗ Rw c))
    (Tₙ := fun c => iprop(held (c : Thread nD τ) (ucRefs τ sig) (Z (at0 m) c)))
    (hch := segs_chains (at0 m))
    (hinit := by
      refine Pipeline.initEach L lv fun c => ?_
      rw [show unscopedBufs c (fun b => m ((c : Thread nD τ).loc b)) = held (c : Thread nD τ) (ucRefs τ sig) (at0 m c) from Pipeline.unscopedBufs_held c (at0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z (at0 m) c b)
    (hfin := fun c s' => by
      unfold held
      iintro ⟨Hh, HSI⟩
      ihave Hr := (pointsTo_read_all (ucRefs τ sig) (fun b => ((c : Dev nD), b)) (fun b => Z (at0 m) c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Rf

end
-- ==== Proof.RefFrame.lean ====
/- The reference keeps its arguments, and its run is a frame. -/
module

public import proofs.«01_k».proof.Proof.RefRun
public import proofs.«01_k».proof.Proof.Gen.Pre_pre
public import proofs.«01_k».proof.Defs
public import Idealize.ShloMosaic.Lib.Quiescent

@[expose] public section

noncomputable section

namespace Cert.ReferenceIdeal.Rf

open Idealize.ShloMosaic
open Idealize.ShloMosaic.TcCoe Idealize.ShloMosaic.Tactic
open Idealize.SL Idealize.SL.Sem
open Idealize.ShloMosaic.StableHlo
open Cert.ReferenceIdeal Facts₀ Facts
open Cert.ReferenceIdeal.Gen (facts₀ facts)

variable {F : FTy → Type} [FloatOps F]

/-- What one trip of the first loop writes. -/
def tripAW : List (Ref sig .tc) := condAW ++ bodyAW
/-- What one trip of the second loop writes. -/
def tripBW : List (Ref sig .tc) := condBW ++ bodyBW
/-- What the program writes. -/
def written : List (Ref sig .tc) := opsPW ++ tripAW ++ opsQW ++ tripBW ++ opsRW

/-- A buffer that the first loop does not write is the same before every test. -/
theorem A_kept (W : DV F) (c : Dev nD) (x : Ref sig .tc) (h : x ∉ tripAW) :
    ∀ k, A W k c (Proc.devRef .tc x) = E1 W c (Proc.devRef .tc x)
  | 0 => rfl
  | k + 1 => by
    rw [A_succ, after_of_writes_sub bodyA _ bodyA_writes (fun hx => h (List.mem_append_right _ hx)),
      after_of_writes_sub condA _ condA_writes (fun hx => h (List.mem_append_left _ hx))]
    exact A_kept W c x h k

/-- A buffer that the second loop does not write is the same before every test. -/
theorem B_kept (W : DV F) (c : Dev nD) (x : Ref sig .tc) (h : x ∉ tripBW) :
    ∀ k, B W k c (Proc.devRef .tc x) = E2 W c (Proc.devRef .tc x)
  | 0 => rfl
  | k + 1 => by
    rw [B_succ, after_of_writes_sub bodyB _ bodyB_writes (fun hx => h (List.mem_append_right _ hx)),
      after_of_writes_sub condB _ condB_writes (fun hx => h (List.mem_append_left _ hx))]
    exact B_kept W c x h k

/-- A buffer that the first loop does not write passes through it and its last test. -/
theorem exitA_kept (W : DV F) (c : Dev nD) (x : Ref sig .tc) (h : x ∉ tripAW) :
    after condA (A W 128 c) (Proc.devRef .tc x) = E1 W c (Proc.devRef .tc x) :=
  (after_of_writes_sub condA _ condA_writes (fun hx => h (List.mem_append_left _ hx))).trans (A_kept W c x h 128)

/-- A buffer that the second loop does not write passes through it and its last test. -/
theorem exitB_kept (W : DV F) (c : Dev nD) (x : Ref sig .tc) (h : x ∉ tripBW) :
    after condB (B W 128 c) (Proc.devRef .tc x) = E2 W c (Proc.devRef .tc x) :=
  (after_of_writes_sub condB _ condB_writes (fun hx => h (List.mem_append_left _ hx))).trans (B_kept W c x h 128)

/-- A buffer that the program does not write ends as it was. -/
theorem Z_kept (W : DV F) (c : Dev nD) (x : Ref sig .tc) (h : x ∉ written) : Z W c (Proc.devRef .tc x) = W c (Proc.devRef .tc x) := by
  have hR : x ∉ opsRW := fun hx => h (List.mem_append_right _ hx)
  have h4 : x ∉ opsPW ++ tripAW ++ opsQW ++ tripBW := fun hx => h (List.mem_append_left _ hx)
  have hB : x ∉ tripBW := fun hx => h4 (List.mem_append_right _ hx)
  have h3 : x ∉ opsPW ++ tripAW ++ opsQW := fun hx => h4 (List.mem_append_left _ hx)
  have hQ : x ∉ opsQW := fun hx => h3 (List.mem_append_right _ hx)
  have h2 : x ∉ opsPW ++ tripAW := fun hx => h3 (List.mem_append_left _ hx)
  have hA : x ∉ tripAW := fun hx => h2 (List.mem_append_right _ hx)
  have hP : x ∉ opsPW := fun hx => h2 (List.mem_append_left _ hx)
  exact (after_of_writes_sub opsR _ opsR_writes hR).trans <| (exitB_kept W c x hB).trans <|
    (after_of_writes_sub opsQ _ opsQ_writes hQ).trans <| (exitA_kept W c x hA).trans (after_of_writes_sub opsP _ opsP_writes hP)

/-- What the run leaves: every tensor buffer at its last contents. -/
def QR (m : (ℓ : Loc nD τ sig) → Buf (Elt F) ℓ) (r : PUnit × MemSt nD τ sig (Elt F)) : Prop :=
  ∀ (c : Dev nD) (b : Ref sig .tc), (Proc.devRef .tc b : DevRef τ sig).isScoped = false →
    r.2.mem ((c.tc : Thread nD τ).loc b) = Z (at0 m) c (Proc.devRef .tc b)

/-- At the end of the run every argument is as it was. -/
theorem args_kept (m : (ℓ : Loc nD τ sig) → Buf (Elt F) ℓ) (r : PUnit × MemSt nD τ sig (Elt F)) (h : QR m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have k := fun (x : Ref sig .tc) (hs : (Proc.devRef .tc x : DevRef τ sig).isScoped = false) hx => (h c x hs).trans (Z_kept (at0 m) c x hx)
  exact ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide)⟩

/-- The reference runs, keeps its arguments and leaves every semaphore at zero. -/
theorem frame_run [∀ e, Nonempty (Elt F e)] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨args_kept m r h, sem_eq_zero_of_no_sems (by decide) r.2⟩) (run_main m g)

/-- The reference's frame, of any arguments. -/
theorem frame_all : Cert.quiescent_ReferenceIdeal := fun m g _ => frame_run (F := Ideal) m g

/-- The same, stated of the value claim's arguments. -/
theorem frame_value : Cert.quiescent_ReferenceIdeal_pre_pre := fun m g _ => frame_run (F := Ideal) m g

end Cert.ReferenceIdeal.Rf

end
-- ==== Proof.LstmMath.lean ====
/- The recurrence over the extended reals: one direction's steps, and that the packed, scaled product computes both directions' gates. -/
module

public import Idealize.ShloMosaic.PureOps.Ideal
public import Idealize.ShloMosaic.PureOps.Ideal.Laws
public import Mathlib.Algebra.BigOperators.Fin

@[expose] public section

noncomputable section

namespace Cert.Lstm

open Idealize.ShloMosaic

/-! ## One direction -/

/-- One direction's weights and biases, gates in the order input, forget, candidate, output. -/
structure Dir where
  wi : Fin 256 → Fin 100 → EReal
  wh : Fin 256 → Fin 64 → EReal
  bi : Fin 256 → EReal
  bh : Fin 256 → EReal

/-- Unit `u` of gate `q`. -/
def gix (q : Fin 4) (u : Fin 64) : Fin 256 := ⟨64 * q.val + u.val, by have := q.isLt; have := u.isLt; omega⟩

/-- A gate before its nonlinearity. -/
def Dir.lin (D : Dir) (x : Fin 100 → EReal) (h : Fin 64 → EReal) (j : Fin 256) : EReal :=
  ((∑ e, x e * D.wi j e) + ∑ m, h m * D.wh j m) + D.bi j + D.bh j

/-- The cell state after a step. -/
def Dir.cell (D : Dir) (x : Fin 100 → EReal) (h c : Fin 64 → EReal) (u : Fin 64) : EReal :=
  Ideal.logistic (D.lin x h (gix 1 u)) * c u + Ideal.logistic (D.lin x h (gix 0 u)) * Ideal.tanh (D.lin x h (gix 2 u))

/-- The hidden state after a step. -/
def Dir.hid (D : Dir) (x : Fin 100 → EReal) (h c : Fin 64 → EReal) (u : Fin 64) : EReal :=
  Ideal.logistic (D.lin x h (gix 3 u)) * Ideal.tanh (D.cell x h c u)

/-- The hidden and the cell state after `n` steps over the words `xs`. -/
def Dir.st (D : Dir) (xs : ℕ → Fin 100 → EReal) : ℕ → (Fin 64 → EReal) × (Fin 64 → EReal)
  | 0 => (fun _ => 0, fun _ => 0)
  | n + 1 => (D.hid (xs n) (D.st xs n).1 (D.st xs n).2, D.cell (xs n) (D.st xs n).1 (D.st xs n).2)

/-- Before any word both states are zero. -/
theorem Dir.st_zero (D : Dir) (xs : ℕ → Fin 100 → EReal) : D.st xs 0 = (fun _ => 0, fun _ => 0) := rfl
/-- The states after one more word. -/
theorem Dir.st_succ (D : Dir) (xs : ℕ → Fin 100 → EReal) (n : ℕ) :
    D.st xs (n + 1) = (D.hid (xs n) (D.st xs n).1 (D.st xs n).2, D.cell (xs n) (D.st xs n).1 (D.st xs n).2) := rfl

/-- The states after `n` steps depend on the first `n` words only. -/
theorem Dir.st_congr (D : Dir) {xs ys : ℕ → Fin 100 → EReal} : ∀ n, (∀ k < n, xs k = ys k) → D.st xs n = D.st ys n
  | 0, _ => rfl
  | n + 1, h => by rw [D.st_succ, D.st_succ, D.st_congr n (fun k hk => h k (Nat.lt_succ_of_lt hk)), h n (Nat.lt_succ_self n)]

/-! ## Scaling -/

/-- Two is not negative. -/
theorem two_nonneg : (0 : EReal) ≤ ((2 : ℝ) : EReal) := by exact_mod_cast (by norm_num : (0 : ℝ) ≤ 2)

/-- A finite factor that is not negative moves out of a sum. -/
theorem sum_scale {ι : Type} (s : Finset ι) (f : ι → EReal) (r : ℝ) (hr : 0 ≤ r) : ∑ i ∈ s, f i * (r : EReal) = (∑ i ∈ s, f i) * (r : EReal) := by
  classical
  have h0 : (0 : EReal) ≤ (r : EReal) := by exact_mod_cast hr
  induction s using Finset.induction_on with
  | empty => simp
  | insert a s ha ih => rw [Finset.sum_insert ha, Finset.sum_insert ha, ih, EReal.right_distrib_of_nonneg_of_ne_top h0 (EReal.coe_ne_top r)]

/-- Scaling by a nonnegative real distributes over a sum of extended reals. -/
theorem add_scale (a b : EReal) (r : ℝ) (hr : 0 ≤ r) : a * (r : EReal) + b * (r : EReal) = (a + b) * (r : EReal) :=
  (EReal.right_distrib_of_nonneg_of_ne_top (by exact_mod_cast hr) (EReal.coe_ne_top r) a b).symm

/-- The candidate gate's nonlinearity from the logistic function of the doubled argument. -/
theorem two_logistic (x : EReal) : ((2 : ℝ) : EReal) * Ideal.logistic (x * ((2 : ℝ) : EReal)) - 1 = Ideal.tanh x := by
  induction x using EReal.rec with
  | bot =>
    rw [EReal.bot_mul_coe_of_pos (by norm_num), Ideal.logistic_bot, mul_zero, zero_sub, Ideal.tanh_bot]
  | top =>
    rw [EReal.top_mul_coe_of_pos (by norm_num), Ideal.logistic_top, mul_one, Ideal.tanh_top]
    exact_mod_cast (by norm_num : (2 : ℝ) - 1 = 1)
  | coe r =>
    rw [← EReal.coe_mul, Ideal.logistic_coe, Ideal.tanh_coe, ← EReal.coe_mul, ← EReal.coe_one, ← EReal.coe_sub]
    congr 1
    rw [Real.tanh_eq]
    have e : Real.exp (-(r * 2)) = Real.exp (-r) * Real.exp (-r) := by rw [← Real.exp_add]; congr 1; ring
    have p : Real.exp r * Real.exp (-r) = 1 := by rw [← Real.exp_add]; simp
    have h1 : (0 : ℝ) < Real.exp r := Real.exp_pos r
    have h2 : (0 : ℝ) < Real.exp (-r) := Real.exp_pos (-r)
    rw [e]
    have h3 : (1 + Real.exp (-r) * Real.exp (-r)) ≠ 0 := by positivity
    have h4 : Real.exp r + Real.exp (-r) ≠ 0 := by positivity
    field_simp
    linear_combination (-2 * Real.exp (-r)) * p

/-! ## Sums over the packed rows -/

section
variable {M : Type} [AddCommMonoid M]

/-- A sum over `a + b` in its two stretches. -/
theorem sum_two {n : ℕ} (a b : ℕ) (h : n = a + b) (f : Fin n → M) :
    ∑ i, f i = (∑ i : Fin a, f ⟨i.val, by have := i.isLt; omega⟩) + ∑ i : Fin b, f ⟨a + i.val, by have := i.isLt; omega⟩ := by
  subst h
  rw [Fin.sum_univ_add]
  rfl

/-- A sum over 384 rows: words and padding, words and padding, two hidden halves. -/
theorem sum_rows (f : Fin 384 → M) : ∑ i, f i
    = ((∑ e : Fin 100, f ⟨e.val, by have := e.isLt; omega⟩) + ∑ e : Fin 28, f ⟨100 + e.val, by have := e.isLt; omega⟩)
      + (((∑ e : Fin 100, f ⟨128 + e.val, by have := e.isLt; omega⟩) + ∑ e : Fin 28, f ⟨228 + e.val, by have := e.isLt; omega⟩)
      + ((∑ m : Fin 64, f ⟨256 + m.val, by have := m.isLt; omega⟩) + ∑ m : Fin 64, f ⟨320 + m.val, by have := m.isLt; omega⟩)) := by
  rw [sum_two 128 256 rfl f, sum_two 100 28 rfl, sum_two (n := 256) 128 128 rfl, sum_two (n := 128) 100 28 rfl, sum_two (n := 128) 64 64 rfl]
  refine congr (congrArg _ (congr (congrArg _ rfl) rfl)) (congr (congrArg _ (congr (congrArg _ rfl) ?_)) (congr (congrArg _ ?_) ?_))
  all_goals
    refine Finset.sum_congr rfl fun i _ => congrArg f (Fin.ext ?_)
    show _ = _
    dsimp only
    omega
end

/-- The column of unit `u` of gate `q` in direction `d`. -/
def col (q : Fin 4) (d : Fin 2) (u : Fin 64) : Fin 512 :=
  ⟨128 * q.val + (64 * d.val + u.val), by have := q.isLt; have := d.isLt; have := u.isLt; omega⟩

/-- The scale of a gate's columns: 2 for the candidate, 1 for the others. -/
def gs (q : Fin 4) : ℝ := if q = 2 then 2 else 1

/-- No gate's scale is negative. -/
theorem gs_nonneg (q : Fin 4) : 0 ≤ gs q := by unfold gs; split <;> norm_num

/-- How the weights are packed, forward direction `P`, backward direction `Q`: each block of rows feeds its own direction's columns. -/
structure Packed (P Q : Dir) (w : Fin 384 → Fin 512 → EReal) (b : Fin 512 → EReal) : Prop where
  wf : ∀ (e : Fin 100) q u, w ⟨e.val, by have := e.isLt; omega⟩ (col q 0 u) = P.wi (gix q u) e * (gs q : EReal)
  wf0 : ∀ (e : Fin 100) q u, w ⟨e.val, by have := e.isLt; omega⟩ (col q 1 u) = 0
  p : ∀ (e : Fin 28) q d u, w ⟨100 + e.val, by have := e.isLt; omega⟩ (col q d u) = 0
  wb : ∀ (e : Fin 100) q u, w ⟨128 + e.val, by have := e.isLt; omega⟩ (col q 1 u) = Q.wi (gix q u) e * (gs q : EReal)
  wb0 : ∀ (e : Fin 100) q u, w ⟨128 + e.val, by have := e.isLt; omega⟩ (col q 0 u) = 0
  p' : ∀ (e : Fin 28) q d u, w ⟨228 + e.val, by have := e.isLt; omega⟩ (col q d u) = 0
  hf : ∀ (m : Fin 64) q u, w ⟨256 + m.val, by have := m.isLt; omega⟩ (col q 0 u) = P.wh (gix q u) m * (gs q : EReal)
  hf0 : ∀ (m : Fin 64) q u, w ⟨256 + m.val, by have := m.isLt; omega⟩ (col q 1 u) = 0
  hb : ∀ (m : Fin 64) q u, w ⟨320 + m.val, by have := m.isLt; omega⟩ (col q 1 u) = Q.wh (gix q u) m * (gs q : EReal)
  hb0 : ∀ (m : Fin 64) q u, w ⟨320 + m.val, by have := m.isLt; omega⟩ (col q 0 u) = 0
  bf : ∀ q u, b (col q 0 u) = (P.bi (gix q u) + P.bh (gix q u)) * (gs q : EReal)
  bb : ∀ q u, b (col q 1 u) = (Q.bi (gix q u) + Q.bh (gix q u)) * (gs q : EReal)

/-- The rows: what a batch row holds when the gates are computed. -/
structure Rows (A : Fin 384 → EReal) (xf xb : Fin 100 → EReal) (hf hb : Fin 64 → EReal) : Prop where
  xf : ∀ e : Fin 100, A ⟨e.val, by have := e.isLt; omega⟩ = xf e
  xb : ∀ e : Fin 100, A ⟨128 + e.val, by have := e.isLt; omega⟩ = xb e
  hf : ∀ m : Fin 64, A ⟨256 + m.val, by have := m.isLt; omega⟩ = hf m
  hb : ∀ m : Fin 64, A ⟨320 + m.val, by have := m.isLt; omega⟩ = hb m

variable {P Q : Dir} {w : Fin 384 → Fin 512 → EReal} {b : Fin 512 → EReal} {A : Fin 384 → EReal} {xf xb : Fin 100 → EReal} {hf hb : Fin 64 → EReal}

/-- A forward column of the packed product is the forward gate, scaled. -/
theorem packed_fwd (W : Packed P Q w b) (R : Rows A xf xb hf hb) (q : Fin 4) (u : Fin 64) :
    (∑ r, A r * w r (col q 0 u)) + b (col q 0 u) = P.lin xf hf (gix q u) * (gs q : EReal) := by
  rw [sum_rows]
  simp only [W.wf, W.p, W.wb0, W.p', W.hf, W.hb0, W.bf, R.xf, R.hf, mul_zero, Finset.sum_const_zero, add_zero, zero_add, ← mul_assoc]
  rw [sum_scale _ _ _ (gs_nonneg q), sum_scale _ _ _ (gs_nonneg q), add_scale _ _ _ (gs_nonneg q), add_scale _ _ _ (gs_nonneg q)]
  unfold Dir.lin
  simp only [add_assoc]

/-- A backward column of the packed product is the backward gate, scaled. -/
theorem packed_bwd (W : Packed P Q w b) (R : Rows A xf xb hf hb) (q : Fin 4) (u : Fin 64) :
    (∑ r, A r * w r (col q 1 u)) + b (col q 1 u) = Q.lin xb hb (gix q u) * (gs q : EReal) := by
  rw [sum_rows]
  simp only [W.wf0, W.p, W.wb, W.p', W.hf0, W.hb, W.bb, R.xb, R.hb, mul_zero, Finset.sum_const_zero, add_zero, zero_add, ← mul_assoc]
  rw [sum_scale _ _ _ (gs_nonneg q), sum_scale _ _ _ (gs_nonneg q), add_scale _ _ _ (gs_nonneg q), add_scale _ _ _ (gs_nonneg q)]
  unfold Dir.lin
  simp only [add_assoc]

/-- The scale of a gate that is not the candidate drops out. -/
theorem scale_one (x : EReal) (q : Fin 4) (h : q ≠ 2) : x * (gs q : EReal) = x := by
  rw [gs, if_neg h, EReal.coe_one, mul_one]

/-- The cell gate's scale is two. -/
theorem gs_two : gs 2 = 2 := if_pos rfl

end Cert.Lstm

end
-- ==== Proof.LstmValue.lean ====
/- The recurrence's step over the extended reals, element by element. -/
module

public import proofs.«01_k».proof.Proof.LstmBody
public import proofs.«01_k».proof.Proof.LstmMath
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Pipeline.Value

@[expose] public section

noncomputable section

namespace Cert.KernelIdeal.Pf

open Idealize.ShloMosaic hiding ix0 ix1 ix2 ix3
open Idealize.ShloMosaic.ValueIdx
open Idealize.ShloMosaic.TcCoe Idealize.ShloMosaic.Tactic
open Cert.KernelIdeal Facts₀ Facts
open Cert.KernelIdeal.Gen (facts₀ facts k2_pay1 k2_pay2 k2_pay3 k2_pay4 k2_pay5 k2_pay6 k2_pay7 k2_pay8 k2_pay9 k2_pay10 k2_pay11 k2_pay12 k2_pay13 k2_pay14 k2_pay15 k2_pay16 k2_pay17)
open VecWindow (window put)
open Cert.Lstm

/-! ## Windows of columns and of planes -/

section
variable {α : Type}

/-- A window of columns put in, read inside it. -/
theorem put_cols_in {A B n : ℕ} (x : (⟨2, ![A, B]⟩ : Shape).Idx → α) (c : ℕ) (w : (⟨2, ![A, n]⟩ : Shape).Idx → α) (r : Fin A) (k : Fin n) (j : Fin B)
    (hj : j.val = c + k.val) : put x ![0, c] (⟨2, ![A, n]⟩ : Shape).size w (ix2 r j) = w (ix2 r k) := by
  have h : ∀ a : Fin 2, (![0, c] : Fin 2 → ℕ) a ≤ ((ix2 r j : (⟨2, ![A, B]⟩ : Shape).Idx) a).val
      ∧ ((ix2 r j : (⟨2, ![A, B]⟩ : Shape).Idx) a).val < (![0, c] : Fin 2 → ℕ) a + (⟨2, ![A, n]⟩ : Shape).size a := by
    intro a; fin_cases a
    · exact ⟨Nat.zero_le _, by show r.val < 0 + A; have := r.isLt; omega⟩
    · have := k.isLt
      exact ⟨by show c ≤ j.val; omega, by show j.val < c + n; omega⟩
  unfold put
  rw [dif_pos h]
  refine congrArg w (funext fun a => Fin.ext ?_)
  match a with
  | ⟨0, _⟩ => show r.val - 0 = r.val; omega
  | ⟨1, _⟩ => show j.val - c = k.val; omega

/-- A window of columns put in, read outside it. -/
theorem put_cols_out {A B n : ℕ} (x : (⟨2, ![A, B]⟩ : Shape).Idx → α) (c : ℕ) (w : (⟨2, ![A, n]⟩ : Shape).Idx → α) (r : Fin A) (j : Fin B)
    (hj : j.val < c ∨ c + n ≤ j.val) : put x ![0, c] (⟨2, ![A, n]⟩ : Shape).size w (ix2 r j) = x (ix2 r j) := by
  unfold put
  rw [dif_neg]
  intro h
  have h1 := h 1
  have e1 : c ≤ j.val := h1.1
  have e2 : j.val < c + n := h1.2
  omega

/-- A plane put in, read at that plane. -/
theorem put_plane_in {T A B : ℕ} (x : (⟨3, ![T, A, B]⟩ : Shape).Idx → α) (t : Fin T) (w : (⟨3, ![1, A, B]⟩ : Shape).Idx → α) (a : Fin A) (b : Fin B) :
    put x ![t.val, 0, 0] (⟨3, ![1, A, B]⟩ : Shape).size w (ix3 t a b) = w (ix3 0 a b) := by
  have h : ∀ d : Fin 3, (![t.val, 0, 0] : Fin 3 → ℕ) d ≤ ((ix3 t a b : (⟨3, ![T, A, B]⟩ : Shape).Idx) d).val
      ∧ ((ix3 t a b : (⟨3, ![T, A, B]⟩ : Shape).Idx) d).val < (![t.val, 0, 0] : Fin 3 → ℕ) d + (⟨3, ![1, A, B]⟩ : Shape).size d := by
    intro d; fin_cases d
    · exact ⟨Nat.le_refl _, by show t.val < t.val + 1; omega⟩
    · exact ⟨Nat.zero_le _, by show a.val < 0 + A; have := a.isLt; omega⟩
    · exact ⟨Nat.zero_le _, by show b.val < 0 + B; have := b.isLt; omega⟩
  unfold put
  rw [dif_pos h]
  refine congrArg w (funext fun d => Fin.ext ?_)
  match d with
  | ⟨0, _⟩ => show t.val - t.val = 0; omega
  | ⟨1, _⟩ => show a.val - 0 = a.val; omega
  | ⟨2, _⟩ => show b.val - 0 = b.val; omega

/-- A plane put in, read at another. -/
theorem put_plane_out {T A B : ℕ} (x : (⟨3, ![T, A, B]⟩ : Shape).Idx → α) (t s : Fin T) (h : s ≠ t) (w : (⟨3, ![1, A, B]⟩ : Shape).Idx → α) (a : Fin A) (b : Fin B) :
    put x ![t.val, 0, 0] (⟨3, ![1, A, B]⟩ : Shape).size w (ix3 s a b) = x (ix3 s a b) := by
  unfold put
  rw [dif_neg]
  intro hh
  have h0 := hh 0
  have e1 : t.val ≤ s.val := h0.1
  have e2 : s.val < t.val + 1 := h0.2
  exact h (Fin.ext (by omega))

/-- A plane read out. -/
theorem window_plane {T A B : ℕ} (x : (⟨3, ![T, A, B]⟩ : Shape).Idx → α) (t : Fin T)
    (h : ∀ d, (![t.val, 0, 0] : Fin 3 → ℕ) d + (⟨3, ![1, A, B]⟩ : Shape).size d ≤ (⟨3, ![T, A, B]⟩ : Shape).size d) (a : Fin A) (b : Fin B) :
    window x ![t.val, 0, 0] (⟨3, ![1, A, B]⟩ : Shape).size h (ix3 (0 : Fin 1) a b) = x (ix3 t a b) := by
  refine congrArg x (funext fun d => Fin.ext ?_)
  match d with
  | ⟨0, _⟩ => show t.val + 1 * 0 = t.val; omega
  | ⟨1, _⟩ => show 0 + 1 * a.val = a.val; omega
  | ⟨2, _⟩ => show 0 + 1 * b.val = b.val; omega

/-- A stretch of columns read out. -/
theorem slice_cols {A B n : ℕ} (c : ℕ) (x : (⟨2, ![A, B]⟩ : Shape).Idx → α) (h : (⟨2, ![A, B]⟩ : Shape).Slices ![0, c] ⟨2, ![A, n]⟩) (r : Fin A) (k : Fin n) (j : Fin B)
    (hj : j.val = c + k.val) : extractStridedSlice ⟨2, ![A, n]⟩ ![0, c] x h (ix2 r k) = x (ix2 r j) := by
  refine congrArg x (funext fun d => Fin.ext ?_)
  match d with
  | ⟨0, _⟩ => show 0 + r.val = r.val; omega
  | ⟨1, _⟩ => show c + k.val = j.val; omega

end

/-! ## The step's parts -/

/-- The literal two is two. -/
theorem ofBits_two : Ideal.ofBits .f32 0x40000000#32 = ((2 : ℝ) : EReal) := by
  simp [Ideal.ofBits, Ideal.ieee]
  rw [← EReal.coe_mul]
  norm_num

/-- The words cast for the product are the words. -/
theorem pay4_at (x : Vec Ideal S1x512x128 .f32) (r : Fin 512) (k : Fin 128) : k2_pay4 x (ix2 r k) = x (ix3 0 r k) := by
  unfold k2_pay4
  rw [shapeCast_self, truncf_apply]
  exact shapeCast_1ab_ab_apply x _ r k

/-- A plane of words read as a matrix. -/
theorem pay5_at (x : Vec Ideal S1x512x128 .f32) (r : Fin 512) (k : Fin 128) : k2_pay5 x (ix2 r k) = x (ix3 0 r k) := pay4_at x r k

/-- The logistic gates. -/
theorem pay6_at (A : Vec Ideal S512x384 .bf16) (w : Vec Ideal S384x512 .bf16) (b : Vec Ideal S1x512 .f32) (r : Fin 512) (j : Fin 512) :
    k2_pay6 A w b (ix2 r j) = Ideal.logistic ((∑ k : Fin 384, A (ix2 r k) * w (ix2 k j)) + b (ix2 0 j)) := by
  unfold k2_pay6
  rw [shapeCast_self, shapeCast_self]
  show Ideal.logistic (FloatOps.matmul (F := Ideal) (DotDims.plain 512 384 512) none A w (constant S512x512 .f32 0x00000000#32) (ix2 r j) + broadcastTo S512x512 b _ (ix2 r j)) = _
  rw [Ideal.matmul_plain_apply, broadcastTo_1b_ab_apply]
  rw [show (constant S512x512 .f32 0x00000000#32 : FVec Ideal S512x512 .f32) (ix2 r j) = 0 from Ideal.ofBits_zero_f32, zero_add]

section
variable (A : Vec Ideal S512x384 .bf16) (w : Vec Ideal S384x512 .bf16) (b : Vec Ideal S1x512 .f32) (r : Fin 512) (k : Fin 128)

/-- The input gate's columns of the logistic values. -/
theorem pay7_at (j : Fin 512) (hj : j.val = 0 + k.val) : k2_pay7 A w b (ix2 r k) = k2_pay6 A w b (ix2 r j) := by
  unfold k2_pay7
  exact slice_cols 0 _ _ r k j hj
/-- The forget gate's columns of the logistic values. -/
theorem pay8_at (j : Fin 512) (hj : j.val = 128 + k.val) : k2_pay8 A w b (ix2 r k) = k2_pay6 A w b (ix2 r j) := by
  unfold k2_pay8
  exact slice_cols 128 _ _ r k j hj
/-- The output gate's columns of the logistic values. -/
theorem pay10_at (j : Fin 512) (hj : j.val = 384 + k.val) : k2_pay10 A w b (ix2 r k) = k2_pay6 A w b (ix2 r j) := by
  unfold k2_pay10
  exact slice_cols 384 _ _ r k j hj
/-- The cell gate: twice the logistic value, less one. -/
theorem pay9_at (j : Fin 512) (hj : j.val = 256 + k.val) : k2_pay9 A w b (ix2 r k) = ((2 : ℝ) : EReal) * k2_pay6 A w b (ix2 r j) - 1 := by
  unfold k2_pay9
  rw [subf_apply, mulf_apply, broadcast_apply, broadcast_apply]
  refine congr (congrArg _ (congr (congrArg _ ofBits_two) ?_)) Ideal.ofBits_one_f32
  exact slice_cols 256 _ _ r k j hj
end

section
variable (i f g o c : FVec Ideal S512x128 .f32) (r : Fin 512) (k : Fin 128)

/-- The new cell state at an entry. -/
theorem pay12_at : k2_pay12 i f g c (ix2 r k) = f (ix2 r k) * c (ix2 r k) + i (ix2 r k) * g (ix2 r k) := by
  unfold k2_pay12
  rw [shapeCast_self]
  rfl

/-- The new hidden state at an entry. -/
theorem pay13_at : k2_pay13 i f g o c (ix2 r k) = o (ix2 r k) * Ideal.tanh (f (ix2 r k) * c (ix2 r k) + i (ix2 r k) * g (ix2 r k)) := rfl

/-- The new hidden state at an entry. -/
theorem pay14_at : k2_pay14 i f g o c (ix2 r k) = o (ix2 r k) * Ideal.tanh (f (ix2 r k) * c (ix2 r k) + i (ix2 r k) * g (ix2 r k)) := by
  unfold k2_pay14
  rw [shapeCast_self]
  rfl

/-- Both directions' scores. -/
theorem pay15_at (wo : Vec Ideal S128x16 .f32) (q : Fin 16) :
    k2_pay15 i f g o c wo (ix2 r q) = ∑ m : Fin 128, k2_pay13 i f g o c (ix2 r m) * wo (ix2 m q) := by
  unfold k2_pay15
  rw [shapeCast_self]
  show FloatOps.matmul (F := Ideal) (DotDims.plain 512 128 16) none (k2_pay13 i f g o c) wo (constant S512x16 .f32 0x00000000#32) (ix2 r q) = _
  rw [Ideal.matmul_plain_apply]
  rw [show (constant S512x16 .f32 0x00000000#32 : FVec Ideal S512x16 .f32) (ix2 r q) = 0 from Ideal.ofBits_zero_f32, zero_add]

/-- The first update of the scores adds the forward sums and the bias. -/
theorem pay16_at (wo : Vec Ideal S128x16 .f32) (p : Vec Ideal S1x512x8 .f32) (bo : Vec Ideal S1x8 .f32) (q : Fin 8) (q' : Fin 16) (hq : q'.val = 0 + q.val) :
    k2_pay16 i f g o c wo p bo (ix3 0 r q) = p (ix3 0 r q) + k2_pay15 i f g o c wo (ix2 r q') + bo (ix2 0 q) := by
  unfold k2_pay16
  rw [shapeCast_self, shapeCast_ab_1ab_apply, addf_apply, addf_apply, broadcastTo_1b_ab_apply, shapeCast_1ab_ab_apply]
  rw [slice_cols 0 _ _ r q q' hq]

/-- The second update of the scores adds the backward sums. -/
theorem pay17_at (wo : Vec Ideal S128x16 .f32) (p : Vec Ideal S1x512x8 .f32) (q : Fin 8) (q' : Fin 16) (hq : q'.val = 8 + q.val) :
    k2_pay17 i f g o c wo p (ix3 0 r q) = p (ix3 0 r q) + k2_pay15 i f g o c wo (ix2 r q') := by
  unfold k2_pay17
  rw [shapeCast_ab_1ab_apply, addf_apply, shapeCast_1ab_ab_apply]
  rw [slice_cols 8 _ _ r q q' hq]
end

end Cert.KernelIdeal.Pf

end
-- ==== Proof.HostSpread.lean ====
/- How the weights are laid out: a matrix's four gates spread over the columns of both directions, and a padded matrix read at an entry. -/
module

public import proofs.«01_k».proof.Proof.LstmValue
public import Idealize.ShloMosaic.Lib.KernelVsHost
public import Idealize.ShloMosaic.Lib.IdealHost

@[expose] public section

noncomputable section

namespace Cert.KernelIdeal.Pf

open Idealize.ShloMosaic hiding ix0 ix1 ix2 ix3
open Idealize.ShloMosaic.ValueIdx
open Cert.Lstm

section
variable {α : Type} {R : ℕ}

/-- Eight pieces of 64 columns side by side, read at a column of piece `k`. -/
theorem concat8_at (p0 p1 p2 p3 p4 p5 p6 p7 : (⟨2, ![R, 64]⟩ : Shape).Idx → α)
    (h : Shape.Concatenates [⟨2, ![R, 64]⟩, ⟨2, ![R, 64]⟩, ⟨2, ![R, 64]⟩, ⟨2, ![R, 64]⟩, ⟨2, ![R, 64]⟩, ⟨2, ![R, 64]⟩, ⟨2, ![R, 64]⟩, ⟨2, ![R, 64]⟩] ⟨2, ![R, 512]⟩ 1)
    (i : Fin R) (k : Fin 8) (u : Fin 64) (j : Fin 512) (hj : 64 * k.val + u.val = j.val) :
    concatenate ⟨2, ![R, 512]⟩ 1 [⟨⟨2, ![R, 64]⟩, p0⟩, ⟨⟨2, ![R, 64]⟩, p1⟩, ⟨⟨2, ![R, 64]⟩, p2⟩, ⟨⟨2, ![R, 64]⟩, p3⟩, ⟨⟨2, ![R, 64]⟩, p4⟩, ⟨⟨2, ![R, 64]⟩, p5⟩, ⟨⟨2, ![R, 64]⟩, p6⟩, ⟨⟨2, ![R, 64]⟩, p7⟩]
      h (ix2 i j) = (![p0, p1, p2, p3, p4, p5, p6, p7] k) (ix2 i u) := by
  refine concatenate_apply_piece (t := ⟨2, ![R, 512]⟩) 1 [⟨⟨2, ![R, 64]⟩, p0⟩, ⟨⟨2, ![R, 64]⟩, p1⟩, ⟨⟨2, ![R, 64]⟩, p2⟩, ⟨⟨2, ![R, 64]⟩, p3⟩, ⟨⟨2, ![R, 64]⟩, p4⟩, ⟨⟨2, ![R, 64]⟩, p5⟩, ⟨⟨2, ![R, 64]⟩, p6⟩, ⟨⟨2, ![R, 64]⟩, p7⟩] h (ix2 i j) k.val k.isLt ⟨2, ![R, 64]⟩ (![p0, p1, p2, p3, p4, p5, p6, p7] k) ?_ rfl (64 * k.val) ?_ (ix2 i u) ?_ hj
  · fin_cases k <;> rfl
  · fin_cases k <;> rfl
  · intro b hb
    match b with
    | ⟨0, _⟩ => rfl
    | ⟨1, _⟩ => exact (hb rfl).elim

variable (w : (⟨2, ![R, 256]⟩ : Shape).Idx → α) (z : (⟨2, ![R, 64]⟩ : Shape).Idx → α)
  (h0 : (⟨2, ![R, 256]⟩ : Shape).Slices ![0, 0] ⟨2, ![R, 64]⟩) (h1 : (⟨2, ![R, 256]⟩ : Shape).Slices ![0, 64] ⟨2, ![R, 64]⟩)
  (h2 : (⟨2, ![R, 256]⟩ : Shape).Slices ![0, 128] ⟨2, ![R, 64]⟩) (h3 : (⟨2, ![R, 256]⟩ : Shape).Slices ![0, 192] ⟨2, ![R, 64]⟩)
  (h : Shape.Concatenates [⟨2, ![R, 64]⟩, ⟨2, ![R, 64]⟩, ⟨2, ![R, 64]⟩, ⟨2, ![R, 64]⟩, ⟨2, ![R, 64]⟩, ⟨2, ![R, 64]⟩, ⟨2, ![R, 64]⟩, ⟨2, ![R, 64]⟩] ⟨2, ![R, 512]⟩ 1)
  (i : Fin R) (q : Fin 4) (u : Fin 64)

/-- The gates spread over the first direction's columns. -/
theorem spread_fwd (d : Fin 2) :
    concatenate ⟨2, ![R, 512]⟩ 1 [⟨⟨2, ![R, 64]⟩, extractStridedSlice ⟨2, ![R, 64]⟩ ![0, 0] w h0⟩, ⟨⟨2, ![R, 64]⟩, z⟩, ⟨⟨2, ![R, 64]⟩, extractStridedSlice ⟨2, ![R, 64]⟩ ![0, 64] w h1⟩, ⟨⟨2, ![R, 64]⟩, z⟩,
      ⟨⟨2, ![R, 64]⟩, extractStridedSlice ⟨2, ![R, 64]⟩ ![0, 128] w h2⟩, ⟨⟨2, ![R, 64]⟩, z⟩, ⟨⟨2, ![R, 64]⟩, extractStridedSlice ⟨2, ![R, 64]⟩ ![0, 192] w h3⟩, ⟨⟨2, ![R, 64]⟩, z⟩]
      h (ix2 i (col q d u)) = if d = 0 then w (ix2 i (gix q u)) else z (ix2 i u) := by
  rw [concat8_at _ _ _ _ _ _ _ _ h i (⟨2 * q.val + d.val, by have := q.isLt; have := d.isLt; omega⟩ : Fin 8) u (col q d u)
    (by show 64 * (2 * q.val + d.val) + u.val = 128 * q.val + (64 * d.val + u.val); omega)]
  fin_cases q <;> fin_cases d <;> first | rfl | exact slice_cols 0 w h0 i u _ rfl | exact slice_cols 64 w h1 i u _ rfl | exact slice_cols 128 w h2 i u _ rfl | exact slice_cols 192 w h3 i u _ rfl

/-- The gates spread over the second direction's columns. -/
theorem spread_bwd (d : Fin 2) :
    concatenate ⟨2, ![R, 512]⟩ 1 [⟨⟨2, ![R, 64]⟩, z⟩, ⟨⟨2, ![R, 64]⟩, extractStridedSlice ⟨2, ![R, 64]⟩ ![0, 0] w h0⟩, ⟨⟨2, ![R, 64]⟩, z⟩, ⟨⟨2, ![R, 64]⟩, extractStridedSlice ⟨2, ![R, 64]⟩ ![0, 64] w h1⟩, ⟨⟨2, ![R, 64]⟩, z⟩,
      ⟨⟨2, ![R, 64]⟩, extractStridedSlice ⟨2, ![R, 64]⟩ ![0, 128] w h2⟩, ⟨⟨2, ![R, 64]⟩, z⟩, ⟨⟨2, ![R, 64]⟩, extractStridedSlice ⟨2, ![R, 64]⟩ ![0, 192] w h3⟩]
      h (ix2 i (col q d u)) = if d = 0 then z (ix2 i u) else w (ix2 i (gix q u)) := by
  rw [concat8_at _ _ _ _ _ _ _ _ h i (⟨2 * q.val + d.val, by have := q.isLt; have := d.isLt; omega⟩ : Fin 8) u (col q d u)
    (by show 64 * (2 * q.val + d.val) + u.val = 128 * q.val + (64 * d.val + u.val); omega)]
  fin_cases q <;> fin_cases d <;> first | rfl | exact slice_cols 0 w h0 i u _ rfl | exact slice_cols 64 w h1 i u _ rfl | exact slice_cols 128 w h2 i u _ rfl | exact slice_cols 192 w h3 i u _ rfl

end

/-- A matrix padded below from 100 to 128 rows, read at an entry. -/
theorem pad_rows_at (x : (⟨2, ![100, 256]⟩ : Shape).Idx → EReal) {s : Shape} (v : s.Idx → EReal) (hv : ∀ i, v i = 0) (h : (⟨2, ![100, 256]⟩ : Shape).Pads ![0, 0] ![28, 0] ![0, 0] ⟨2, ![128, 256]⟩)
    (hs : 0 < s.numel) (r : Fin 128) (j : Fin 256) :
    pad ⟨2, ![128, 256]⟩ ![0, 0] ![28, 0] ![0, 0] x v h hs (ix2 r j) = if hr : r.val < 100 then x (ix2 ⟨r.val, hr⟩ j) else 0 := by
  by_cases hr : r.val < 100
  · rw [dif_pos hr]
    refine pad_apply_of_inside _ _ _ x v h hs _ _ fun a => ?_
    match a with
    | ⟨0, _⟩ => show r.val = 0 + r.val * 1; omega
    | ⟨1, _⟩ => show j.val = 0 + j.val * 1; omega
  · rw [dif_neg hr]
    refine (pad_apply_of_not_inside _ _ _ x v h hs _ (0 : Fin 2) fun a => hr ?_).trans (hv _)
    have := a.2.2
    have e : (r.val - 0) / 1 < 100 := this
    omega

end Cert.KernelIdeal.Pf

end
-- ==== Proof.HostReads.lean ====
/- What the host operations between the gather and the recurrence leave, read at an entry: the packed weights and biases. -/
module

public import proofs.«01_k».proof.Proof.HostSpread
public import proofs.«01_k».proof.Proof.Main

@[expose] public section

noncomputable section

namespace Cert.KernelIdeal.Pf

open Idealize.ShloMosaic hiding ix0 ix1 ix2 ix3
open Idealize.ShloMosaic.ValueIdx
open Idealize.ShloMosaic.TcCoe Idealize.ShloMosaic.Tactic
open Cert.KernelIdeal Facts₀ Facts
open Cert.KernelIdeal.Gen (facts₀ facts)
open Cert.Lstm

/-- The matrix of one direction's input weights, padded to 128 rows. -/
def wpad (w : FVec Ideal S256x100 .f32) (r : Fin 128) (j : Fin 256) : EReal := if h : r.val < 100 then w (ix2 j (⟨r.val, h⟩ : Fin 100)) else 0

/-- An entry of the transposed hidden weights. -/
def hwt (w : FVec Ideal S256x64 .f32) (r : Fin 64) (j : Fin 256) : EReal := w (ix2 j r)

/-- An entry of the sum of the two biases. -/
def bsum (a b : FVec Ideal S256 .f32) (j : Fin 256) : EReal := a (ix1 j) + b (ix1 j)

/-- The padding value is zero. -/
theorem sitofp_zero_at (i : S_.Idx) : (sitofp .f32 (constantI S_ 32 0#32) : FVec Ideal S_ .f32) i = 0 := by
  show (((0#32 : BitVec 32).toInt : ℝ) : EReal) = 0
  norm_num

/-- A broadcast zero is zero everywhere. -/
theorem zeros_at {T : Shape} (h : (⟨0, ![]⟩ : Shape).BroadcastsInDim T ![]) (j : T.Idx) : broadcastInDim T ![] h (constant (F := Ideal) S_ .f32 0x00000000#32) j = 0 :=
  (broadcastInDim_scalar_apply h _ j).trans Ideal.ofBits_zero_f32

/-- A transposed and padded weight matrix, at an entry. -/
theorem wpad_at (w : FVec Ideal S256x100 .f32) (ht : S256x100.Transposes [1, 0] S100x256) (hp : S100x256.Pads ![0, 0] ![28, 0] ![0, 0] S128x256) (hs : 0 < S_.numel) (r : Fin 128) (j : Fin 256) :
    pad S128x256 ![0, 0] ![28, 0] ![0, 0] (transpose S100x256 [1, 0] w ht) (sitofp .f32 (constantI S_ 32 0#32) : FVec Ideal S_ .f32) hp hs (ix2 r j) = wpad w r j := by
  refine (pad_rows_at _ _ sitofp_zero_at _ _ r j).trans ?_
  unfold wpad
  split
  · exact transpose_ix2_apply _ _ _ _
  · rfl

/-- A vector as a matrix of one row. -/
theorem row_at {α : Type} {n : ℕ} (x : (⟨1, ![n]⟩ : Shape).Idx → α) (h : (⟨1, ![n]⟩ : Shape).BroadcastsInDim ⟨2, ![1, n]⟩ ![1]) (j : Fin n) (hn : n ≠ 1) :
    broadcastInDim ⟨2, ![1, n]⟩ ![1] h x (ix2 0 j) = x (ix1 j) :=
  broadcastInDim_apply _ h x _ _ fun a => match a with | ⟨0, _⟩ => (if_neg hn).symm

section
variable (W : DV Ideal)

set_option maxRecDepth 16384 in
set_option maxHeartbeats 2000000 in
/-- The forward input weights with zero blocks between the gates. -/
theorem v12_at (r : Fin 128) (q : Fin 4) (d : Fin 2) (u : Fin 64) :
    @Eq EReal ((StableHlo.after opsB W (Proc.devRef .tc main_v12) : FVec Ideal S128x512 .f32) (ix2 r (col q d u))) (if d = 0 then wpad (W (Proc.devRef .tc main_arg2)) r (gix q u) else 0) := by
  after_reads_simp
  dsimp only [Matrix.cons_val]
  after_reads_simp
  refine (spread_fwd (R := 128) _ _ _ _ _ _ _ r q u d).trans ?_
  refine congr (congrArg _ ?_) (zeros_at _ _)
  exact wpad_at (W (Proc.devRef .tc main_arg2)) transposes_S256x100_S100x256_1_0 pads_S100x256_S128x256_0280_000 h_S_ r (gix q u)

set_option maxRecDepth 16384 in
set_option maxHeartbeats 2000000 in
/-- The backward input weights with zero blocks between the gates. -/
theorem v20_at (r : Fin 128) (q : Fin 4) (d : Fin 2) (u : Fin 64) :
    @Eq EReal ((StableHlo.after opsB W (Proc.devRef .tc main_v20) : FVec Ideal S128x512 .f32) (ix2 r (col q d u))) (if d = 0 then 0 else wpad (W (Proc.devRef .tc main_arg6)) r (gix q u)) := by
  after_reads_simp
  dsimp only [Matrix.cons_val]
  after_reads_simp
  refine (spread_bwd (R := 128) _ _ _ _ _ _ _ r q u d).trans ?_
  refine congr (congrArg _ (zeros_at _ _)) ?_
  exact wpad_at (W (Proc.devRef .tc main_arg6)) transposes_S256x100_S100x256_1_0 pads_S100x256_S128x256_0280_000 h_S_ r (gix q u)

set_option maxRecDepth 16384 in
set_option maxHeartbeats 2000000 in
/-- The forward state weights with zero blocks between the gates. -/
theorem v27_at (r : Fin 64) (q : Fin 4) (d : Fin 2) (u : Fin 64) :
    @Eq EReal ((StableHlo.after opsB W (Proc.devRef .tc main_v27) : FVec Ideal S64x512 .f32) (ix2 r (col q d u))) (if d = 0 then hwt (W (Proc.devRef .tc main_arg3)) r (gix q u) else 0) := by
  after_reads_simp
  dsimp only [Matrix.cons_val]
  after_reads_simp
  refine (spread_fwd (R := 64) _ _ _ _ _ _ _ r q u d).trans ?_
  refine congr (congrArg _ ?_) (zeros_at _ _)
  exact transpose_ix2_apply _ _ _ _

set_option maxRecDepth 16384 in
set_option maxHeartbeats 2000000 in
/-- The backward state weights with zero blocks between the gates. -/
theorem v34_at (r : Fin 64) (q : Fin 4) (d : Fin 2) (u : Fin 64) :
    @Eq EReal ((StableHlo.after opsB W (Proc.devRef .tc main_v34) : FVec Ideal S64x512 .f32) (ix2 r (col q d u))) (if d = 0 then 0 else hwt (W (Proc.devRef .tc main_arg7)) r (gix q u)) := by
  after_reads_simp
  dsimp only [Matrix.cons_val]
  after_reads_simp
  refine (spread_bwd (R := 64) _ _ _ _ _ _ _ r q u d).trans ?_
  refine congr (congrArg _ (zeros_at _ _)) ?_
  exact transpose_ix2_apply _ _ _ _

set_option maxRecDepth 16384 in
set_option maxHeartbeats 2000000 in
/-- The forward biases with zero blocks between the gates. -/
theorem v43_at (q : Fin 4) (d : Fin 2) (u : Fin 64) :
    @Eq EReal ((StableHlo.after opsB W (Proc.devRef .tc main_v43) : FVec Ideal S1x512 .f32) (ix2 0 (col q d u))) (if d = 0 then bsum (W (Proc.devRef .tc main_arg4)) (W (Proc.devRef .tc main_arg5)) (gix q u) else 0) := by
  after_reads_simp
  dsimp only [Matrix.cons_val]
  after_reads_simp
  refine (spread_fwd (R := 1) _ _ _ _ _ _ _ 0 q u d).trans ?_
  refine congr (congrArg _ ?_) (zeros_at _ _)
  exact (row_at (n := 256) _ _ _ (by decide)).trans (ValueIdx.addf_apply _ _ _)

set_option maxRecDepth 16384 in
set_option maxHeartbeats 2000000 in
/-- The backward biases with zero blocks between the gates. -/
theorem v51_at (q : Fin 4) (d : Fin 2) (u : Fin 64) :
    @Eq EReal ((StableHlo.after opsB W (Proc.devRef .tc main_v51) : FVec Ideal S1x512 .f32) (ix2 0 (col q d u))) (if d = 0 then 0 else bsum (W (Proc.devRef .tc main_arg8)) (W (Proc.devRef .tc main_arg9)) (gix q u)) := by
  after_reads_simp
  dsimp only [Matrix.cons_val]
  after_reads_simp
  refine (spread_bwd (R := 1) _ _ _ _ _ _ _ 0 q u d).trans ?_
  refine congr (congrArg _ (zeros_at _ _)) ?_
  exact (row_at (n := 256) _ _ _ (by decide)).trans (ValueIdx.addf_apply _ _ _)

set_option maxRecDepth 16384 in
set_option maxHeartbeats 4000000 in
/-- The packed weights are the four spread matrices, one above the other. -/
theorem v35_eq : (StableHlo.after opsB W (Proc.devRef .tc main_v35) : FVec Ideal S384x512 .f32)
    = concatenate S384x512 0 [⟨S128x512, (StableHlo.after opsB W (Proc.devRef .tc main_v12) : FVec Ideal S128x512 .f32)⟩, ⟨S128x512, (StableHlo.after opsB W (Proc.devRef .tc main_v20) : FVec Ideal S128x512 .f32)⟩,
      ⟨S64x512, (StableHlo.after opsB W (Proc.devRef .tc main_v27) : FVec Ideal S64x512 .f32)⟩, ⟨S64x512, (StableHlo.after opsB W (Proc.devRef .tc main_v34) : FVec Ideal S64x512 .f32)⟩]
      concatenates_S128x512_S128x512_S64x512_S64x512_S384x512_d0 := by
  after_reads_simp
  rfl

end

end Cert.KernelIdeal.Pf

end
-- ==== Proof.LstmStates.lean ====
/- The recurrence's states and scores over the extended reals: after every step both halves of the state are the two directions' states,
   and after the last step the scores are the sum of both directions' contributions and the bias. -/
module

public import proofs.«01_k».proof.Proof.LstmValue

@[expose] public section

noncomputable section

namespace Cert.Lstm

/-- The two directions by their number. -/
def Ds (P Q : Dir) (d : Fin 2) : Dir := if d = 0 then P else Q

/-- The words a direction meets, in the order it meets them. -/
def ws (x : Fin 128 → Fin 512 → Fin 100 → EReal) (d : Fin 2) (b : Fin 512) (n : ℕ) : Fin 100 → EReal :=
  if h : n < 128 then (if d = 0 then x ⟨n, h⟩ b else x (Fin.rev ⟨n, h⟩) b) else fun _ => 0

/-- The state of a direction after `n` words of batch row `b`. -/
def sts (P Q : Dir) (x : Fin 128 → Fin 512 → Fin 100 → EReal) (d : Fin 2) (b : Fin 512) (n : ℕ) : (Fin 64 → EReal) × (Fin 64 → EReal) :=
  (Ds P Q d).st (ws x d b) n

/-- A direction's contribution to a score after `n` words. -/
def score (P Q : Dir) (x : Fin 128 → Fin 512 → Fin 100 → EReal) (wo : Fin 2 → Fin 64 → Fin 8 → EReal) (d : Fin 2) (b : Fin 512) (n : ℕ) (o : Fin 8) : EReal :=
  ∑ u, (sts P Q x d b n).1 u * wo d u o

/-- The column of unit `u` of direction `d` in a row of states. -/
def kcol (d : Fin 2) (u : Fin 64) : Fin 128 := ⟨64 * d.val + u.val, by have := d.isLt; have := u.isLt; omega⟩

/-- A row times the packed weights, plus the bias, is each direction's own gate sum times the gate's scale. -/
theorem packed_dir {P Q : Dir} {w : Fin 384 → Fin 512 → EReal} {b : Fin 512 → EReal} {A : Fin 384 → EReal} {X : Fin 2 → Fin 100 → EReal} {H : Fin 2 → Fin 64 → EReal}
    (W : Packed P Q w b) (R : Rows A (X 0) (X 1) (H 0) (H 1)) (d : Fin 2) (q : Fin 4) (u : Fin 64) :
    (∑ r, A r * w r (col q d u)) + b (col q d u) = (Ds P Q d).lin (X d) (H d) (gix q u) * (gs q : EReal) := by
  match d with
  | ⟨0, _⟩ => exact packed_fwd W R q u
  | ⟨1, _⟩ => exact packed_bwd W R q u

/-- A sum over the state's columns, direction by direction. -/
theorem sum_kcol (f : Fin 128 → EReal) : ∑ k, f k = (∑ u, f (kcol 0 u)) + ∑ u, f (kcol 1 u) := by
  rw [sum_two 64 64 rfl f]
  refine congr (congrArg _ ?_) ?_
  all_goals
    refine Finset.sum_congr rfl fun u _ => congrArg f (Fin.ext ?_)
  · show u.val = 64 * 0 + u.val; omega
  · show 64 + u.val = 64 * 1 + u.val; omega

end Cert.Lstm

namespace Cert.KernelIdeal.Pf

open Idealize.ShloMosaic hiding ix0 ix1 ix2 ix3
open Idealize.ShloMosaic.ValueIdx
open Idealize.ShloMosaic.TcCoe Idealize.ShloMosaic.Tactic
open Cert.KernelIdeal Facts₀ Facts
open Cert.KernelIdeal.Gen (facts₀ facts k2_pay1 k2_pay2 k2_pay3 k2_pay4 k2_pay5 k2_pay6 k2_pay7 k2_pay8 k2_pay9 k2_pay10 k2_pay11 k2_pay12 k2_pay13 k2_pay14 k2_pay15 k2_pay16 k2_pay17)
open VecWindow (window put)
open Cert.Lstm

variable {I : Ins Ideal} {P Q : Dir} {x : Fin 128 → Fin 512 → Fin 100 → EReal} {wo : Fin 2 → Fin 64 → Fin 8 → EReal} {bo : Fin 8 → EReal}

/-- What the recurrence reads, as the two directions' weights and words. -/
structure Reads (I : Ins Ideal) (P Q : Dir) (x : Fin 128 → Fin 512 → Fin 100 → EReal) (wo : Fin 2 → Fin 64 → Fin 8 → EReal) (bo : Fin 8 → EReal) : Prop where
  x : ∀ t b (e : Fin 100), I.x (ix3 t b (⟨e.val, by have := e.isLt; omega⟩ : Fin 128)) = x t b e
  w : Packed P Q (fun r k => I.w (ix2 r k)) (fun k => I.b (ix2 0 k))
  wo : ∀ (d : Fin 2) (u : Fin 64) (o : Fin 8), I.wo (ix2 (kcol d u) (⟨8 * d.val + o.val, by have := d.isLt; have := o.isLt; omega⟩ : Fin 16)) = wo d u o
  wo0 : ∀ (d d' : Fin 2) (u : Fin 64) (o : Fin 8), d ≠ d' → I.wo (ix2 (kcol d u) (⟨8 * d'.val + o.val, by have := d'.isLt; have := o.isLt; omega⟩ : Fin 16)) = 0
  bo : ∀ o, I.bo (ix2 0 o) = bo o

/-- The state holds both directions' states after `n` words. -/
structure Holds (P Q : Dir) (x : Fin 128 → Fin 512 → Fin 100 → EReal) (s : St Ideal) (n : ℕ) : Prop where
  h : ∀ d b u, s.1 (ix2 b (⟨256 + (kcol d u).val, by have := (kcol d u).isLt; omega⟩ : Fin 384)) = (sts P Q x d b n).1 u
  c : ∀ d b u, s.2 (ix2 b (kcol d u)) = (sts P Q x d b n).2 u

/-- The cleared states are the states before any word. -/
theorem st0_holds : Holds P Q x st0 0 where
  h d b u := by
    have e : ∀ i, k2_pay2 (F := Ideal) i = 0 := fun i => by
      unfold k2_pay2
      rw [shapeCast_self]
      exact Ideal.ofBits_zero_bf16
    exact e (ix2 b (⟨256 + (kcol d u).val, by have := (kcol d u).isLt; omega⟩ : Fin 384))
  c d b u := by
    have e : ∀ i, k2_pay3 (F := Ideal) i = 0 := fun i => by
      unfold k2_pay3
      rw [shapeCast_self]
      exact Ideal.ofBits_zero_f32
    exact e (ix2 b (kcol d u))

section
variable (R : Reads I P Q x wo bo) {s : St Ideal} {n : ℕ} (hn : n < 128) (H : Holds P Q x s n) (b : Fin 512)

include R H

/-- The rows the gates are computed from. -/
theorem rows_at : Rows (fun r => rowsV I s ⟨n, hn⟩ (ix2 b r)) (ws x 0 b n) (ws x 1 b n) (sts P Q x 0 b n).1 (sts P Q x 1 b n).1 where
  xf e := by
    have := e.isLt
    show put (put s.1 ![0, 0] S512x128.size _) ![0, 128] S512x128.size _ (ix2 b _) = _
    rw [put_cols_out (A := 512) (B := 384) (n := 128) _ 128 _ _ _ (Or.inl (by show e.val < 128; omega)),
      put_cols_in (A := 512) (B := 384) (n := 128) _ 0 _ b (⟨e.val, by omega⟩ : Fin 128) _ (by show e.val = 0 + e.val; omega), pay4_at]
    refine (window_plane (T := 128) (A := 512) (B := 128) I.x ⟨n, hn⟩ _ b _).trans ((R.x _ b e).trans ?_)
    rw [ws, dif_pos hn, if_pos rfl]
  xb e := by
    have := e.isLt
    show put (put s.1 ![0, 0] S512x128.size _) ![0, 128] S512x128.size _ (ix2 b _) = _
    rw [put_cols_in (A := 512) (B := 384) (n := 128) _ 128 _ b (⟨e.val, by omega⟩ : Fin 128) _ rfl, pay5_at]
    refine (window_plane (T := 128) (A := 512) (B := 128) I.x (Fin.rev ⟨n, hn⟩) _ b _).trans ((R.x _ b e).trans ?_)
    rw [ws, dif_pos hn, if_neg (by decide)]
  hf m := by
    have := m.isLt
    show put (put s.1 ![0, 0] S512x128.size _) ![0, 128] S512x128.size _ (ix2 b _) = _
    rw [put_cols_out (A := 512) (B := 384) (n := 128) _ 128 _ _ _ (Or.inr (by show 128 + 128 ≤ 256 + m.val; omega)),
      put_cols_out (A := 512) (B := 384) (n := 128) _ 0 _ _ _ (Or.inr (by show 0 + 128 ≤ 256 + m.val; omega)), ← H.h 0 b m]
    exact congrArg (fun j => s.1 (ix2 b j)) (Fin.ext (by show 256 + m.val = 256 + (64 * 0 + m.val); omega))
  hb m := by
    have := m.isLt
    show put (put s.1 ![0, 0] S512x128.size _) ![0, 128] S512x128.size _ (ix2 b _) = _
    rw [put_cols_out (A := 512) (B := 384) (n := 128) _ 128 _ _ _ (Or.inr (by show 128 + 128 ≤ 320 + m.val; omega)),
      put_cols_out (A := 512) (B := 384) (n := 128) _ 0 _ _ _ (Or.inr (by show 0 + 128 ≤ 320 + m.val; omega)), ← H.h 1 b m]
    exact congrArg (fun j => s.1 (ix2 b j)) (Fin.ext (by show 320 + m.val = 256 + (64 * 1 + m.val); omega))

/-- A gate before its nonlinearity, in direction `d`. -/
theorem gate_at (q : Fin 4) (d : Fin 2) (u : Fin 64) : k2_pay6 (rowsV I s ⟨n, hn⟩) I.w I.b (ix2 b (col q d u))
    = Ideal.logistic ((Ds P Q d).lin (ws x d b n) (sts P Q x d b n).1 (gix q u) * (gs q : EReal)) := by
  rw [pay6_at]
  exact congrArg Ideal.logistic (packed_dir (X := fun d => ws x d b n) (H := fun d => (sts P Q x d b n).1) R.w (rows_at R hn H b) d q u)

/-- The input gate of the packed step is each direction's. -/
theorem i_at (d : Fin 2) (u : Fin 64) : iV I s ⟨n, hn⟩ (ix2 b (kcol d u)) = Ideal.logistic ((Ds P Q d).lin (ws x d b n) (sts P Q x d b n).1 (gix 0 u)) := by
  unfold iV
  rw [pay7_at _ _ _ b (kcol d u) (col 0 d u) rfl, gate_at R hn H b, scale_one _ _ (by decide)]

/-- The forget gate of the packed step is each direction's. -/
theorem f_at (d : Fin 2) (u : Fin 64) : fV I s ⟨n, hn⟩ (ix2 b (kcol d u)) = Ideal.logistic ((Ds P Q d).lin (ws x d b n) (sts P Q x d b n).1 (gix 1 u)) := by
  unfold fV
  rw [pay8_at _ _ _ b (kcol d u) (col 1 d u) rfl, gate_at R hn H b, scale_one _ _ (by decide)]

/-- The output gate of the packed step is each direction's. -/
theorem o_at (d : Fin 2) (u : Fin 64) : oV I s ⟨n, hn⟩ (ix2 b (kcol d u)) = Ideal.logistic ((Ds P Q d).lin (ws x d b n) (sts P Q x d b n).1 (gix 3 u)) := by
  unfold oV
  rw [pay10_at _ _ _ b (kcol d u) (col 3 d u) rfl, gate_at R hn H b, scale_one _ _ (by decide)]

/-- The cell gate of the packed step is each direction's hyperbolic tangent. -/
theorem g_at (d : Fin 2) (u : Fin 64) : gV I s ⟨n, hn⟩ (ix2 b (kcol d u)) = Ideal.tanh ((Ds P Q d).lin (ws x d b n) (sts P Q x d b n).1 (gix 2 u)) := by
  unfold gV
  rw [pay9_at _ _ _ b (kcol d u) (col 2 d u) rfl, gate_at R hn H b, gs_two, two_logistic]

/-- The hidden state after the step. -/
theorem hid_at (d : Fin 2) (u : Fin 64) :
    k2_pay13 (iV I s ⟨n, hn⟩) (fV I s ⟨n, hn⟩) (gV I s ⟨n, hn⟩) (oV I s ⟨n, hn⟩) s.2 (ix2 b (kcol d u)) = (sts P Q x d b (n + 1)).1 u := by
  rw [pay13_at, i_at R hn H, f_at R hn H, g_at R hn H, o_at R hn H, H.c]
  rfl

/-- A direction's scores of the step. -/
theorem score_at (d : Fin 2) (o : Fin 8) :
    k2_pay15 (iV I s ⟨n, hn⟩) (fV I s ⟨n, hn⟩) (gV I s ⟨n, hn⟩) (oV I s ⟨n, hn⟩) s.2 I.wo (ix2 b (⟨8 * d.val + o.val, by have := d.isLt; have := o.isLt; omega⟩ : Fin 16)) = score P Q x wo d b (n + 1) o := by
  rw [pay15_at, sum_kcol]
  simp only [hid_at R hn H]
  have hd : d = 0 ∨ d = 1 := by have := d.isLt; rcases Nat.lt_or_ge d.val 1 with h | h <;> [left; right] <;> exact Fin.ext (by show d.val = _; omega)
  rcases hd with rfl | rfl
  · have e0 := fun u => R.wo 0 u o
    have e1 := fun u => R.wo0 1 0 u o (by decide)
    simp only [e0, e1, mul_zero, Finset.sum_const_zero, add_zero]
    rfl
  · have e0 := fun u => R.wo0 0 1 u o (by decide)
    have e1 := fun u => R.wo 1 u o
    simp only [e0, e1, mul_zero, Finset.sum_const_zero, zero_add]
    rfl

omit b in
/-- The state after the step. -/
theorem next_holds : Holds P Q x (nextV I s ⟨n, hn⟩) (n + 1) where
  h d b u := by
    show put (rowsV I s ⟨n, hn⟩) ![0, 256] S512x128.size (k2_pay14 (iV I s ⟨n, hn⟩) (fV I s ⟨n, hn⟩) (gV I s ⟨n, hn⟩) (oV I s ⟨n, hn⟩) s.2) (ix2 b _) = _
    rw [put_cols_in (A := 512) (B := 384) (n := 128) _ 256 _ b (kcol d u) _ rfl, pay14_at, ← pay13_at]
    exact hid_at R hn H b d u
  c d b u := by
    show k2_pay12 (iV I s ⟨n, hn⟩) (fV I s ⟨n, hn⟩) (gV I s ⟨n, hn⟩) s.2 (ix2 b (kcol d u)) = _
    rw [pay12_at, i_at R hn H, f_at R hn H, g_at R hn H, H.c]
    rfl

end

/-- After every step the state holds both directions' states. -/
theorem stV_holds (R : Reads I P Q x wo bo) : ∀ n ≤ 128, Holds P Q x (stV I n) n
  | 0, _ => st0_holds
  | n + 1, h => by
    rw [stV, dif_pos (show n < 128 by omega)]
    exact next_holds R (by omega) (stV_holds R n (by omega))

/-- The scores after `n` steps. -/
theorem ouV_at (R : Reads I P Q x wo bo) : ∀ n ≤ 128, ∀ (t : Fin 128) (b : Fin 512) (o : Fin 8),
    ouV I n (ix3 t b o) = (if t.val < n then score P Q x wo 0 b (t.val + 1) o + bo o else 0) + (if 127 - t.val < n then score P Q x wo 1 b (128 - t.val) o else 0)
  | 0, _ => fun t b o => by
    rw [if_neg (by omega), if_neg (by omega), add_zero]
    exact Ideal.ofBits_zero_f32
  | n + 1, h => fun t b o => by
    have hn : n < 128 := by omega
    have ht := t.isLt
    have H := stV_holds R n (by omega)
    have ih := ouV_at R n (by omega)
    have hrev : (Fin.rev ⟨n, hn⟩ : Fin 128).val = 127 - n := by show 128 - (n + 1) = _; omega
    rw [ouV, dif_pos hn]
    show put (put (ouV I n) ![n, 0, 0] S1x512x8.size _) ![(Fin.rev ⟨n, hn⟩ : Fin 128).val, 0, 0] S1x512x8.size _ (ix3 t b o) = _
    by_cases h1 : t = Fin.rev ⟨n, hn⟩
    · have tv : t.val = 127 - n := h1 ▸ hrev
      have hne : t ≠ ⟨n, hn⟩ := fun e => by have := congrArg Fin.val e; have : t.val = n := this; omega
      subst h1
      rw [put_plane_in (T := 128) (A := 512) (B := 8), pay17_at _ _ _ _ _ b I.wo _ o (⟨8 * (1 : Fin 2).val + o.val, by have := o.isLt; show 8 * 1 + o.val < 16; omega⟩ : Fin 16) rfl,
        score_at R hn H b 1 o]
      have e : oAt (outF I (stV I n) (ouV I n) ⟨n, hn⟩) (Fin.rev ⟨n, hn⟩) (ix3 0 b o) = ouV I n (ix3 (Fin.rev ⟨n, hn⟩) b o) :=
        (window_plane (T := 128) (A := 512) (B := 8) _ _ _ b o).trans (put_plane_out (T := 128) (A := 512) (B := 8) (ouV I n) ⟨n, hn⟩ _ hne _ b o)
      rw [e, ih, if_neg (show ¬ 127 - (Fin.rev ⟨n, hn⟩ : Fin 128).val < n by omega), if_pos (show 127 - (Fin.rev ⟨n, hn⟩ : Fin 128).val < n + 1 by omega), add_zero,
        show 128 - (Fin.rev ⟨n, hn⟩ : Fin 128).val = n + 1 by omega]
      refine congrArg (· + _) ?_
      by_cases h2 : (Fin.rev ⟨n, hn⟩ : Fin 128).val < n
      · rw [if_pos h2, if_pos (by omega)]
      · rw [if_neg h2, if_neg (by omega)]
    · rw [put_plane_out (T := 128) (A := 512) (B := 8) _ _ _ h1]
      have hv : 127 - t.val ≠ n := fun e => h1 (Fin.ext (by rw [hrev]; omega))
      have e2 : (if 127 - t.val < n then score P Q x wo 1 b (128 - t.val) o else 0) = if 127 - t.val < n + 1 then score P Q x wo 1 b (128 - t.val) o else 0 := by
        by_cases h2 : 127 - t.val < n
        · rw [if_pos h2, if_pos (by omega)]
        · rw [if_neg h2, if_neg (by omega)]
      by_cases h3 : t = ⟨n, hn⟩
      · subst h3
        show put (ouV I n) ![(⟨n, hn⟩ : Fin 128).val, 0, 0] S1x512x8.size _ (ix3 ⟨n, hn⟩ b o) = _
        rw [put_plane_in (T := 128) (A := 512) (B := 8), pay16_at _ _ _ _ _ b I.wo _ _ o (⟨8 * (0 : Fin 2).val + o.val, by have := o.isLt; show 8 * 0 + o.val < 16; omega⟩ : Fin 16) (by show 8 * 0 + o.val = 0 + o.val; omega),
          score_at R hn H b 0 o, R.bo]
        have e : oAt (ouV I n) ⟨n, hn⟩ (ix3 0 b o) = ouV I n (ix3 ⟨n, hn⟩ b o) := window_plane (T := 128) (A := 512) (B := 8) _ _ _ b o
        rw [e, ih, e2, if_neg (show ¬ n < n by omega), if_pos (show n < n + 1 by omega), zero_add, add_assoc, add_comm]
      · have hv' : t.val ≠ n := fun e => h3 (Fin.ext e)
        show put (ouV I n) ![(⟨n, hn⟩ : Fin 128).val, 0, 0] S1x512x8.size _ (ix3 t b o) = _
        rw [put_plane_out (T := 128) (A := 512) (B := 8) _ _ _ h3, ih, e2]
        refine congrArg (· + _) ?_
        by_cases h2 : t.val < n
        · rw [if_pos h2, if_pos (by omega)]
        · rw [if_neg h2, if_neg (by omega)]

/-- The scores at the end. -/
theorem scores_at (R : Reads I P Q x wo bo) (t : Fin 128) (b : Fin 512) (o : Fin 8) :
    ouV I 128 (ix3 t b o) = score P Q x wo 0 b (t.val + 1) o + bo o + score P Q x wo 1 b (128 - t.val) o := by
  have := t.isLt
  rw [ouV_at R 128 (Nat.le_refl _), if_pos this, if_pos (by omega)]

end Cert.KernelIdeal.Pf

end
-- ==== Proof.HostPacked.lean ====
/- What the host operations between the gather and the recurrence leave, read at an entry: the doubled columns, the output weights, the words in their order. -/
module

public import proofs.«01_k».proof.Proof.HostReads
public import proofs.«01_k».proof.Proof.LstmStates
public import Idealize.ShloMosaic.Lib.Routing.OpsSet
public import Idealize.ShloMosaic.Lib.Routing.OpsPair

@[expose] public section

noncomputable section

namespace Cert.KernelIdeal.Pf

open Idealize.ShloMosaic hiding ix0 ix1 ix2 ix3
open Idealize.ShloMosaic.ValueIdx
open Idealize.ShloMosaic.TcCoe Idealize.ShloMosaic.Tactic
open Cert.KernelIdeal Facts₀ Facts
open Cert.KernelIdeal.Gen (facts₀ facts)
open Cert.Lstm

/-- Four blocks of rows one below the other, read at a row of block `k`. -/
theorem rows4_at (p0 p1 : FVec Ideal S128x512 .f32) (p2 p3 : FVec Ideal S64x512 .f32) (h : Shape.Concatenates [S128x512, S128x512, S64x512, S64x512] S384x512 0) (j : Fin 512) :
    (∀ (r : Fin 128) (i : Fin 384), r.val = i.val → concatenate S384x512 0 [⟨S128x512, p0⟩, ⟨S128x512, p1⟩, ⟨S64x512, p2⟩, ⟨S64x512, p3⟩] h (ix2 i j) = p0 (ix2 r j)) ∧
    (∀ (r : Fin 128) (i : Fin 384), 128 + r.val = i.val → concatenate S384x512 0 [⟨S128x512, p0⟩, ⟨S128x512, p1⟩, ⟨S64x512, p2⟩, ⟨S64x512, p3⟩] h (ix2 i j) = p1 (ix2 r j)) ∧
    (∀ (r : Fin 64) (i : Fin 384), 256 + r.val = i.val → concatenate S384x512 0 [⟨S128x512, p0⟩, ⟨S128x512, p1⟩, ⟨S64x512, p2⟩, ⟨S64x512, p3⟩] h (ix2 i j) = p2 (ix2 r j)) ∧
    ∀ (r : Fin 64) (i : Fin 384), 320 + r.val = i.val → concatenate S384x512 0 [⟨S128x512, p0⟩, ⟨S128x512, p1⟩, ⟨S64x512, p2⟩, ⟨S64x512, p3⟩] h (ix2 i j) = p3 (ix2 r j) := by
  refine ⟨fun r i e => ?_, fun r i e => ?_, fun r i e => ?_, fun r i e => ?_⟩
  · refine concatenate_apply_piece (t := S384x512) 0 [⟨S128x512, p0⟩, ⟨S128x512, p1⟩, ⟨S64x512, p2⟩, ⟨S64x512, p3⟩] h (ix2 i j) 0 (show 0 < 4 by decide) S128x512 p0 rfl rfl 0 rfl (ix2 r j) ?_ ((Nat.zero_add _).trans e)
    exact fun b hb => match b with | ⟨0, _⟩ => (hb rfl).elim | ⟨1, _⟩ => rfl
  · refine concatenate_apply_piece (t := S384x512) 0 [⟨S128x512, p0⟩, ⟨S128x512, p1⟩, ⟨S64x512, p2⟩, ⟨S64x512, p3⟩] h (ix2 i j) 1 (show 1 < 4 by decide) S128x512 p1 rfl rfl 128 rfl (ix2 r j) ?_ e
    exact fun b hb => match b with | ⟨0, _⟩ => (hb rfl).elim | ⟨1, _⟩ => rfl
  · refine concatenate_apply_piece (t := S384x512) 0 [⟨S128x512, p0⟩, ⟨S128x512, p1⟩, ⟨S64x512, p2⟩, ⟨S64x512, p3⟩] h (ix2 i j) 2 (show 2 < 4 by decide) S64x512 p2 rfl rfl 256 rfl (ix2 r j) ?_ e
    exact fun b hb => match b with | ⟨0, _⟩ => (hb rfl).elim | ⟨1, _⟩ => rfl
  · refine concatenate_apply_piece (t := S384x512) 0 [⟨S128x512, p0⟩, ⟨S128x512, p1⟩, ⟨S64x512, p2⟩, ⟨S64x512, p3⟩] h (ix2 i j) 3 (show 3 < 4 by decide) S64x512 p3 rfl rfl 320 rfl (ix2 r j) ?_ e
    exact fun b hb => match b with | ⟨0, _⟩ => (hb rfl).elim | ⟨1, _⟩ => rfl

/-- The vector of the columns' scales: ones, the candidate's columns overwritten by twos. -/
def scales : FVec Ideal S512 .f32 :=
  Host.scatter scatter_S512_S1_S128_0_n_0_0 (fun _ b => b) (broadcastInDim S512 ![] bcast_S_S512 (constant S_ .f32 0x3F800000#32))
    (broadcastInDim S1 ![] bcast_S_S1 (constantI S_ 32 256#32)) (broadcastInDim S128 ![] bcast_S_S128 (constant S_ .f32 0x40000000#32))

/-- An update of the scale vector lands 256 places on. -/
theorem lands_iff (k : S128.Idx) (j : Fin 512) :
    scatter_S512_S1_S128_0_n_0_0.resultIdx? k (broadcastInDim S1 ![] bcast_S_S1 (constantI S_ 32 256#32)) = some (ix1 j) ↔ 256 + (k 0).val = j.val := by
  rw [Routing.resultIdx?_eq_some]
  have hs : scatter_S512_S1_S128_0_n_0_0.start k (broadcastInDim S1 ![] bcast_S_S1 (constantI S_ 32 256#32)) 0 = 256 := rfl
  have hw : scatter_S512_S1_S128_0_n_0_0.window k 0 = (k 0).val := rfl
  constructor
  · intro h
    have := h 0
    rw [hs, hw] at this
    have e : (256 : ℤ) + ((k 0).val : ℤ) = (j.val : ℤ) := this
    omega
  · intro h a
    match a with
    | ⟨0, _⟩ =>
      show scatter_S512_S1_S128_0_n_0_0.start k _ 0 + ((scatter_S512_S1_S128_0_n_0_0.window k 0 : ℕ) : ℤ) = (j.val : ℤ)
      rw [hs, hw]
      omega

/-- A column's scale is its gate's: two for the cell gate, one for the others. -/
theorem scales_at (q : Fin 4) (d : Fin 2) (u : Fin 64) : scales (ix1 (col q d u)) = (gs q : EReal) := by
  have := d.isLt
  have := u.isLt
  unfold scales gs
  by_cases hq : q = 2
  · subst hq
    rw [if_pos rfl]
    refine Routing.scatter_set_hit _ _ _ _ _ _ (fun k _ => ?_) (ix1 (⟨64 * d.val + u.val, by omega⟩ : Fin 128)) ((lands_iff _ _).2 ?_)
    · exact (broadcastInDim_scalar_apply _ _ _).trans ofBits_two
    · rfl
  · rw [if_neg hq]
    refine (Routing.scatter_set_miss _ _ _ _ _ fun k h => ?_).trans ((broadcastInDim_scalar_apply _ _ _).trans (Ideal.ofBits_one_f32.trans (by norm_num)))
    have e : 256 + (k 0).val = 128 * q.val + (64 * d.val + u.val) := (lands_iff k _).1 h
    have hk : (k 0).val < 128 := (k 0).isLt
    exact hq (Fin.ext (by show q.val = 2; omega))

/-- A pair of index words. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- Where an update of a block of the output weights lands, given the block's corner. -/
theorem lands2_iff (a b : BitVec 32) (k : S64x8.Idx) (r : Fin 128) (c : Fin 16) :
    scatter_S128x16_S2_S64x8_01_n_01_0.resultIdx? k (pair a b) = some (ix2 r c) ↔ a.toInt + ((k 0).val : ℤ) = (r.val : ℤ) ∧ b.toInt + ((k 1).val : ℤ) = (c.val : ℤ) := by
  rw [Routing.resultIdx?_eq_some]
  have hs0 : scatter_S128x16_S2_S64x8_01_n_01_0.start k (pair a b) 0 = a.toInt := rfl
  have hs1 : scatter_S128x16_S2_S64x8_01_n_01_0.start k (pair a b) 1 = b.toInt := rfl
  have hw0 : scatter_S128x16_S2_S64x8_01_n_01_0.window k 0 = (k 0).val := rfl
  have hw1 : scatter_S128x16_S2_S64x8_01_n_01_0.window k 1 = (k 1).val := rfl
  constructor
  · intro h
    have h0 := h 0
    have h1 := h 1
    rw [hs0, hw0] at h0
    rw [hs1, hw1] at h1
    exact ⟨h0, h1⟩
  · intro h a
    match a with
    | ⟨0, _⟩ => exact h.1
    | ⟨1, _⟩ => exact h.2

/-- The output weights: both directions' blocks on the diagonal. -/
def wout (w : FVec Ideal S8x128 .f32) : FVec Ideal S128x16 .f32 :=
  Host.scatter scatter_S128x16_S2_S64x8_01_n_01_0 (fun _ b => b)
    (Host.scatter scatter_S128x16_S2_S64x8_01_n_01_0 (fun _ b => b) (broadcastInDim S128x16 ![] bcast_S_S128x16 (constant S_ .f32 0x00000000#32)) (pair 0#32 0#32)
      (transpose S64x8 [1, 0] (extractStridedSlice S8x64 ![0, 0] w slices_S8x128_S8x64_0_0) transposes_S8x64_S64x8_1_0))
    (pair 64#32 8#32) (transpose S64x8 [1, 0] (extractStridedSlice S8x64 ![0, 64] w slices_S8x128_S8x64_0_64) transposes_S8x64_S64x8_1_0)

/-- The signed value of the literal. -/
theorem toInt_64 : (64#32 : BitVec 32).toInt = 64 := by decide
/-- The signed value of the literal. -/
theorem toInt_8 : (8#32 : BitVec 32).toInt = 8 := by decide
/-- The signed value of the literal. -/
theorem toInt_0 : (0#32 : BitVec 32).toInt = 0 := by decide

/-- The backward block of the packed output weights holds the backward half of the argument. -/
theorem wout_hit1 (w : FVec Ideal S8x128 .f32) (u : Fin 64) (o : Fin 8) :
    wout w (ix2 (kcol 1 u) (⟨8 + o.val, by have := o.isLt; omega⟩ : Fin 16)) = w (ix2 o (kcol 1 u)) := by
  refine Routing.scatter_set_hit _ _ _ _ _ _ (fun k h => ?_) (ix2 u o) ((lands2_iff _ _ _ _ _).2 ?_)
  · obtain ⟨h0, h1⟩ := (lands2_iff _ _ _ _ _).1 h
    rw [toInt_64] at h0
    rw [toInt_8] at h1
    have e0 : k 0 = u := Fin.ext (by
      have e : (64 : ℤ) + ((k 0).val : ℤ) = ((64 * 1 + u.val : ℕ) : ℤ) := h0
      omega)
    have e1 : k 1 = o := Fin.ext (by
      have e : (8 : ℤ) + ((k 1).val : ℤ) = ((8 + o.val : ℕ) : ℤ) := h1
      omega)
    rw [ValueIdx.eq_ix2 k, e0, e1]
    refine (transpose_ix2_apply _ _ _ _).trans (slice_cols 64 w _ o u (kcol 1 u) rfl)
  · rw [toInt_64, toInt_8]
    constructor
    · show (64 : ℤ) + (u.val : ℤ) = ((64 * 1 + u.val : ℕ) : ℤ); omega
    · show (8 : ℤ) + (o.val : ℤ) = ((8 + o.val : ℕ) : ℤ); omega

/-- Off the second block the second store leaves the first one's. -/
theorem wout_first (w : FVec Ideal S8x128 .f32) (r : Fin 128) (c : Fin 16) (h : r.val < 64 ∨ c.val < 8) :
    wout w (ix2 r c) = Host.scatter scatter_S128x16_S2_S64x8_01_n_01_0 (fun _ b => b) (broadcastInDim S128x16 ![] bcast_S_S128x16 (constant (F := Ideal) S_ .f32 0x00000000#32)) (pair 0#32 0#32)
      (transpose S64x8 [1, 0] (extractStridedSlice S8x64 ![0, 0] w slices_S8x128_S8x64_0_0) transposes_S8x64_S64x8_1_0) (ix2 r c) := by
  refine Routing.scatter_set_miss _ _ _ _ _ fun k hk => ?_
  obtain ⟨h0, h1⟩ := (lands2_iff _ _ _ _ _).1 hk
  rw [toInt_64] at h0
  rw [toInt_8] at h1
  omega

/-- The forward block of the packed output weights holds the forward half of the argument. -/
theorem wout_hit0 (w : FVec Ideal S8x128 .f32) (u : Fin 64) (o : Fin 8) :
    wout w (ix2 (kcol 0 u) (⟨o.val, by have := o.isLt; omega⟩ : Fin 16)) = w (ix2 o (kcol 0 u)) := by
  have ho := o.isLt
  rw [wout_first w _ _ (Or.inr ho)]
  refine Routing.scatter_set_hit _ _ _ _ _ _ (fun k h => ?_) (ix2 u o) ((lands2_iff _ _ _ _ _).2 ?_)
  · obtain ⟨h0, h1⟩ := (lands2_iff _ _ _ _ _).1 h
    rw [toInt_0] at h0 h1
    have e0 : k 0 = u := Fin.ext (by
      have e : (0 : ℤ) + ((k 0).val : ℤ) = ((64 * 0 + u.val : ℕ) : ℤ) := h0
      omega)
    have e1 : k 1 = o := Fin.ext (by
      have e : (0 : ℤ) + ((k 1).val : ℤ) = (o.val : ℤ) := h1
      omega)
    rw [ValueIdx.eq_ix2 k, e0, e1]
    refine (transpose_ix2_apply _ _ _ _).trans (slice_cols 0 w _ o u (kcol 0 u) (by show 64 * 0 + u.val = 0 + u.val; omega))
  · rw [toInt_0]
    constructor
    · show (0 : ℤ) + (u.val : ℤ) = ((64 * 0 + u.val : ℕ) : ℤ); omega
    · show (0 : ℤ) + (o.val : ℤ) = (o.val : ℤ); omega

/-- Off both blocks the output weights are zero. -/
theorem wout_miss (w : FVec Ideal S8x128 .f32) (r : Fin 128) (c : Fin 16) (h : r.val < 64 ∧ 8 ≤ c.val ∨ 64 ≤ r.val ∧ c.val < 8) : wout w (ix2 r c) = 0 := by
  rw [wout_first w r c (by omega)]
  refine (Routing.scatter_set_miss _ _ _ _ _ fun k hk => ?_).trans (zeros_at _ _)
  obtain ⟨h0, h1⟩ := (lands2_iff _ _ _ _ _).1 hk
  rw [toInt_0] at h0 h1
  have k0 : (k 0).val < 64 := (k 0).isLt
  have k1 : (k 1).val < 8 := (k 1).isLt
  omega

/-- The entrywise sum of two rows. -/
def plus (x y : FVec Ideal S1x512 .f32) (i : S1x512.Idx) : EReal := x i + y i

/-- An entry of the packed weights. -/
def ent (x : FVec Ideal S384x512 .f32) (i : S384x512.Idx) : EReal := x i

section
variable (X : DV Ideal)

set_option maxRecDepth 16384 in
set_option maxHeartbeats 2000000 in
/-- An entry of the scaled packed weights. -/
theorem v60_at (r : Fin 384) (j : Fin 512) :
    @Eq EReal ((StableHlo.after opsC X (Proc.devRef .tc main_v60) : FVec Ideal S384x512 .bf16) (ix2 r j)) (ent (X (Proc.devRef .tc main_v35)) (ix2 r j) * scales (ix1 j)) := by
  after_reads_simp
  refine congrArg (fun z : EReal => ent (X (Proc.devRef .tc main_v35)) (ix2 r j) * z) ?_
  refine (broadcastInDim_apply (s := S1x512) (t := S384x512) _ _ _ (ix2 r j) (ix2 (0 : Fin 1) j) fun a => ?_).trans (row_at (n := 512) _ _ _ (by decide))
  match a with
  | ⟨0, _⟩ => rfl
  | ⟨1, _⟩ => rfl

set_option maxRecDepth 16384 in
set_option maxHeartbeats 2000000 in
/-- An entry of the scaled packed bias. -/
theorem v62_at (j : Fin 512) :
    @Eq EReal ((StableHlo.after opsC X (Proc.devRef .tc main_v62) : FVec Ideal S1x512 .f32) (ix2 0 j))
      (plus (X (Proc.devRef .tc main_v43)) (X (Proc.devRef .tc main_v51)) (ix2 0 j) * scales (ix1 j)) := by
  after_reads_simp
  exact congrArg (fun z : EReal => plus (X (Proc.devRef .tc main_v43)) (X (Proc.devRef .tc main_v51)) (ix2 0 j) * z) (row_at (n := 512) scales _ j (by decide))

set_option maxRecDepth 16384 in
set_option maxHeartbeats 2000000 in
/-- The packed output weights as a function of the argument. -/
theorem v75_eq : (StableHlo.after opsC X (Proc.devRef .tc main_v75) : FVec Ideal S128x16 .f32) = wout (X (Proc.devRef .tc main_arg10)) := by
  after_reads_simp
  rfl

set_option maxRecDepth 16384 in
set_option maxHeartbeats 2000000 in
/-- The output bias as a row. -/
theorem v76_at (o : Fin 8) : (StableHlo.after opsC X (Proc.devRef .tc main_v76) : FVec Ideal S1x8 .f32) (ix2 0 o) = (X (Proc.devRef .tc main_arg11) : FVec Ideal S8 .f32) (ix1 o) := by
  after_reads_simp
  exact row_at (n := 8) _ _ _ (by decide)

set_option maxRecDepth 16384 in
set_option maxHeartbeats 2000000 in
/-- The gathered rows as a stack of words: row `t * 512 + b` is word `t` of sentence `b`. -/
theorem v4_at (t : Fin 128) (b : Fin 512) (e : Fin 128) (n : Fin 65536) (hn : n.val = t.val * 512 + b.val) :
    (StableHlo.after opsB X (Proc.devRef .tc main_v4) : FVec Ideal S128x512x128 .f32) (ix3 t b e) = (X (Proc.devRef .tc main_v3) : FVec Ideal S65536x128 .f32) (ix2 n e) := by
  after_reads_simp
  refine shapeCast_apply (s := S65536x128) (t := S128x512x128) _ _ _ _ ?_
  rw [Shape.rowMajor_val_two, Shape.rowMajor_val_three]
  show n.val * 128 + e.val = (t.val * 512 + b.val) * 128 + e.val
  rw [hn]

end

end Cert.KernelIdeal.Pf

end
-- ==== Proof.LstmSpec.lean ====
/- What both programs compute, over the extended reals, from the arguments: the words of a batch row, both directions' weights, and the scores. -/
module

public import proofs.«01_k».proof.Proof.LstmStates

@[expose] public section

noncomputable section

namespace Cert.Lstm

open Idealize.ShloMosaic hiding ix0 ix1 ix2 ix3
open Idealize.ShloMosaic.ValueIdx

/-- A direction's weights as its arguments give them. -/
def dirOf (wi : (⟨2, ![256, 100]⟩ : Shape).Idx → EReal) (wh : (⟨2, ![256, 64]⟩ : Shape).Idx → EReal) (bi bh : (⟨1, ![256]⟩ : Shape).Idx → EReal) : Dir where
  wi j e := wi (ix2 j e)
  wh j m := wh (ix2 j m)
  bi j := bi (ix1 j)
  bh j := bh (ix1 j)

/-- The embedding of the word at position `t` of batch row `b`. -/
def wordsOf (ids : (⟨2, ![512, 128]⟩ : Shape).Idx → BitVec 32) (emb : (⟨2, ![100000, 100]⟩ : Shape).Idx → EReal) (t : Fin 128) (b : Fin 512) (e : Fin 100) : EReal :=
  emb (ix2 (⟨(ids (ix2 b t)).toNat % 100000, Nat.mod_lt _ (by decide)⟩ : Fin 100000) e)

/-- A direction's output weights. -/
def woOf (w : (⟨2, ![8, 128]⟩ : Shape).Idx → EReal) (d : Fin 2) (u : Fin 64) (o : Fin 8) : EReal := w (ix2 o (kcol d u))

/-- The score of tag `o` at position `t` of batch row `b`: both directions' contributions and the bias. -/
def tag (P Q : Dir) (x : Fin 128 → Fin 512 → Fin 100 → EReal) (wo : Fin 2 → Fin 64 → Fin 8 → EReal) (bo : Fin 8 → EReal) (b : Fin 512) (t : Fin 128) (o : Fin 8) : EReal :=
  score P Q x wo 0 b (t.val + 1) o + bo o + score P Q x wo 1 b (128 - t.val) o

end Cert.Lstm

end
-- ==== Proof.KernelValue.lean ====
/- The kernel's result over the extended reals: the scores, read at an entry. -/
module

public import proofs.«01_k».proof.Proof.HostPacked
public import proofs.«01_k».proof.Proof.LstmSpec

@[expose] public section

noncomputable section

namespace Cert.KernelIdeal.Pf

open Idealize.ShloMosaic hiding ix0 ix1 ix2 ix3
open Idealize.ShloMosaic.ValueIdx
open Idealize.ShloMosaic.TcCoe Idealize.ShloMosaic.Tactic
open Cert.KernelIdeal Facts₀ Facts
open Cert.KernelIdeal.Gen (facts₀ facts)
open Cert.Lstm

variable (W0 : Dev nD → DV Ideal) (d : Dev nD)

/-- The first direction's weights, the second's, the words, the output weights and the bias, of device `d`. -/
def dirP : Dir := dirOf (W0 d (Proc.devRef .tc main_arg2)) (W0 d (Proc.devRef .tc main_arg3)) (W0 d (Proc.devRef .tc main_arg4)) (W0 d (Proc.devRef .tc main_arg5))
def dirQ : Dir := dirOf (W0 d (Proc.devRef .tc main_arg6)) (W0 d (Proc.devRef .tc main_arg7)) (W0 d (Proc.devRef .tc main_arg8)) (W0 d (Proc.devRef .tc main_arg9))
def words : Fin 128 → Fin 512 → Fin 100 → EReal := wordsOf (W0 d (Proc.devRef .tc main_arg0)) (W0 d (Proc.devRef .tc main_arg1))
def woW : Fin 2 → Fin 64 → Fin 8 → EReal := woOf (W0 d (Proc.devRef .tc main_arg10))
def boW (o : Fin 8) : EReal := (W0 d (Proc.devRef .tc main_arg11) : FVec Ideal S8 .f32) (ix1 o)

/-- An argument is unchanged up to the second line. -/
theorem V3_arg (r : Ref sig .tc) (hA : r ∉ opsAW) (h2 : r ≠ main_v2) (h3 : r ≠ main_v3) : V3 W0 d (Proc.devRef .tc r) = W0 d (Proc.devRef .tc r) := by
  unfold V3
  rw [setAt_ne _ _ _ h3]
  unfold V2
  rw [setAt_ne _ _ _ h2]
  unfold V1
  rw [StableHlo.after_of_writes_sub opsA _ opsA_writes hA]

/-- An argument is unchanged up to the third line. -/
theorem VB_arg (r : Ref sig .tc) (hA : r ∉ opsAW) (h2 : r ≠ main_v2) (h3 : r ≠ main_v3) (hB : r ∉ opsBW) :
    StableHlo.after opsB (V3 W0 d) (Proc.devRef .tc r) = W0 d (Proc.devRef .tc r) :=
  (StableHlo.after_of_writes_sub opsB _ opsB_writes hB).trans (V3_arg W0 d r hA h2 h3)

/-- The index list's entry for position `t` of batch row `b`. -/
theorem ixs_at (t : Fin 128) (b : Fin 512) (n : Fin 65536) (hn : n.val = t.val * 512 + b.val) :
    ixs W0 d (at2 n) = (W0 d (Proc.devRef .tc main_arg0) : IVec S512x128 32) (ix2 b t) := by
  have e : ixs W0 d = StableHlo.after opsA (W0 d) (Proc.devRef .tc main_v1) := setAt_ne _ _ _ (by decide)
  rw [e]
  after_reads_simp
  refine (shapeCast_apply (s := S128x512) (t := S512x128) _ _ _ (ix2 t b) ?_).trans (transpose_ix2_apply _ _ _ _)
  rw [Shape.rowMajor_val_two, Shape.rowMajor_val_two]
  show t.val * 512 + b.val = n.val / 128 * 128 + n.val % 128
  omega

/-- A word as the LSTM call reads it: the table's row that the index names. -/
theorem x_at (t : Fin 128) (b : Fin 512) (e : Fin 100) :
    @Eq EReal ((V4 W0 d (Proc.devRef .tc main_v4) : FVec Ideal S128x512x128 .f32) (ix3 t b (⟨e.val, by have := e.isLt; omega⟩ : Fin 128))) (words W0 d t b e) := by
  have ht := t.isLt
  have hb := b.isLt
  have he := e.isLt
  have e4 : V4 W0 d (Proc.devRef .tc main_v4) = StableHlo.after opsB (V3 W0 d) (Proc.devRef .tc main_v4) := StableHlo.after_of_writes_sub opsC _ opsC_writes (by decide)
  have e3 : V3 W0 d (Proc.devRef .tc main_v3) = gath (tbl W0 d) (ixs W0 d) := setAt_same _ _ _
  have e2 : tbl W0 d = padRows (n := 100000) (W0 d (Proc.devRef .tc main_arg1)) :=
    (setAt_same _ _ _).trans (congrArg (padRows (n := 100000)) (StableHlo.after_of_writes_sub opsA _ opsA_writes (show main_arg1 ∉ opsAW by decide)))
  rw [e4]
  refine (v4_at _ t b _ (⟨t.val * 512 + b.val, by omega⟩ : Fin 65536) rfl).trans ?_
  rw [e3]
  show tbl W0 d (Idealize.ShloMosaic.ix2 (n0 := 100000) (n1 := 128) ⟨(ixs W0 d (at2 (⟨t.val * 512 + b.val, _⟩ : Fin 65536))).toNat % 100000, _⟩ (⟨e.val, _⟩ : Fin 128)) = _
  rw [e2]
  unfold padRows
  rw [dif_pos (show ((Idealize.ShloMosaic.ix2 (n0 := 100000) (n1 := 128) (⟨(ixs W0 d (at2 (⟨t.val * 512 + b.val, by omega⟩ : Fin 65536))).toNat % 100000, Nat.mod_lt _ (by decide)⟩) (⟨e.val, by omega⟩ : Fin 128)) 1).val < 100 from he)]
  refine congrArg (W0 d (Proc.devRef .tc main_arg1) : FVec Ideal S100000x100 .f32) (funext fun a => ?_)
  match a with
  | ⟨0, _⟩ => exact Fin.ext (congrArg (fun w : BitVec 32 => w.toNat % 100000) (ixs_at W0 d t b _ rfl))
  | ⟨1, _⟩ => rfl

/-- The same at the state in which the LSTM call is made, over the program's arguments. -/
theorem v60_V4 (r : Fin 384) (j : Fin 512) : @Eq EReal ((V4 W0 d (Proc.devRef .tc main_v60) : FVec Ideal S384x512 .bf16) (ix2 r j))
    (ent (StableHlo.after opsB (V3 W0 d) (Proc.devRef .tc main_v35)) (ix2 r j) * scales (ix1 j)) := by
  unfold V4
  exact v60_at (StableHlo.after opsB (V3 W0 d)) r j

/-- The same at the state in which the LSTM call is made, over the program's arguments. -/
theorem v62_V4 (j : Fin 512) : @Eq EReal ((V4 W0 d (Proc.devRef .tc main_v62) : FVec Ideal S1x512 .f32) (ix2 0 j))
    (plus (StableHlo.after opsB (V3 W0 d) (Proc.devRef .tc main_v43)) (StableHlo.after opsB (V3 W0 d) (Proc.devRef .tc main_v51)) (ix2 0 j) * scales (ix1 j)) := by
  unfold V4
  exact v62_at (StableHlo.after opsB (V3 W0 d)) j

/-- The same at the state in which the LSTM call is made, over the program's arguments. -/
theorem v75_V4 : (V4 W0 d (Proc.devRef .tc main_v75) : FVec Ideal S128x16 .f32) = wout (W0 d (Proc.devRef .tc main_arg10)) := by
  rw [← VB_arg W0 d main_arg10 (by decide) (by decide) (by decide) (by decide)]
  unfold V4
  exact v75_eq (StableHlo.after opsB (V3 W0 d))

/-- The same at the state in which the LSTM call is made, over the program's arguments. -/
theorem v76_V4 (o : Fin 8) : @Eq EReal ((V4 W0 d (Proc.devRef .tc main_v76) : FVec Ideal S1x8 .f32) (ix2 0 o)) (boW W0 d o) := by
  unfold V4 boW
  rw [← VB_arg W0 d main_arg11 (by decide) (by decide) (by decide) (by decide)]
  exact v76_at (StableHlo.after opsB (V3 W0 d)) o

set_option maxHeartbeats 1000000 in
/-- The packed weights, as the recurrence finds them. -/
theorem packed_V4 : Packed (dirP W0 d) (dirQ W0 d) (fun r k => (V4 W0 d (Proc.devRef .tc main_v60) : FVec Ideal S384x512 .bf16) (ix2 r k))
    (fun k => (V4 W0 d (Proc.devRef .tc main_v62) : FVec Ideal S1x512 .f32) (ix2 0 k)) := by
  have a (r : Ref sig .tc) (hA : r ∉ opsAW) (h2 : r ≠ main_v2) (h3 : r ≠ main_v3) := V3_arg W0 d r hA h2 h3
  have hw (r : Fin 384) (q : Fin 4) (d' : Fin 2) (u : Fin 64) : @Eq EReal ((V4 W0 d (Proc.devRef .tc main_v60) : FVec Ideal S384x512 .bf16) (ix2 r (col q d' u)))
      (ent (StableHlo.after opsB (V3 W0 d) (Proc.devRef .tc main_v35)) (ix2 r (col q d' u)) * (gs q : EReal)) :=
    (v60_V4 W0 d r (col q d' u)).trans (congrArg (ent (StableHlo.after opsB (V3 W0 d) (Proc.devRef .tc main_v35)) (ix2 r (col q d' u)) * ·) (scales_at q d' u))
  have r4 := fun j => rows4_at (StableHlo.after opsB (V3 W0 d) (Proc.devRef .tc main_v12)) (StableHlo.after opsB (V3 W0 d) (Proc.devRef .tc main_v20))
    (StableHlo.after opsB (V3 W0 d) (Proc.devRef .tc main_v27)) (StableHlo.after opsB (V3 W0 d) (Proc.devRef .tc main_v34)) concatenates_S128x512_S128x512_S64x512_S64x512_S384x512_d0 j
  have w0 (r : Fin 128) (i : Fin 384) (hi : r.val = i.val) (q : Fin 4) (d' : Fin 2) (u : Fin 64) :
      ent (StableHlo.after opsB (V3 W0 d) (Proc.devRef .tc main_v35)) (ix2 i (col q d' u)) = if d' = 0 then wpad (W0 d (Proc.devRef .tc main_arg2)) r (gix q u) else 0 := by
    rw [← a main_arg2 (by decide) (by decide) (by decide), ← v12_at]
    exact (congrFun (v35_eq (V3 W0 d)) _).trans ((r4 _).1 r i hi)
  have w1 (r : Fin 128) (i : Fin 384) (hi : 128 + r.val = i.val) (q : Fin 4) (d' : Fin 2) (u : Fin 64) :
      ent (StableHlo.after opsB (V3 W0 d) (Proc.devRef .tc main_v35)) (ix2 i (col q d' u)) = if d' = 0 then 0 else wpad (W0 d (Proc.devRef .tc main_arg6)) r (gix q u) := by
    rw [← a main_arg6 (by decide) (by decide) (by decide), ← v20_at]
    exact (congrFun (v35_eq (V3 W0 d)) _).trans ((r4 _).2.1 r i hi)
  have w2 (r : Fin 64) (i : Fin 384) (hi : 256 + r.val = i.val) (q : Fin 4) (d' : Fin 2) (u : Fin 64) :
      ent (StableHlo.after opsB (V3 W0 d) (Proc.devRef .tc main_v35)) (ix2 i (col q d' u)) = if d' = 0 then hwt (W0 d (Proc.devRef .tc main_arg3)) r (gix q u) else 0 := by
    rw [← a main_arg3 (by decide) (by decide) (by decide), ← v27_at]
    exact (congrFun (v35_eq (V3 W0 d)) _).trans ((r4 _).2.2.1 r i hi)
  have w3 (r : Fin 64) (i : Fin 384) (hi : 320 + r.val = i.val) (q : Fin 4) (d' : Fin 2) (u : Fin 64) :
      ent (StableHlo.after opsB (V3 W0 d) (Proc.devRef .tc main_v35)) (ix2 i (col q d' u)) = if d' = 0 then 0 else hwt (W0 d (Proc.devRef .tc main_arg7)) r (gix q u) := by
    rw [← a main_arg7 (by decide) (by decide) (by decide), ← v34_at]
    exact (congrFun (v35_eq (V3 W0 d)) _).trans ((r4 _).2.2.2 r i hi)
  have hb (q : Fin 4) (d' : Fin 2) (u : Fin 64) : @Eq EReal ((V4 W0 d (Proc.devRef .tc main_v62) : FVec Ideal S1x512 .f32) (ix2 0 (col q d' u)))
      (((if d' = 0 then bsum (W0 d (Proc.devRef .tc main_arg4)) (W0 d (Proc.devRef .tc main_arg5)) (gix q u) else 0)
        + (if d' = 0 then 0 else bsum (W0 d (Proc.devRef .tc main_arg8)) (W0 d (Proc.devRef .tc main_arg9)) (gix q u))) * (gs q : EReal)) := by
    rw [v62_V4, scales_at, plus]
    rw [← a main_arg4 (by decide) (by decide) (by decide), ← a main_arg5 (by decide) (by decide) (by decide), ← a main_arg8 (by decide) (by decide) (by decide),
      ← a main_arg9 (by decide) (by decide) (by decide), ← v43_at, ← v51_at]
  have n10 : ¬(1 : Fin 2) = 0 := by decide
  have pz (w : FVec Ideal S256x100 .f32) (e : Fin 28) (j : Fin 256) : wpad w (⟨100 + e.val, by have := e.isLt; omega⟩ : Fin 128) j = 0 := dif_neg (by show ¬100 + e.val < 100; omega)
  have pw (w : FVec Ideal S256x100 .f32) (e : Fin 100) (j : Fin 256) : wpad w (⟨e.val, by have := e.isLt; omega⟩ : Fin 128) j = w (ix2 j e) := dif_pos e.isLt
  constructor
  · intro e q u
    rw [hw, w0 (⟨e.val, by have := e.isLt; omega⟩ : Fin 128) _ rfl, if_pos rfl, pw]; rfl
  · intro e q u
    rw [hw, w0 (⟨e.val, by have := e.isLt; omega⟩ : Fin 128) _ rfl, if_neg n10, zero_mul]
  · intro e q d' u
    rw [hw, w0 (⟨100 + e.val, by have := e.isLt; omega⟩ : Fin 128) _ rfl, pz, ite_self, zero_mul]
  · intro e q u
    rw [hw, w1 (⟨e.val, by have := e.isLt; omega⟩ : Fin 128) _ rfl, if_neg n10, pw]; rfl
  · intro e q u
    rw [hw, w1 (⟨e.val, by have := e.isLt; omega⟩ : Fin 128) _ rfl, if_pos rfl, zero_mul]
  · intro e q d' u
    rw [hw, w1 (⟨100 + e.val, by have := e.isLt; omega⟩ : Fin 128) _ (by show 128 + (100 + e.val) = 228 + e.val; omega), pz, ite_self, zero_mul]
  · intro m q u
    rw [hw, w2 m _ rfl, if_pos rfl]; rfl
  · intro m q u
    rw [hw, w2 m _ rfl, if_neg n10, zero_mul]
  · intro m q u
    rw [hw, w3 m _ rfl, if_neg n10]; rfl
  · intro m q u
    rw [hw, w3 m _ rfl, if_pos rfl, zero_mul]
  · intro q u
    rw [hb, if_pos rfl, if_pos rfl, add_zero]; rfl
  · intro q u
    rw [hb, if_neg n10, if_neg n10, zero_add]; rfl

/-- A direction's own block of the packed output weights holds its output weights. -/
theorem wo_V4 (d' : Fin 2) (u : Fin 64) (o : Fin 8) :
    wout (W0 d (Proc.devRef .tc main_arg10)) (ix2 (kcol d' u) (⟨8 * d'.val + o.val, by have := d'.isLt; have := o.isLt; omega⟩ : Fin 16)) = woW W0 d d' u o := by
  have hd : d' = 0 ∨ d' = 1 := by have := d'.isLt; rcases Nat.lt_or_ge d'.val 1 with h | h <;> [left; right] <;> exact Fin.ext (by show d'.val = _; omega)
  rcases hd with rfl | rfl
  · refine Eq.trans (congrArg (fun c : Fin 16 => wout (W0 d (Proc.devRef .tc main_arg10)) (ix2 (kcol 0 u) c)) (Fin.ext ?_)) (wout_hit0 _ u o)
    show 8 * 0 + o.val = o.val; omega
  · exact wout_hit1 _ u o

/-- The other direction's block of the packed output weights is zero. -/
theorem wo0_V4 (d1 d2 : Fin 2) (u : Fin 64) (o : Fin 8) (hne : d1 ≠ d2) :
    wout (W0 d (Proc.devRef .tc main_arg10)) (ix2 (kcol d1 u) (⟨8 * d2.val + o.val, by have := d2.isLt; have := o.isLt; omega⟩ : Fin 16)) = 0 := by
  refine wout_miss _ _ _ ?_
  have h1 := d1.isLt
  have h2 := d2.isLt
  have hu := u.isLt
  have ho := o.isLt
  have hv : d1.val ≠ d2.val := fun e => hne (Fin.ext e)
  show 64 * d1.val + u.val < 64 ∧ 8 ≤ 8 * d2.val + o.val ∨ 64 ≤ 64 * d1.val + u.val ∧ 8 * d2.val + o.val < 8
  omega

/-- What the recurrence reads, given buffer by buffer. -/
theorem reads_of {I : Ins Ideal} {x : FVec Ideal S128x512x128 .f32} {w : FVec Ideal S384x512 .bf16} {b : FVec Ideal S1x512 .f32} {wo : FVec Ideal S128x16 .f32} {bo : FVec Ideal S1x8 .f32}
    (hI : I = ⟨x, w, b, wo, bo⟩) {P Q : Dir} {X : Fin 128 → Fin 512 → Fin 100 → EReal} {Wo : Fin 2 → Fin 64 → Fin 8 → EReal} {Bo : Fin 8 → EReal}
    (R : Reads ⟨x, w, b, wo, bo⟩ P Q X Wo Bo) : Reads I P Q X Wo Bo := hI ▸ R

set_option maxHeartbeats 4000000 in
/-- What the LSTM call reads is the packed form of the program's arguments. -/
theorem reads_V4 : Reads (insV (vals (V4 W0)) d) (dirP W0 d) (dirQ W0 d) (words W0 d) (woW W0 d) (boW W0 d) :=
  reads_of (x := V4 W0 d (Proc.devRef .tc main_v4)) (w := V4 W0 d (Proc.devRef .tc main_v60)) (b := V4 W0 d (Proc.devRef .tc main_v62))
    (wo := wout (W0 d (Proc.devRef .tc main_arg10))) (bo := V4 W0 d (Proc.devRef .tc main_v76)) (by rw [← v75_V4]; rfl)
    ⟨x_at W0 d, packed_V4 W0 d, wo_V4 W0 d, wo0_V4 W0 d, v76_V4 W0 d⟩

/-- The kernel's result at an entry. -/
theorem kernel_at (b : Fin 512) (t : Fin 128) (o : Fin 8) : (V6 W0 d (Proc.devRef .tc main_v78) : FVec Ideal S512x128x8 .f32) (ix3 b t o)
    = tag (dirP W0 d) (dirQ W0 d) (words W0 d) (woW W0 d) (boW W0 d) b t o := by
  have e5 : V5 W0 d (Proc.devRef .tc main_v77) = ouV (insV (vals (V4 W0)) d) 128 := setAt_same _ _ _
  unfold V6
  after_reads_simp
  rw [e5]
  refine (transpose_apply (s := S128x512x8) (t := S512x128x8) _ _ _ _ (ix3 t b o) fun c => ?_).trans (scores_at (reads_V4 W0 d) t b o)
  match c with
  | ⟨0, _⟩ => rfl
  | ⟨1, _⟩ => rfl
  | ⟨2, _⟩ => rfl

end Cert.KernelIdeal.Pf

end
-- ==== Proof.RefStep.lean ====
/- One step of the reference's recurrence: the operations of a loop body, as functions of what they read, and their values at an entry. -/
module

public import proofs.«01_k».proof.Proof.RefHost
public import proofs.«01_k».proof.Proof.LstmSpec
public import Idealize.ShloMosaic.Lib.StackMember
public import Idealize.ShloMosaic.Lib.WordCmp
public import Idealize.ShloMosaic.Lib.IdealHost
public import Idealize.ShloMosaic.Lib.ValueIdx
public import Idealize.ShloMosaic.Lib.ValueLayout

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

/-- A bias on every row. -/
def biasR (b : FVec Ideal S256 .f32) : FVec Ideal S512x256 .f32 :=
  broadcastInDim S512x256 ![0, 1] bcast_S1x256_S512x256_0_1 (broadcastInDim S1x256 ![1] bcast_S256_S1x256_1 b)

/-- All gates of all rows before their nonlinearities. -/
def gatesR (x : FVec Ideal S512x100 .f32) (wi : FVec Ideal S256x100 .f32) (wh : FVec Ideal S256x64 .f32) (bi bh : FVec Ideal S256 .f32) (h : FVec Ideal S512x64 .f32) :
    FVec Ideal S512x256 .f32 :=
  addf (addf (addf (Host.dotGeneral dot_S512x100_S100x256_S512x256_1_0_0_1_n_n none x (transpose S100x256 [1, 0] wi transposes_S256x100_S100x256_1_0))
    (Host.dotGeneral dot_S512x64_S64x256_S512x256_1_0_0_1_n_n none h (transpose S64x256 [1, 0] wh transposes_S256x64_S64x256_1_0))) (biasR bi)) (biasR bh)

/-- All ones. -/
def onesR : FVec Ideal S512x64 .f32 := broadcastInDim S512x64 ![] bcast_S_S512x64 (constant S_ .f32 0x3F800000#32)

/-- The logistic function as the reference spells it. -/
def sigR (x : FVec Ideal S512x64 .f32) : FVec Ideal S512x64 .f32 :=
  Host.divf onesR (addf onesR (Host.exp (Host.negf x)))

/-- The new cell states from the gates and the old cell states. -/
def cellR (g : FVec Ideal S512x256 .f32) (c : FVec Ideal S512x64 .f32) : FVec Ideal S512x64 .f32 :=
  addf (mulf (sigR (extractStridedSlice S512x64 ![0, 64] g slices_S512x256_S512x64_0_64)) c)
    (mulf (sigR (extractStridedSlice S512x64 ![0, 0] g slices_S512x256_S512x64_0_0)) (Host.tanh (extractStridedSlice S512x64 ![0, 128] g slices_S512x256_S512x64_0_128)))

/-- The new hidden states from the gates and the old cell states. -/
def hidR (g : FVec Ideal S512x256 .f32) (c : FVec Ideal S512x64 .f32) : FVec Ideal S512x64 .f32 :=
  mulf (sigR (extractStridedSlice S512x64 ![0, 192] g slices_S512x256_S512x64_0_192)) (Host.tanh (cellR g c))

/-- A bias spread over the rows, at an entry. -/
theorem biasR_at (b : FVec Ideal S256 .f32) (r : Fin 512) (j : Fin 256) : @Eq EReal (biasR b (ix2 r j)) (b (ix1 j)) := by
  unfold biasR
  refine congrArg b (funext fun a => Fin.ext ?_)
  match a with
  | ⟨0, _⟩ => rfl

/-- Entries of a sum, a product and a hyperbolic tangent. -/
theorem add_at {s : Shape} (x y : FVec Ideal s .f32) (i : s.Idx) (a b : EReal) (hx : @Eq EReal (x i) a) (hy : @Eq EReal (y i) b) : @Eq EReal (addf x y i) (a + b) :=
  congrArg₂ (fun p q : EReal => p + q) hx hy
/-- A product at an entry, from the factors there. -/
theorem mul_at {s : Shape} (x y : FVec Ideal s .f32) (i : s.Idx) (a b : EReal) (hx : @Eq EReal (x i) a) (hy : @Eq EReal (y i) b) : @Eq EReal (mulf x y i) (a * b) :=
  congrArg₂ (fun p q : EReal => p * q) hx hy
/-- A hyperbolic tangent at an entry, from the operand there. -/
theorem tanh_at {s : Shape} (x : FVec Ideal s .f32) (i : s.Idx) (a : EReal) (hx : @Eq EReal (x i) a) : @Eq EReal (Host.tanh x i) (Ideal.tanh a) :=
  congrArg Ideal.tanh hx

/-- A matrix times a transposed one, at an entry. -/
theorem dotT_at {k : ℕ} (x : FVec Ideal ⟨2, ![512, k]⟩ .f32) (w : FVec Ideal ⟨2, ![256, k]⟩ .f32) (h : (⟨2, ![256, k]⟩ : Shape).Transposes [1, 0] ⟨2, ![k, 256]⟩) (b : Fin 512) (j : Fin 256) :
    @Eq EReal (Host.dotGeneral (DotDims.plain 512 k 256) none x (transpose ⟨2, ![k, 256]⟩ [1, 0] w h) (ix2 b j)) (∑ e : Fin k, x (ix2 b e) * w (ix2 j e)) := by
  refine (StackMember.dotGeneral_plain_apply none x (transpose ⟨2, ![k, 256]⟩ [1, 0] w h) b j).trans ?_
  refine Finset.sum_congr rfl fun e _ => congrArg (fun z => x (ix2 b e) * z) ?_
  refine congrArg w (funext fun a => Fin.ext ?_)
  match a with
  | ⟨0, _⟩ => rfl
  | ⟨1, _⟩ => rfl

/-- The reference's gate sums at an entry are the direction's. -/
theorem gatesR_at (x : FVec Ideal S512x100 .f32) (wi : FVec Ideal S256x100 .f32) (wh : FVec Ideal S256x64 .f32) (bi bh : FVec Ideal S256 .f32) (h : FVec Ideal S512x64 .f32) (b : Fin 512) (j : Fin 256) :
    @Eq EReal (gatesR x wi wh bi bh h (ix2 b j)) ((dirOf wi wh bi bh).lin (fun e => x (ix2 b e)) (fun m => h (ix2 b m)) j) := by
  unfold gatesR Dir.lin
  refine add_at _ _ _ _ _ (add_at _ _ _ _ _ (add_at _ _ _ _ _ ?_ ?_) (biasR_at bi b j)) (biasR_at bh b j)
  · exact dotT_at (k := 100) x wi transposes_S256x100_S100x256_1_0 b j
  · exact dotT_at (k := 64) h wh transposes_S256x64_S64x256_1_0 b j

/-- The reference's sigmoid is the logistic function. -/
theorem sigR_at (x : FVec Ideal S512x64 .f32) (i : S512x64.Idx) : @Eq EReal (sigR x i) (Ideal.logistic (x i)) := by
  show Ideal.div (Ideal.ofBits .f32 0x3F800000#32) (Ideal.ofBits .f32 0x3F800000#32 + Ideal.exp (-(x i))) = _
  rw [Ideal.ofBits_one_f32]
  rfl

/-- A gate's columns cut out of the gate sums. -/
theorem cutR_at (c : ℕ) (x : FVec Ideal S512x256 .f32) (h : S512x256.Slices ![0, c] S512x64) (b : Fin 512) (q : Fin 4) (u : Fin 64) (hc : c = 64 * q.val) :
    @Eq EReal (extractStridedSlice S512x64 ![0, c] x h (ix2 b u)) (x (ix2 b (gix q u))) := by
  refine congrArg x (funext fun d => Fin.ext ?_)
  match d with
  | ⟨0, _⟩ => show 0 + b.val = b.val; omega
  | ⟨1, _⟩ => show c + u.val = 64 * q.val + u.val; omega

section
variable (x : FVec Ideal S512x100 .f32) (wi : FVec Ideal S256x100 .f32) (wh : FVec Ideal S256x64 .f32) (bi bh : FVec Ideal S256 .f32) (h c : FVec Ideal S512x64 .f32) (b : Fin 512) (u : Fin 64)

/-- A gate's columns of the reference's gate sums are the direction's gate sums. -/
theorem cutG_at (k : ℕ) (hs : S512x256.Slices ![0, k] S512x64) (q : Fin 4) (hk : k = 64 * q.val) :
    @Eq EReal (extractStridedSlice S512x64 ![0, k] (gatesR x wi wh bi bh h) hs (ix2 b u)) ((dirOf wi wh bi bh).lin (fun e => x (ix2 b e)) (fun m => h (ix2 b m)) (gix q u)) :=
  (cutR_at k _ hs b q u hk).trans (gatesR_at x wi wh bi bh h b _)

/-- A row's new cell state. -/
theorem cellR_at : @Eq EReal (cellR (gatesR x wi wh bi bh h) c (ix2 b u)) ((dirOf wi wh bi bh).cell (fun e => x (ix2 b e)) (fun m => h (ix2 b m)) (fun m => c (ix2 b m)) u) := by
  unfold cellR Dir.cell
  refine add_at _ _ _ _ _ (mul_at _ _ _ _ _ ?_ rfl) (mul_at _ _ _ _ _ ?_ (tanh_at _ _ _ ?_))
  · exact (sigR_at _ _).trans (congrArg Ideal.logistic (cutG_at x wi wh bi bh h b u 64 slices_S512x256_S512x64_0_64 1 rfl))
  · exact (sigR_at _ _).trans (congrArg Ideal.logistic (cutG_at x wi wh bi bh h b u 0 slices_S512x256_S512x64_0_0 0 rfl))
  · exact cutG_at x wi wh bi bh h b u 128 slices_S512x256_S512x64_0_128 2 rfl

/-- A row's new hidden state. -/
theorem hidR_at : @Eq EReal (hidR (gatesR x wi wh bi bh h) c (ix2 b u)) ((dirOf wi wh bi bh).hid (fun e => x (ix2 b e)) (fun m => h (ix2 b m)) (fun m => c (ix2 b m)) u) := by
  unfold hidR Dir.hid
  refine mul_at _ _ _ _ _ ?_ (tanh_at _ _ _ (cellR_at x wi wh bi bh h c b u))
  exact (sigR_at _ _).trans (congrArg Ideal.logistic (cutG_at x wi wh bi bh h b u 192 slices_S512x256_S512x64_0_192 3 rfl))
end

/-- The rows of plane `k` of a stack of 128. -/
def rowsR (xs : FVec Ideal S128x512x100 .f32) (st : Fin 3 → ℤ) : FVec Ideal S512x100 .f32 :=
  shapeCast S512x100 (Host.dynamicSlice S1x512x100 xs st sliceFits_S128x512x100_S1x512x100) shapeCasts_S1x512x100_S512x100

/-- The stack with plane `k` replaced. -/
def setR (hs : FVec Ideal S128x512x64 .f32) (v : FVec Ideal S512x64 .f32) (st : Fin 3 → ℤ) : FVec Ideal S128x512x64 .f32 :=
  Host.dynamicUpdateSlice hs (broadcastInDim S1x512x64 ![1, 2] bcast_S512x64_S1x512x64_1_2 v) st updateFits_S128x512x64_S1x512x64

/-- The starts of plane `k`. -/
def planeAt (k : ℕ) : Fin 3 → ℕ := ![k, 0, 0]

/-- The plane of words taken at a counter. -/
theorem rowsR_at (xs : FVec Ideal S128x512x100 .f32) (st : Fin 3 → ℤ) (k : Fin 128) (hst : ∀ a, st a = (planeAt k.val a : ℤ)) (b : Fin 512) (e : Fin 100) :
    @Eq EReal (rowsR xs st (ix2 b e)) (xs (ix3 k b e)) := by
  unfold rowsR
  rw [WordCmp.dynamicSlice_eq_extract S1x512x100 xs st sliceFits_S128x512x100_S1x512x100 (planeAt k.val) ⟨rfl, fun a => by
    match a with
    | ⟨0, _⟩ => exact k.isLt
    | ⟨1, _⟩ => exact Nat.le_refl 512
    | ⟨2, _⟩ => exact Nat.le_refl 100⟩ hst]
  refine (shapeCast_1ab_ab_apply _ _ b e).trans ?_
  refine congrArg xs (funext fun a => Fin.ext ?_)
  match a with
  | ⟨0, _⟩ => show k.val + 0 = k.val; omega
  | ⟨1, _⟩ => show 0 + b.val = b.val; omega
  | ⟨2, _⟩ => show 0 + e.val = e.val; omega

/-- The stack of hidden states after a plane is stored: that plane new, the others as before. -/
theorem setR_at (hs : FVec Ideal S128x512x64 .f32) (v : FVec Ideal S512x64 .f32) (st : Fin 3 → ℤ) (k : Fin 128) (hst : ∀ a, st a = (planeAt k.val a : ℤ)) (t : Fin 128) (b : Fin 512) (u : Fin 64) :
    @Eq EReal (setR hs v st (ix3 t b u)) (if t = k then v (ix2 b u) else hs (ix3 t b u)) := by
  unfold setR
  rw [WordCmp.dynamicUpdateSlice_eq_update hs _ st updateFits_S128x512x64_S1x512x64 (planeAt k.val) ⟨rfl, fun a => by
    match a with
    | ⟨0, _⟩ => exact k.isLt
    | ⟨1, _⟩ => exact Nat.le_refl 512
    | ⟨2, _⟩ => exact Nat.le_refl 64⟩ hst]
  by_cases h : t = k
  · subst h
    rw [if_pos rfl]
    refine (dif_pos (fun a => ?_)).trans ?_
    · match a with
      | ⟨0, _⟩ => exact ⟨Nat.le_refl t.val, Nat.lt_succ_self t.val⟩
      | ⟨1, _⟩ => exact ⟨Nat.zero_le _, by show b.val < 0 + 512; omega⟩
      | ⟨2, _⟩ => exact ⟨Nat.zero_le _, by show u.val < 0 + 64; omega⟩
    · refine congrArg v (funext fun a => Fin.ext ?_)
      match a with
      | ⟨0, _⟩ => rfl
      | ⟨1, _⟩ => rfl
  · rw [if_neg h]
    refine dif_neg fun hin => h (Fin.ext ?_)
    have h0 : k.val ≤ t.val ∧ t.val < k.val + 1 := hin (⟨0, Nat.zero_lt_succ 2⟩ : Fin 3)
    omega

end Cert.ReferenceIdeal.Rf

end
-- ==== Proof.RefReads.lean ====
/- A loop body of the reference in parts, and the starts of a step's plane. -/
module

public import proofs.«01_k».proof.Proof.RefStep
public import proofs.«01_k».proof.Proof.RefRun

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

/-- The `m` operations after the first `n`. -/
def blk (l : List (HloOp τ sig (Elt Ideal))) (n m : ℕ) := (l.drop n).take m

/-- Running a block and then the rest is running from the block on. -/
theorem blk_cut (l : List (HloOp τ sig (Elt Ideal))) (n m k : ℕ) (h : n + m = k) (X : Valuation τ sig (Elt Ideal)) :
    StableHlo.after (l.drop n) X = StableHlo.after (l.drop k) (StableHlo.after (blk l n m) X) := by
  subst h
  unfold blk
  rw [← StableHlo.after_append, ← List.drop_drop, List.take_append_drop]

/-- A loop body in parts: the zeros of the plane's starts, the plane, its rows, the gates, the new states, the plane's new rows, the writing back. -/
theorem after_parts (l : List (HloOp τ sig (Elt Ideal))) (X : Valuation τ sig (Elt Ideal)) :
    StableHlo.after l X = StableHlo.after (l.drop 52) (StableHlo.after (blk l 49 3) (StableHlo.after (blk l 15 34) (StableHlo.after (blk l 4 11)
      (StableHlo.after (blk l 3 1) (StableHlo.after (blk l 2 1) (StableHlo.after (blk l 0 2) X)))))) :=
  (blk_cut l 0 2 2 rfl X).trans ((blk_cut l 2 1 3 rfl _).trans ((blk_cut l 3 1 4 rfl _).trans ((blk_cut l 4 11 15 rfl _).trans ((blk_cut l 15 34 49 rfl _).trans (blk_cut l 49 3 52 rfl _)))))

/-- What a part leaves of a reference none of its operations writes. -/
theorem blk_keep {l : List (HloOp τ sig (Elt Ideal))} {W : List (Ref sig .tc)} (hW : l.map HloOp.writes = W.map fun r => {Proc.devRef (τ := τ) .tc r}) (n m : ℕ)
    (X : Valuation τ sig (Elt Ideal)) (x : Ref sig .tc) (hx : x ∉ (W.drop n).take m) : StableHlo.after (blk l n m) X (Proc.devRef .tc x) = X (Proc.devRef .tc x) :=
  StableHlo.after_of_writes_sub _ X (StableHlo.forall_writes_sub_of_map (by
    unfold blk
    rw [List.map_take, List.map_drop, hW, ← List.map_drop, ← List.map_take])) hx

/-- The starts a counter and two zeros give. -/
def Starts (st : Fin 3 → ℤ) (i j k : IVec S_ 32) : Prop :=
  st 0 = (i (Shape.Idx.first h_S_)).toInt ∧ st 1 = (j (Shape.Idx.first h_S_)).toInt ∧ st 2 = (k (Shape.Idx.first h_S_)).toInt

/-- The gate sums depend only on the operands. -/
theorem gatesR_congr {x x' : FVec Ideal S512x100 .f32} {wi wi' : FVec Ideal S256x100 .f32} {wh wh' : FVec Ideal S256x64 .f32} {bi bi' bh bh' : FVec Ideal S256 .f32} {h h' : FVec Ideal S512x64 .f32}
    (e1 : x = x') (e2 : wi = wi') (e3 : wh = wh') (e4 : bi = bi') (e5 : bh = bh') (e6 : h = h') : gatesR x wi wh bi bh h = gatesR x' wi' wh' bi' bh' h' := by
  subst e1 e2 e3 e4 e5 e6
  rfl

/-- At step `k` the starts are the plane's. -/
theorem starts_plane {st : Fin 3 → ℤ} {i j l : IVec S_ 32} (h : Starts st i j l) (k : ℕ) (hk : k < 128) (hi : i = fun _ => Scf.iv 0#32 1#32 k) (hj : j = constantI S_ 32 0#32)
    (hl : l = constantI S_ 32 0#32) (a : Fin 3) : st a = (planeAt k a : ℤ) := by
  subst hi hj hl
  obtain ⟨h0, h1, h2⟩ := h
  match a with
  | ⟨0, _⟩ =>
    refine h0.trans ?_
    show (Scf.iv 0#32 1#32 k).toInt = (k : ℤ)
    have e : Scf.iv 0#32 1#32 k = BitVec.ofNat 32 k := by
      unfold Scf.iv
      simp
    rw [e, BitVec.toInt_ofNat']
    have : (k : ℤ).bmod (2 ^ 32) = k := Int.bmod_eq_of_le (by omega) (by omega)
    exact_mod_cast this
  | ⟨1, _⟩ => exact h1
  | ⟨2, _⟩ => exact h2

/-- A reference none of the first `N` operations writes, none of a part of them writes. -/
theorem not_part {W : List (Ref sig .tc)} {N n m : ℕ} {x : Ref sig .tc} (hx : x ∉ W.take N) (h : n + m ≤ N) : x ∉ (W.drop n).take m := by
  intro hm
  refine hx ?_
  rw [List.take_drop] at hm
  exact (List.take_subset_take_left W (by omega)) (List.mem_of_mem_drop hm)

end Cert.ReferenceIdeal.Rf

end
-- ==== Proof.RefReadsA.lean ====
/- What the parts of the first loop's body leave, as the step's functions of what they read. -/
module

public import proofs.«01_k».proof.Proof.RefReads

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

section
variable (X : Valuation τ sig (Elt Ideal))
set_option maxRecDepth 16384
set_option maxHeartbeats 2000000

/-- What each operation of the first loop's body writes. -/
theorem mapA : (bodyA (F := Ideal)).map HloOp.writes = bodyAW.map fun r => {Proc.devRef (τ := τ) .tc r} := by rfl

/-- The zero coordinates with which the first loop's body picks a plane. -/
theorem bodyA_zeros : (StableHlo.after (blk bodyA 0 2) X (Proc.devRef .tc main_while0b_call1_c) : IVec S_ 32) = constantI S_ 32 0#32 ∧
    (StableHlo.after (blk bodyA 0 2) X (Proc.devRef .tc main_while0b_call1_c_0) : IVec S_ 32) = constantI S_ 32 0#32 := by
  unfold blk bodyA
  simp only [List.take_succ_cons, List.take_zero, List.drop_succ_cons, List.drop_zero]
  constructor <;> (after_reads_simp; rfl)

/-- The first loop's body takes the plane of words at its counter. -/
theorem bodyA_slice : ∃ st : Fin 3 → ℤ, Starts st (X (Proc.devRef .tc main_v8_5)) (X (Proc.devRef .tc main_while0b_call1_c)) (X (Proc.devRef .tc main_while0b_call1_c_0)) ∧
    (StableHlo.after (blk bodyA 2 1) X (Proc.devRef .tc main_while0b_call1_v0) : FVec Ideal S1x512x100 .f32) =
      Host.dynamicSlice S1x512x100 (X (Proc.devRef .tc main_v8_0) : FVec Ideal S128x512x100 .f32) st sliceFits_S128x512x100_S1x512x100 := by
  refine ⟨?w, ?s, ?h⟩
  case h =>
    unfold blk bodyA
    simp only [List.take_succ_cons, List.take_zero, List.drop_succ_cons, List.drop_zero]
    after_reads_simp
    exact rfl
  case s => exact ⟨rfl, rfl, rfl⟩

/-- The first loop's plane of words as a matrix. -/
theorem bodyA_rows : (StableHlo.after (blk bodyA 3 1) X (Proc.devRef .tc main_while0b_v24) : FVec Ideal S512x100 .f32) =
    shapeCast S512x100 (X (Proc.devRef .tc main_while0b_call1_v0) : FVec Ideal S1x512x100 .f32) shapeCasts_S1x512x100_S512x100 := by
  unfold blk bodyA
  simp only [List.take_succ_cons, List.take_zero, List.drop_succ_cons, List.drop_zero]
  after_reads_simp
  rfl

/-- The gate sums of the first loop's body. -/
theorem bodyA_gates : (StableHlo.after (blk bodyA 4 11) X (Proc.devRef .tc main_while0b_v35) : FVec Ideal S512x256 .f32) =
    gatesR (X (Proc.devRef .tc main_while0b_v24)) (X (Proc.devRef .tc main_v8_1)) (X (Proc.devRef .tc main_v8_2)) (X (Proc.devRef .tc main_v8_3)) (X (Proc.devRef .tc main_v8_4)) (X (Proc.devRef .tc main_v8_6)) := by
  unfold blk bodyA
  simp only [List.take_succ_cons, List.take_zero, List.drop_succ_cons, List.drop_zero]
  after_reads_simp
  rfl

/-- The new cell and hidden states of the first loop's body. -/
theorem bodyA_new : (StableHlo.after (blk bodyA 15 34) X (Proc.devRef .tc main_while0b_v63) : FVec Ideal S512x64 .f32) = hidR (X (Proc.devRef .tc main_while0b_v35)) (X (Proc.devRef .tc main_v8_7)) ∧
    (StableHlo.after (blk bodyA 15 34) X (Proc.devRef .tc main_while0b_v61) : FVec Ideal S512x64 .f32) = cellR (X (Proc.devRef .tc main_while0b_v35)) (X (Proc.devRef .tc main_v8_7)) := by
  unfold blk bodyA
  simp only [List.take_succ_cons, List.take_zero, List.drop_succ_cons, List.drop_zero]
  constructor <;> (after_reads_simp; rfl)

/-- The new hidden state of the first loop's body as a plane, and the coordinates it is stored at. -/
theorem bodyA_plane : (StableHlo.after (blk bodyA 49 3) X (Proc.devRef .tc main_while0b_call2_v0) : FVec Ideal S1x512x64 .f32) =
      broadcastInDim S1x512x64 ![1, 2] bcast_S512x64_S1x512x64_1_2 (X (Proc.devRef .tc main_while0b_v63) : FVec Ideal S512x64 .f32) ∧
    (StableHlo.after (blk bodyA 49 3) X (Proc.devRef .tc main_while0b_call2_c) : IVec S_ 32) = constantI S_ 32 0#32 ∧
    (StableHlo.after (blk bodyA 49 3) X (Proc.devRef .tc main_while0b_call2_c_0) : IVec S_ 32) = constantI S_ 32 0#32 := by
  unfold blk bodyA
  simp only [List.take_succ_cons, List.take_zero, List.drop_succ_cons, List.drop_zero]
  refine ⟨?_, ?_, ?_⟩ <;> (after_reads_simp; rfl)

/-- The first loop's body stores the plane of hidden states at its counter. -/
theorem bodyA_set : ∃ st : Fin 3 → ℤ, Starts st (X (Proc.devRef .tc main_v8_5)) (X (Proc.devRef .tc main_while0b_call2_c)) (X (Proc.devRef .tc main_while0b_call2_c_0)) ∧
    (StableHlo.after (bodyA.drop 52) X (Proc.devRef .tc main_v8_8) : FVec Ideal S128x512x64 .f32) =
      Host.dynamicUpdateSlice (X (Proc.devRef .tc main_v8_8) : FVec Ideal S128x512x64 .f32) (X (Proc.devRef .tc main_while0b_call2_v0) : FVec Ideal S1x512x64 .f32) st updateFits_S128x512x64_S1x512x64 := by
  refine ⟨?w, ?s, ?h⟩
  case h =>
    unfold bodyA
    simp only [List.drop_succ_cons, List.drop_zero]
    after_reads_simp
    exact rfl
  case s => exact ⟨rfl, rfl, rfl⟩

/-- The first loop's body hands its new states to the next trip. -/
theorem bodyA_back : (StableHlo.after (bodyA.drop 52) X (Proc.devRef .tc main_v8_6) : FVec Ideal S512x64 .f32) = X (Proc.devRef .tc main_while0b_v63) ∧
    (StableHlo.after (bodyA.drop 52) X (Proc.devRef .tc main_v8_7) : FVec Ideal S512x64 .f32) = X (Proc.devRef .tc main_while0b_v61) := by
  unfold bodyA
  simp only [List.drop_succ_cons, List.drop_zero]
  constructor <;> (after_reads_simp; rfl)

end

end Cert.ReferenceIdeal.Rf

end
-- ==== Proof.RefMoveA.lean ====
/- One step of the first loop. -/
module

public import proofs.«01_k».proof.Proof.RefReadsA

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

section
variable (X : Valuation τ sig (Elt Ideal))
set_option maxRecDepth 16384
set_option maxHeartbeats 2000000

variable (k : ℕ) (hk : k < 128) (hc : X (Proc.devRef .tc main_v8_5) = fun _ => Scf.iv 0#32 1#32 k)
include hk hc

/-- What one step leaves: with the words of plane `k`, every row's states move on and plane `k` takes the new hidden states. -/
theorem bodyA_step : ∃ (x : FVec Ideal S512x100 .f32) (st : Fin 3 → ℤ), (∀ b e, @Eq EReal (x (ix2 b e)) ((X (Proc.devRef .tc main_v8_0) : FVec Ideal S128x512x100 .f32) (ix3 (⟨k, hk⟩ : Fin 128) b e))) ∧
    (∀ a, st a = (planeAt k a : ℤ)) ∧
    (StableHlo.after bodyA X (Proc.devRef .tc main_v8_6) : FVec Ideal S512x64 .f32) = hidR (gatesR x (X (Proc.devRef .tc main_v8_1)) (X (Proc.devRef .tc main_v8_2)) (X (Proc.devRef .tc main_v8_3)) (X (Proc.devRef .tc main_v8_4)) (X (Proc.devRef .tc main_v8_6))) (X (Proc.devRef .tc main_v8_7)) ∧
    (StableHlo.after bodyA X (Proc.devRef .tc main_v8_7) : FVec Ideal S512x64 .f32) = cellR (gatesR x (X (Proc.devRef .tc main_v8_1)) (X (Proc.devRef .tc main_v8_2)) (X (Proc.devRef .tc main_v8_3)) (X (Proc.devRef .tc main_v8_4)) (X (Proc.devRef .tc main_v8_6))) (X (Proc.devRef .tc main_v8_7)) ∧
    (StableHlo.after bodyA X (Proc.devRef .tc main_v8_8) : FVec Ideal S128x512x64 .f32) = setR (X (Proc.devRef .tc main_v8_8)) (StableHlo.after bodyA X (Proc.devRef .tc main_v8_6)) st := by
  have K := fun n m => blk_keep mapA n m
  have z := bodyA_zeros X
  obtain ⟨s1, hs1, e1⟩ := bodyA_slice (StableHlo.after (blk bodyA 0 2) X)
  have p1 := starts_plane hs1 k hk ((K 0 2 X _ (by decide)).trans hc) z.1 z.2
  let Y0 := StableHlo.after (blk bodyA 0 2) X
  let Y1 := StableHlo.after (blk bodyA 2 1) Y0
  let Y2 := StableHlo.after (blk bodyA 3 1) Y1
  let Y3 := StableHlo.after (blk bodyA 4 11) Y2
  let Y4 := StableHlo.after (blk bodyA 15 34) Y3
  let Y5 := StableHlo.after (blk bodyA 49 3) Y4
  have hA : StableHlo.after bodyA X = StableHlo.after (bodyA.drop 52) Y5 := after_parts bodyA X
  have k2 : ∀ x : Ref sig .tc, x ∉ bodyAW.take 52 → Y2 (Proc.devRef .tc x) = X (Proc.devRef .tc x) := fun x hx =>
    (K 3 1 Y1 x (not_part hx (by decide))).trans ((K 2 1 Y0 x (not_part hx (by decide))).trans (K 0 2 X x (not_part hx (by decide))))
  have k3 : ∀ x : Ref sig .tc, x ∉ bodyAW.take 52 → Y3 (Proc.devRef .tc x) = X (Proc.devRef .tc x) := fun x hx =>
    (K 4 11 Y2 x (not_part hx (by decide))).trans (k2 x hx)
  have k5 : ∀ x : Ref sig .tc, x ∉ bodyAW.take 52 → Y5 (Proc.devRef .tc x) = X (Proc.devRef .tc x) := fun x hx =>
    (K 49 3 Y4 x (not_part hx (by decide))).trans ((K 15 34 Y3 x (not_part hx (by decide))).trans (k3 x hx))
  have hw : (Y2 (Proc.devRef .tc main_while0b_v24) : FVec Ideal S512x100 .f32) = rowsR (X (Proc.devRef .tc main_v8_0)) s1 :=
    (bodyA_rows Y1).trans (congrArg (fun v => shapeCast S512x100 v shapeCasts_S1x512x100_S512x100) (e1.trans (congrArg (fun v => Host.dynamicSlice S1x512x100 v s1 sliceFits_S128x512x100_S1x512x100) (K 0 2 X main_v8_0 (by decide)))))
  have hg : (Y3 (Proc.devRef .tc main_while0b_v35) : FVec Ideal S512x256 .f32) = gatesR (rowsR (X (Proc.devRef .tc main_v8_0)) s1) (X (Proc.devRef .tc main_v8_1)) (X (Proc.devRef .tc main_v8_2)) (X (Proc.devRef .tc main_v8_3)) (X (Proc.devRef .tc main_v8_4)) (X (Proc.devRef .tc main_v8_6)) :=
    (bodyA_gates Y2).trans (gatesR_congr hw (k2 _ (by decide)) (k2 _ (by decide)) (k2 _ (by decide)) (k2 _ (by decide)) (k2 _ (by decide)))
  have h63 := (bodyA_new Y3).1.trans (congrArg₂ hidR hg (k3 main_v8_7 (by decide)))
  have h61 := (bodyA_new Y3).2.trans (congrArg₂ cellR hg (k3 main_v8_7 (by decide)))
  have hp := bodyA_plane Y4
  obtain ⟨s2, hs2, e2⟩ := bodyA_set Y5
  have p2 := starts_plane hs2 k hk ((k5 main_v8_5 (by decide)).trans hc) hp.2.1 hp.2.2
  have e6 : StableHlo.after bodyA X (Proc.devRef .tc main_v8_6) = Y4 (Proc.devRef .tc main_while0b_v63) :=
    (congrFun hA _).trans ((bodyA_back Y5).1.trans (K 49 3 Y4 main_while0b_v63 (by decide)))
  have e7 : StableHlo.after bodyA X (Proc.devRef .tc main_v8_7) = Y4 (Proc.devRef .tc main_while0b_v61) :=
    (congrFun hA _).trans ((bodyA_back Y5).2.trans (K 49 3 Y4 main_while0b_v61 (by decide)))
  refine ⟨rowsR (X (Proc.devRef .tc main_v8_0)) s1, s2, rowsR_at _ s1 ⟨k, hk⟩ p1, p2, e6.trans h63, e7.trans h61, ?_⟩
  refine (congrFun hA _).trans (e2.trans ?_)
  refine (congrArg₂ (fun a b => Host.dynamicUpdateSlice a b s2 updateFits_S128x512x64_S1x512x64) (k5 main_v8_8 (by decide)) hp.1).trans ?_
  exact congrArg (fun v => setR (X (Proc.devRef .tc main_v8_8)) v s2) e6.symm
end

end Cert.ReferenceIdeal.Rf

end
-- ==== Proof.RefReadsB.lean ====
/- What the parts of the second loop's body leave, as the step's functions of what they read. -/
module

public import proofs.«01_k».proof.Proof.RefReads

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

section
variable (X : Valuation τ sig (Elt Ideal))
set_option maxRecDepth 16384
set_option maxHeartbeats 2000000

/-- What each operation of the second loop's body writes. -/
theorem mapB : (bodyB (F := Ideal)).map HloOp.writes = bodyBW.map fun r => {Proc.devRef (τ := τ) .tc r} := by rfl

/-- The zero coordinates with which the second loop's body picks a plane. -/
theorem bodyB_zeros : (StableHlo.after (blk bodyB 0 2) X (Proc.devRef .tc main_while1b_call3_c) : IVec S_ 32) = constantI S_ 32 0#32 ∧
    (StableHlo.after (blk bodyB 0 2) X (Proc.devRef .tc main_while1b_call3_c_0) : IVec S_ 32) = constantI S_ 32 0#32 := by
  unfold blk bodyB
  simp only [List.take_succ_cons, List.take_zero, List.drop_succ_cons, List.drop_zero]
  constructor <;> (after_reads_simp; rfl)

/-- The second loop's body takes the plane of words at its counter. -/
theorem bodyB_slice : ∃ st : Fin 3 → ℤ, Starts st (X (Proc.devRef .tc main_v15_5)) (X (Proc.devRef .tc main_while1b_call3_c)) (X (Proc.devRef .tc main_while1b_call3_c_0)) ∧
    (StableHlo.after (blk bodyB 2 1) X (Proc.devRef .tc main_while1b_call3_v0) : FVec Ideal S1x512x100 .f32) =
      Host.dynamicSlice S1x512x100 (X (Proc.devRef .tc main_v15_0) : FVec Ideal S128x512x100 .f32) st sliceFits_S128x512x100_S1x512x100 := by
  refine ⟨?w, ?s, ?h⟩
  case h =>
    unfold blk bodyB
    simp only [List.take_succ_cons, List.take_zero, List.drop_succ_cons, List.drop_zero]
    after_reads_simp
    exact rfl
  case s => exact ⟨rfl, rfl, rfl⟩

/-- The second loop's plane of words as a matrix. -/
theorem bodyB_rows : (StableHlo.after (blk bodyB 3 1) X (Proc.devRef .tc main_while1b_v24) : FVec Ideal S512x100 .f32) =
    shapeCast S512x100 (X (Proc.devRef .tc main_while1b_call3_v0) : FVec Ideal S1x512x100 .f32) shapeCasts_S1x512x100_S512x100 := by
  unfold blk bodyB
  simp only [List.take_succ_cons, List.take_zero, List.drop_succ_cons, List.drop_zero]
  after_reads_simp
  rfl

/-- The gate sums of the second loop's body. -/
theorem bodyB_gates : (StableHlo.after (blk bodyB 4 11) X (Proc.devRef .tc main_while1b_v35) : FVec Ideal S512x256 .f32) =
    gatesR (X (Proc.devRef .tc main_while1b_v24)) (X (Proc.devRef .tc main_v15_1)) (X (Proc.devRef .tc main_v15_2)) (X (Proc.devRef .tc main_v15_3)) (X (Proc.devRef .tc main_v15_4)) (X (Proc.devRef .tc main_v15_6)) := by
  unfold blk bodyB
  simp only [List.take_succ_cons, List.take_zero, List.drop_succ_cons, List.drop_zero]
  after_reads_simp
  rfl

/-- The new cell and hidden states of the second loop's body. -/
theorem bodyB_new : (StableHlo.after (blk bodyB 15 34) X (Proc.devRef .tc main_while1b_v63) : FVec Ideal S512x64 .f32) = hidR (X (Proc.devRef .tc main_while1b_v35)) (X (Proc.devRef .tc main_v15_7)) ∧
    (StableHlo.after (blk bodyB 15 34) X (Proc.devRef .tc main_while1b_v61) : FVec Ideal S512x64 .f32) = cellR (X (Proc.devRef .tc main_while1b_v35)) (X (Proc.devRef .tc main_v15_7)) := by
  unfold blk bodyB
  simp only [List.take_succ_cons, List.take_zero, List.drop_succ_cons, List.drop_zero]
  constructor <;> (after_reads_simp; rfl)

/-- The new hidden state of the second loop's body as a plane, and the coordinates it is stored at. -/
theorem bodyB_plane : (StableHlo.after (blk bodyB 49 3) X (Proc.devRef .tc main_while1b_call4_v0) : FVec Ideal S1x512x64 .f32) =
      broadcastInDim S1x512x64 ![1, 2] bcast_S512x64_S1x512x64_1_2 (X (Proc.devRef .tc main_while1b_v63) : FVec Ideal S512x64 .f32) ∧
    (StableHlo.after (blk bodyB 49 3) X (Proc.devRef .tc main_while1b_call4_c) : IVec S_ 32) = constantI S_ 32 0#32 ∧
    (StableHlo.after (blk bodyB 49 3) X (Proc.devRef .tc main_while1b_call4_c_0) : IVec S_ 32) = constantI S_ 32 0#32 := by
  unfold blk bodyB
  simp only [List.take_succ_cons, List.take_zero, List.drop_succ_cons, List.drop_zero]
  refine ⟨?_, ?_, ?_⟩ <;> (after_reads_simp; rfl)

/-- The second loop's body stores the plane of hidden states at its counter. -/
theorem bodyB_set : ∃ st : Fin 3 → ℤ, Starts st (X (Proc.devRef .tc main_v15_5)) (X (Proc.devRef .tc main_while1b_call4_c)) (X (Proc.devRef .tc main_while1b_call4_c_0)) ∧
    (StableHlo.after (bodyB.drop 52) X (Proc.devRef .tc main_v15_8) : FVec Ideal S128x512x64 .f32) =
      Host.dynamicUpdateSlice (X (Proc.devRef .tc main_v15_8) : FVec Ideal S128x512x64 .f32) (X (Proc.devRef .tc main_while1b_call4_v0) : FVec Ideal S1x512x64 .f32) st updateFits_S128x512x64_S1x512x64 := by
  refine ⟨?w, ?s, ?h⟩
  case h =>
    unfold bodyB
    simp only [List.drop_succ_cons, List.drop_zero]
    after_reads_simp
    exact rfl
  case s => exact ⟨rfl, rfl, rfl⟩

/-- The second loop's body hands its new states to the next trip. -/
theorem bodyB_back : (StableHlo.after (bodyB.drop 52) X (Proc.devRef .tc main_v15_6) : FVec Ideal S512x64 .f32) = X (Proc.devRef .tc main_while1b_v63) ∧
    (StableHlo.after (bodyB.drop 52) X (Proc.devRef .tc main_v15_7) : FVec Ideal S512x64 .f32) = X (Proc.devRef .tc main_while1b_v61) := by
  unfold bodyB
  simp only [List.drop_succ_cons, List.drop_zero]
  constructor <;> (after_reads_simp; rfl)

end

end Cert.ReferenceIdeal.Rf

end
-- ==== Proof.RefMoveB.lean ====
/- One step of the second loop. -/
module

public import proofs.«01_k».proof.Proof.RefReadsB

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

section
variable (X : Valuation τ sig (Elt Ideal))
set_option maxRecDepth 16384
set_option maxHeartbeats 2000000

variable (k : ℕ) (hk : k < 128) (hc : X (Proc.devRef .tc main_v15_5) = fun _ => Scf.iv 0#32 1#32 k)
include hk hc

/-- What one step leaves: with the words of plane `k`, every row's states move on and plane `k` takes the new hidden states. -/
theorem bodyB_step : ∃ (x : FVec Ideal S512x100 .f32) (st : Fin 3 → ℤ), (∀ b e, @Eq EReal (x (ix2 b e)) ((X (Proc.devRef .tc main_v15_0) : FVec Ideal S128x512x100 .f32) (ix3 (⟨k, hk⟩ : Fin 128) b e))) ∧
    (∀ a, st a = (planeAt k a : ℤ)) ∧
    (StableHlo.after bodyB X (Proc.devRef .tc main_v15_6) : FVec Ideal S512x64 .f32) = hidR (gatesR x (X (Proc.devRef .tc main_v15_1)) (X (Proc.devRef .tc main_v15_2)) (X (Proc.devRef .tc main_v15_3)) (X (Proc.devRef .tc main_v15_4)) (X (Proc.devRef .tc main_v15_6))) (X (Proc.devRef .tc main_v15_7)) ∧
    (StableHlo.after bodyB X (Proc.devRef .tc main_v15_7) : FVec Ideal S512x64 .f32) = cellR (gatesR x (X (Proc.devRef .tc main_v15_1)) (X (Proc.devRef .tc main_v15_2)) (X (Proc.devRef .tc main_v15_3)) (X (Proc.devRef .tc main_v15_4)) (X (Proc.devRef .tc main_v15_6))) (X (Proc.devRef .tc main_v15_7)) ∧
    (StableHlo.after bodyB X (Proc.devRef .tc main_v15_8) : FVec Ideal S128x512x64 .f32) = setR (X (Proc.devRef .tc main_v15_8)) (StableHlo.after bodyB X (Proc.devRef .tc main_v15_6)) st := by
  have K := fun n m => blk_keep mapB n m
  have z := bodyB_zeros X
  obtain ⟨s1, hs1, e1⟩ := bodyB_slice (StableHlo.after (blk bodyB 0 2) X)
  have p1 := starts_plane hs1 k hk ((K 0 2 X _ (by decide)).trans hc) z.1 z.2
  let Y0 := StableHlo.after (blk bodyB 0 2) X
  let Y1 := StableHlo.after (blk bodyB 2 1) Y0
  let Y2 := StableHlo.after (blk bodyB 3 1) Y1
  let Y3 := StableHlo.after (blk bodyB 4 11) Y2
  let Y4 := StableHlo.after (blk bodyB 15 34) Y3
  let Y5 := StableHlo.after (blk bodyB 49 3) Y4
  have hB : StableHlo.after bodyB X = StableHlo.after (bodyB.drop 52) Y5 := after_parts bodyB X
  have k2 : ∀ x : Ref sig .tc, x ∉ bodyBW.take 52 → Y2 (Proc.devRef .tc x) = X (Proc.devRef .tc x) := fun x hx =>
    (K 3 1 Y1 x (not_part hx (by decide))).trans ((K 2 1 Y0 x (not_part hx (by decide))).trans (K 0 2 X x (not_part hx (by decide))))
  have k3 : ∀ x : Ref sig .tc, x ∉ bodyBW.take 52 → Y3 (Proc.devRef .tc x) = X (Proc.devRef .tc x) := fun x hx =>
    (K 4 11 Y2 x (not_part hx (by decide))).trans (k2 x hx)
  have k5 : ∀ x : Ref sig .tc, x ∉ bodyBW.take 52 → Y5 (Proc.devRef .tc x) = X (Proc.devRef .tc x) := fun x hx =>
    (K 49 3 Y4 x (not_part hx (by decide))).trans ((K 15 34 Y3 x (not_part hx (by decide))).trans (k3 x hx))
  have hw : (Y2 (Proc.devRef .tc main_while1b_v24) : FVec Ideal S512x100 .f32) = rowsR (X (Proc.devRef .tc main_v15_0)) s1 :=
    (bodyB_rows Y1).trans (congrArg (fun v => shapeCast S512x100 v shapeCasts_S1x512x100_S512x100) (e1.trans (congrArg (fun v => Host.dynamicSlice S1x512x100 v s1 sliceFits_S128x512x100_S1x512x100) (K 0 2 X main_v15_0 (by decide)))))
  have hg : (Y3 (Proc.devRef .tc main_while1b_v35) : FVec Ideal S512x256 .f32) = gatesR (rowsR (X (Proc.devRef .tc main_v15_0)) s1) (X (Proc.devRef .tc main_v15_1)) (X (Proc.devRef .tc main_v15_2)) (X (Proc.devRef .tc main_v15_3)) (X (Proc.devRef .tc main_v15_4)) (X (Proc.devRef .tc main_v15_6)) :=
    (bodyB_gates Y2).trans (gatesR_congr hw (k2 _ (by decide)) (k2 _ (by decide)) (k2 _ (by decide)) (k2 _ (by decide)) (k2 _ (by decide)))
  have h63 := (bodyB_new Y3).1.trans (congrArg₂ hidR hg (k3 main_v15_7 (by decide)))
  have h61 := (bodyB_new Y3).2.trans (congrArg₂ cellR hg (k3 main_v15_7 (by decide)))
  have hp := bodyB_plane Y4
  obtain ⟨s2, hs2, e2⟩ := bodyB_set Y5
  have p2 := starts_plane hs2 k hk ((k5 main_v15_5 (by decide)).trans hc) hp.2.1 hp.2.2
  have e6 : StableHlo.after bodyB X (Proc.devRef .tc main_v15_6) = Y4 (Proc.devRef .tc main_while1b_v63) :=
    (congrFun hB _).trans ((bodyB_back Y5).1.trans (K 49 3 Y4 main_while1b_v63 (by decide)))
  have e7 : StableHlo.after bodyB X (Proc.devRef .tc main_v15_7) = Y4 (Proc.devRef .tc main_while1b_v61) :=
    (congrFun hB _).trans ((bodyB_back Y5).2.trans (K 49 3 Y4 main_while1b_v61 (by decide)))
  refine ⟨rowsR (X (Proc.devRef .tc main_v15_0)) s1, s2, rowsR_at _ s1 ⟨k, hk⟩ p1, p2, e6.trans h63, e7.trans h61, ?_⟩
  refine (congrFun hB _).trans (e2.trans ?_)
  refine (congrArg₂ (fun a b => Host.dynamicUpdateSlice a b s2 updateFits_S128x512x64_S1x512x64) (k5 main_v15_8 (by decide)) hp.1).trans ?_
  exact congrArg (fun v => setR (X (Proc.devRef .tc main_v15_8)) v s2) e6.symm
end

end Cert.ReferenceIdeal.Rf

end
-- ==== Proof.RefTake.lean ====
/- The words the reference takes from its table, read at an entry. -/
module

public import proofs.«01_k».proof.Proof.RefRun
public import proofs.«01_k».proof.Proof.LstmSpec
public import Idealize.ShloMosaic.Lib.Routing.OpsSet
public import Idealize.ShloMosaic.Lib.Routing.OpsPair
public import Idealize.ShloMosaic.Lib.WordCmp
public import Idealize.ShloMosaic.Lib.IdealHost
public import Idealize.ShloMosaic.Lib.ValueIdx
public import Idealize.ShloMosaic.Lib.ValueLayout

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

/-- The table with its row 0 cleared. -/
def clearR (x : FVec Ideal S100000x100 .f32) : FVec Ideal S100000x100 .f32 :=
  Host.scatter scatter_S100000x100_S1_S100_0_0_0_0 (fun _ b => b) x (broadcastInDim S1 ![] bcast_S_S1 (constantI S_ 32 0#32)) (broadcastInDim S100 ![] bcast_S_S100 (constant S_ .f32 0x00000000#32))

/-- The indices, a negative one counted from the end. -/
def idxR (ids : IVec S512x128 32) : IVec S512x128x1 32 :=
  broadcastInDim S512x128x1 ![0, 1] bcast_S512x128_S512x128x1_0_1
    (select (cmpi .slt ids (broadcastInDim S512x128 ![] bcast_S_S512x128 (constantI S_ 32 0#32))) (addi ids (broadcastInDim S512x128 ![] bcast_S_S512x128 (constantI S_ 32 100000#32))) ids)

/-- Whether an index is in range. -/
def okR (j : IVec S512x128x1 32) : IVec S512x128 1 :=
  Host.reduce IntOp.andi (andi (cmpi .sge j (broadcastInDim S512x128x1 ![] bcast_S_S512x128x1 (constantI S_ 32 0#32)))
    (cmpi .sle j (broadcastInDim S512x128x1 ![0, 1, 2] bcast_S1x1x1_S512x128x1_0_1_2 (broadcastInDim S1x1x1 ![2] bcast_S1_S1x1x1_2 (constantI S1 32 99999#32)))))
    (constantI S_ 1 1#1) reducesTo_S512x128x1_S512x128_d2 h_S_

/-- The rows taken. -/
def takeR (x : FVec Ideal S100000x100 .f32) (ids : IVec S512x128 32) : FVec Ideal S512x128x100 .f32 :=
  select (broadcastInDim S512x128x100 ![0, 1] bcast_S512x128_S512x128x100_0_1 (okR (idxR ids)))
    (Host.gather gather_S100000x100_S512x128x1_S512x128x100_2_0_n_n_0_2_1100 x (idxR ids)) (broadcastInDim S512x128x100 ![] bcast_S_S512x128x100 (constant S_ .f32 0x7FC00000#32))

section clear
/-- A table whose row 0 is zero already is unchanged by clearing it. -/
theorem clearR_at (x : FVec Ideal S100000x100 .f32) (h0 : ∀ q : Fin 100, @Eq EReal (x (ix2 (0 : Fin 100000) q)) 0) : clearR x = x := by
  funext ι
  unfold clearR
  by_cases h : ∃ k : S100.Idx, scatter_S100000x100_S1_S100_0_0_0_0.resultIdx? k (broadcastInDim S1 ![] bcast_S_S1 (constantI S_ 32 0#32)) = some ι
  · obtain ⟨k, hk⟩ := h
    refine Routing.scatter_set_hit _ _ _ _ ι (x ι) (fun k' hk' => ?_) k hk
    have e := (Routing.resultIdx?_eq_some _ _ _ _).1 hk' 0
    have hs : scatter_S100000x100_S1_S100_0_0_0_0.start k' (broadcastInDim S1 ![] bcast_S_S1 (constantI S_ 32 0#32)) 0 = 0 := by rfl
    have hw : scatter_S100000x100_S1_S100_0_0_0_0.window k' 0 = 0 := by rfl
    have hι : (ι 0).val = 0 := by
      rw [hs, hw] at e
      omega
    have e0 : ι = ix2 (0 : Fin 100000) (ι 1) := by
      funext a
      match a with
      | ⟨0, _⟩ => exact Fin.ext hι
      | ⟨1, _⟩ => rfl
    have ez : @Eq EReal (x ι) 0 := by
      rw [e0]
      exact h0 _
    exact Ideal.ofBits_zero_f32.trans ez.symm
  · exact Routing.scatter_set_miss _ _ _ _ ι fun k hk => h ⟨k, hk⟩
end clear

/-- An index in range is not wrapped. -/
theorem idxR_at (ids : IVec S512x128 32) (hb : ∀ j, (ids j).toNat < 100000) (i : S512x128x1.Idx) : idxR ids i = ids (ix2 (i 0) (i 1)) := by
  have e : IntOp.cmpi .slt (ids (ix2 (i 0) (i 1))) 0#32 = 0#1 := by
    rw [WordCmp.cmpi_slt_zero]
    have := hb (ix2 (i 0) (i 1))
    rw [decide_eq_false (by omega)]
    rfl
  unfold idxR
  refine (congrArg (select (cmpi .slt ids (broadcastInDim S512x128 ![] bcast_S_S512x128 (constantI S_ 32 0#32))) (addi ids (broadcastInDim S512x128 ![] bcast_S_S512x128 (constantI S_ 32 100000#32))) ids)
    (show _ = ix2 (i 0) (i 1) from funext fun a => Fin.ext ?_)).trans ?_
  · match a with
    | ⟨0, _⟩ => rfl
    | ⟨1, _⟩ => rfl
  · exact if_neg (fun h : IntOp.cmpi .slt (ids (ix2 (i 0) (i 1))) 0#32 = 1#1 => absurd (e.symm.trans h) (by decide))

/-- A selection under a true condition is its first operand. -/
theorem select_pos {s : Shape} {α : Type} (c : IVec s 1) (x y : s.Idx → α) (i : s.Idx) (h : c i = 1#1) : select c x y i = x i := if_pos h

/-- A broadcast of an array that is one value everywhere is that value everywhere. -/
theorem bcast_all {s t : Shape} {α : Type} (dims : Fin s.rank → Fin t.rank) (h : s.BroadcastsInDim t dims) (x : s.Idx → α) (v : α) (hx : ∀ p, x p = v) (j : t.Idx) :
    broadcastInDim t dims h x j = v := hx _

/-- A conjunction of ones is one. -/
theorem fold_ones {β : Type} (x : β → BitVec 1) (hx : ∀ n, x n = 1#1) : ∀ l : List β, l.foldl (fun r n => IntOp.andi r (x n)) 1#1 = 1#1
  | [] => rfl
  | n :: l => by
    rw [List.foldl_cons, hx n]
    exact fold_ones x hx l

/-- Every index in range passes the range test. -/
theorem okR_at (j : IVec S512x128x1 32) (hb : ∀ i, (j i).toNat < 100000) (p : S512x128.Idx) : okR j p = 1#1 := by
  unfold okR Host.reduce
  refine fold_ones _ (fun n => ?_) _
  have := hb (S512x128x1.rowMajor.symm n)
  show IntOp.andi (IntOp.cmpi .sge (j _) 0#32) (IntOp.cmpi .sle (j _) 99999#32) = 1#1
  rw [WordCmp.cmpi_sge_zero, WordCmp.cmpi_sle_of_lt (by omega) (by decide), decide_eq_true (by omega), decide_eq_true (by show _ ≤ 99999; omega)]
  rfl

/-- The row lookup at an entry is the table's row that the index names. -/
theorem gather_at (x : FVec Ideal S100000x100 .f32) (j : IVec S512x128x1 32) (b : Fin 512) (t : Fin 128) (e : Fin 100) (r : Fin 100000) (hr : (j (ix3 b t (0 : Fin 1))).toNat = r.val) :
    Host.gather gather_S100000x100_S512x128x1_S512x128x100_2_0_n_n_0_2_1100 x j (ix3 b t e) = x (ix2 r e) := by
  unfold Host.gather
  have hs : gather_S100000x100_S512x128x1_S512x128x100_2_0_n_n_0_2_1100.start (ix3 b t e) j 0 = r.val := by
    unfold GatherDims.start
    rw [dif_pos (show (0 : Fin 2) ∈ gather_S100000x100_S512x128x1_S512x128x100_2_0_n_n_0_2_1100.startIndexMap from List.mem_singleton.mpr rfl)]
    have hsi : gather_S100000x100_S512x128x1_S512x128x100_2_0_n_n_0_2_1100.siIdx (ix3 b t e) ⟨List.idxOf (0 : Fin 2) gather_S100000x100_S512x128x1_S512x128x100_2_0_n_n_0_2_1100.startIndexMap,
        List.idxOf_lt_length_iff.2 (List.mem_singleton.mpr rfl)⟩ = ix3 b t (0 : Fin 1) := by
      funext a
      refine Fin.ext ?_
      match a with
      | ⟨0, _⟩ => rfl
      | ⟨1, _⟩ => rfl
      | ⟨2, _⟩ => rfl
    rw [hsi, WordCmp.toInt_eq_toNat_of_lt_half (by rw [hr]; have := r.isLt; omega), Int.toNat_natCast, hr]
    refine Nat.min_eq_left ?_
    have := r.isLt
    show r.val ≤ 100000 - 1
    omega
  have hb0 : ∀ a, gather_S100000x100_S512x128x1_S512x128x100_2_0_n_n_0_2_1100.batchCoord (ix3 b t e) a = 0 := fun a => GatherDims.batchCoord_eq_zero _ _ _ List.not_mem_nil
  refine congrArg x (funext fun a => Fin.ext ?_)
  match a with
  | ⟨0, _⟩ =>
    show gather_S100000x100_S512x128x1_S512x128x100_2_0_n_n_0_2_1100.start (ix3 b t e) j 0 + gather_S100000x100_S512x128x1_S512x128x100_2_0_n_n_0_2_1100.batchCoord (ix3 b t e) 0
      + gather_S100000x100_S512x128x1_S512x128x100_2_0_n_n_0_2_1100.offCoord (ix3 b t e) 0 = r.val
    rw [hs, hb0, GatherDims.offCoord_eq_zero _ _ _ (fun h => ((GatherDims.mem_sKept _ _).mp h).1 (List.mem_singleton.mpr rfl))]
    rfl
  | ⟨1, _⟩ =>
    show gather_S100000x100_S512x128x1_S512x128x100_2_0_n_n_0_2_1100.start (ix3 b t e) j 1 + gather_S100000x100_S512x128x1_S512x128x100_2_0_n_n_0_2_1100.batchCoord (ix3 b t e) 1
      + gather_S100000x100_S512x128x1_S512x128x100_2_0_n_n_0_2_1100.offCoord (ix3 b t e) 1 = e.val
    have h1 : gather_S100000x100_S512x128x1_S512x128x100_2_0_n_n_0_2_1100.start (ix3 b t e) j 1 = 0 := by
      unfold GatherDims.start
      exact dif_neg (show (1 : Fin 2) ∉ [(0 : Fin 2)] by decide)
    have h2 : gather_S100000x100_S512x128x1_S512x128x100_2_0_n_n_0_2_1100.offCoord (ix3 b t e) 1 = e.val := by rfl
    rw [h1, hb0, h2]
    omega

/-- With every index in range, the rows taken are the table's. -/
theorem takeR_at (x : FVec Ideal S100000x100 .f32) (ids : IVec S512x128 32) (hb : ∀ j, (ids j).toNat < 100000) (b : Fin 512) (t : Fin 128) (e : Fin 100) :
    @Eq EReal (takeR x ids (ix3 b t e)) (wordsOf ids x t b e) := by
  have hb' : ∀ i, (idxR ids i).toNat < 100000 := fun i => by
    rw [idxR_at ids hb]
    exact hb _
  unfold takeR wordsOf
  refine (select_pos _ _ _ _ (bcast_all _ _ _ _ (okR_at (idxR ids) hb') _)).trans ?_
  refine gather_at x (idxR ids) b t e _ ?_
  rw [idxR_at ids hb]
  exact (Nat.mod_eq_of_lt (hb _)).symm

section
variable (X : Valuation τ sig (Elt Ideal))
set_option maxRecDepth 16384
set_option maxHeartbeats 2000000

/-- The looked-up words as a function of the indices and the table. -/
theorem opsP_take : (StableHlo.after opsP X (Proc.devRef .tc main_v3) : FVec Ideal S512x128x100 .f32) = takeR (clearR (X (Proc.devRef .tc main_arg1))) (X (Proc.devRef .tc main_arg0)) := by
  unfold opsP takeR okR idxR clearR
  after_reads_simp
  have e0 : ∀ (h1 h2 h3) (v : main_arg0.ty.Contents (Elt Ideal)), (StableHlo.TRef.of main_arg0 h1 h2 h3 : StableHlo.TRef sig ⟨S512x128, .i32⟩).ofBuf v = v := fun _ _ _ _ => rfl
  have e2 : ∀ (h1 h2 h3) (v : main_v2.ty.Contents (Elt Ideal)), (StableHlo.TRef.of main_v2 h1 h2 h3 : StableHlo.TRef sig ⟨S100000x100, .f32⟩).ofBuf v = v := fun _ _ _ _ => rfl
  have e3 : ∀ (h1 h2 h3) (v : (⟨S512x128x100, .f32⟩ : BufTy).Contents (Elt Ideal)), (StableHlo.TRef.of main_v3 h1 h2 h3 : StableHlo.TRef sig ⟨S512x128x100, .f32⟩).toBuf v = v := fun _ _ _ _ => rfl
  simp only [StableHlo.TRef.ofBuf_toBuf]
  rw [e3]
  simp only [e0, e2]
end

end Cert.ReferenceIdeal.Rf

end
-- ==== Proof.RefStates.lean ====
/- The reference's states: after every step of either loop they are the recurrence's. -/
module

public import proofs.«01_k».proof.Proof.RefMoveA
public import proofs.«01_k».proof.Proof.RefMoveB
public import proofs.«01_k».proof.Proof.RefTake
public import proofs.«01_k».proof.Proof.RefFrame

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

/-- States that start at zero and move by the reference's step follow the recurrence; the planes written so far hold its hidden states. -/
theorem run_states (D : Dir) (w : Fin 512 → ℕ → Fin 100 → EReal) (xs : FVec Ideal S128x512x100 .f32) (wi : FVec Ideal S256x100 .f32) (wh : FVec Ideal S256x64 .f32) (bi bh : FVec Ideal S256 .f32)
    (hD : dirOf wi wh bi bh = D) (hw : ∀ k (h : k < 128) b e, @Eq EReal (xs (ix3 (⟨k, h⟩ : Fin 128) b e)) (w b k e))
    (H C : ℕ → FVec Ideal S512x64 .f32) (O : ℕ → FVec Ideal S128x512x64 .f32) (h0 : ∀ i, @Eq EReal (H 0 i) 0) (c0 : ∀ i, @Eq EReal (C 0 i) 0)
    (step : ∀ k (h : k < 128), ∃ (x : FVec Ideal S512x100 .f32) (st : Fin 3 → ℤ), (∀ b e, @Eq EReal (x (ix2 b e)) (xs (ix3 (⟨k, h⟩ : Fin 128) b e))) ∧ (∀ a, st a = (planeAt k a : ℤ)) ∧
      H (k + 1) = hidR (gatesR x wi wh bi bh (H k)) (C k) ∧ C (k + 1) = cellR (gatesR x wi wh bi bh (H k)) (C k) ∧ O (k + 1) = setR (O k) (H (k + 1)) st) :
    ∀ k, k ≤ 128 → (∀ b u, @Eq EReal (H k (ix2 b u)) ((D.st (w b) k).1 u)) ∧ (∀ b u, @Eq EReal (C k (ix2 b u)) ((D.st (w b) k).2 u)) ∧
      ∀ (t : Fin 128) b u, t.val < k → @Eq EReal (O k (ix3 t b u)) ((D.st (w b) (t.val + 1)).1 u)
  | 0, _ => ⟨fun _ _ => h0 _, fun _ _ => c0 _, fun _ _ _ h => absurd h (Nat.not_lt_zero _)⟩
  | k + 1, hk => by
    obtain ⟨iH, iC, iO⟩ := run_states D w xs wi wh bi bh hD hw H C O h0 c0 step k (by omega)
    obtain ⟨x, st, hx, hst, eH, eC, eO⟩ := step k (by omega)
    have ex : ∀ b, (fun e => (x (ix2 b e) : EReal)) = w b k := fun b => funext fun e => (hx b e).trans (hw k (by omega) b e)
    have eh : ∀ b, (fun m => (H k (ix2 b m) : EReal)) = (D.st (w b) k).1 := fun b => funext fun m => iH b m
    have ec : ∀ b, (fun m => (C k (ix2 b m) : EReal)) = (D.st (w b) k).2 := fun b => funext fun m => iC b m
    have nH : ∀ b u, @Eq EReal (H (k + 1) (ix2 b u)) ((D.st (w b) (k + 1)).1 u) := fun b u => by
      refine (congrFun eH _).trans ((hidR_at x wi wh bi bh (H k) (C k) b u).trans ?_)
      rw [ex b, eh b, ec b, hD]
      rfl
    refine ⟨nH, fun b u => ?_, fun t b u ht => ?_⟩
    · refine (congrFun eC _).trans ((cellR_at x wi wh bi bh (H k) (C k) b u).trans ?_)
      rw [ex b, eh b, ec b, hD]
      rfl
    · refine (congrFun eO _).trans ((setR_at (O k) (H (k + 1)) st ⟨k, by omega⟩ hst t b u).trans ?_)
      by_cases h : t = ⟨k, by omega⟩
      · rw [if_pos h, h]
        exact nH b u
      · rw [if_neg h]
        refine iO t b u ?_
        have : t.val ≠ k := fun e => h (Fin.ext e)
        omega

section
variable (X : Valuation τ sig (Elt Ideal))
set_option maxRecDepth 16384
set_option maxHeartbeats 2000000

/-- Zeros everywhere. -/
theorem zerosR {t : Shape} (h : S_.BroadcastsInDim t ![]) (i : t.Idx) : @Eq EReal (broadcastInDim t ![] h (constant (F := Ideal) S_ .f32 0x00000000#32) i) 0 := Ideal.ofBits_zero_f32

/-- The end of the operations before the loops: the words by place in the sentence, the rest kept. -/
theorem opsP_tail : (StableHlo.after (opsP.drop 28) X (Proc.devRef .tc main_v8_0) : FVec Ideal S128x512x100 .f32) = transpose S128x512x100 [1, 0, 2] (X (Proc.devRef .tc main_v3) : FVec Ideal S512x128x100 .f32) transposes_S512x128x100_S128x512x100_1_0_2 ∧
    (StableHlo.after (opsP.drop 28) X (Proc.devRef .tc main_v3) : FVec Ideal S512x128x100 .f32) = X (Proc.devRef .tc main_v3) ∧
    (StableHlo.after (opsP.drop 28) X (Proc.devRef .tc main_v8_6) : FVec Ideal S512x64 .f32) = broadcastInDim S512x64 ![] bcast_S_S512x64 (constant (F := Ideal) S_ .f32 0x00000000#32) ∧
    (StableHlo.after (opsP.drop 28) X (Proc.devRef .tc main_v8_7) : FVec Ideal S512x64 .f32) = broadcastInDim S512x64 ![] bcast_S_S512x64 (constant (F := Ideal) S_ .f32 0x00000000#32) := by
  unfold opsP
  simp only [List.drop_succ_cons, List.drop_zero]
  refine ⟨?_, ?_, ?_, ?_⟩ <;> (after_reads_simp; try rfl)

/-- The first loop's words are the looked-up words, by place in the sentence. -/
theorem opsP_words : (StableHlo.after opsP X (Proc.devRef .tc main_v8_0) : FVec Ideal S128x512x100 .f32) =
    transpose S128x512x100 [1, 0, 2] (StableHlo.after opsP X (Proc.devRef .tc main_v3) : FVec Ideal S512x128x100 .f32) transposes_S512x128x100_S128x512x100_1_0_2 := by
  have h := blk_cut opsP 0 28 28 rfl X
  have t := opsP_tail (StableHlo.after (blk opsP 0 28) X)
  have h' : StableHlo.after opsP X = StableHlo.after (opsP.drop 28) (StableHlo.after (blk opsP 0 28) X) := h
  rw [h']
  exact t.1.trans (congrArg (fun v => transpose S128x512x100 [1, 0, 2] v transposes_S512x128x100_S128x512x100_1_0_2) t.2.1.symm)

/-- The first loop's states start at zero. -/
theorem opsP_zeros (i : S512x64.Idx) : @Eq EReal ((StableHlo.after opsP X (Proc.devRef .tc main_v8_6) : FVec Ideal S512x64 .f32) i) 0 ∧
    @Eq EReal ((StableHlo.after opsP X (Proc.devRef .tc main_v8_7) : FVec Ideal S512x64 .f32) i) 0 := by
  have h' : StableHlo.after opsP X = StableHlo.after (opsP.drop 28) (StableHlo.after (blk opsP 0 28) X) := blk_cut opsP 0 28 28 rfl X
  have t := opsP_tail (StableHlo.after (blk opsP 0 28) X)
  rw [h']
  exact ⟨(congrFun t.2.2.1 i).trans (zerosR _ i), (congrFun t.2.2.2 i).trans (zerosR _ i)⟩

/-- The first loop's weights and biases are the forward arguments. -/
theorem opsP_args : StableHlo.after opsP X (Proc.devRef .tc main_v8_1) = X (Proc.devRef .tc main_arg2) ∧ StableHlo.after opsP X (Proc.devRef .tc main_v8_2) = X (Proc.devRef .tc main_arg3) ∧
    StableHlo.after opsP X (Proc.devRef .tc main_v8_3) = X (Proc.devRef .tc main_arg4) ∧ StableHlo.after opsP X (Proc.devRef .tc main_v8_4) = X (Proc.devRef .tc main_arg5) := by
  unfold opsP
  refine ⟨?_, ?_, ?_, ?_⟩ <;> (after_reads_simp; try rfl)

/-- The second loop's words are the first's reversed, its states start at zero, and the first's results are kept by sentence. -/
theorem opsQ_reads : (StableHlo.after opsQ X (Proc.devRef .tc main_v15_0) : FVec Ideal S128x512x100 .f32) =
      Host.reverse [0] (transpose S128x512x100 [1, 0, 2] (X (Proc.devRef .tc main_v3) : FVec Ideal S512x128x100 .f32) transposes_S512x128x100_S128x512x100_1_0_2) ∧
    (StableHlo.after opsQ X (Proc.devRef .tc main_v9) : FVec Ideal S512x128x64 .f32) = transpose S512x128x64 [1, 0, 2] (X (Proc.devRef .tc main_v8_8) : FVec Ideal S128x512x64 .f32) transposes_S128x512x64_S512x128x64_1_0_2 ∧
    (StableHlo.after opsQ X (Proc.devRef .tc main_v15_6) : FVec Ideal S512x64 .f32) = broadcastInDim S512x64 ![] bcast_S_S512x64 (constant (F := Ideal) S_ .f32 0x00000000#32) ∧
    (StableHlo.after opsQ X (Proc.devRef .tc main_v15_7) : FVec Ideal S512x64 .f32) = broadcastInDim S512x64 ![] bcast_S_S512x64 (constant (F := Ideal) S_ .f32 0x00000000#32) := by
  unfold opsQ
  refine ⟨?_, ?_, ?_, ?_⟩ <;> (after_reads_simp; try rfl)

/-- The second loop's weights and biases are the backward arguments. -/
theorem opsQ_args : StableHlo.after opsQ X (Proc.devRef .tc main_v15_1) = X (Proc.devRef .tc main_arg6) ∧ StableHlo.after opsQ X (Proc.devRef .tc main_v15_2) = X (Proc.devRef .tc main_arg7) ∧
    StableHlo.after opsQ X (Proc.devRef .tc main_v15_3) = X (Proc.devRef .tc main_arg8) ∧ StableHlo.after opsQ X (Proc.devRef .tc main_v15_4) = X (Proc.devRef .tc main_arg9) := by
  unfold opsQ
  refine ⟨?_, ?_, ?_, ?_⟩ <;> (after_reads_simp; try rfl)
end

end Cert.ReferenceIdeal.Rf

end
-- ==== Proof.RefValue.lean ====
/- The reference's result, read at an entry. -/
module

public import proofs.«01_k».proof.Proof.RefStates

@[expose] public section

noncomputable section

namespace Cert.ReferenceIdeal.Rf

open Idealize.ShloMosaic hiding ix0 ix1 ix2 ix3
open Idealize.ShloMosaic.ValueIdx
open Idealize.ShloMosaic.TcCoe Idealize.ShloMosaic.Tactic
open Cert.ReferenceIdeal Facts₀ Facts
open Cert.ReferenceIdeal.Gen (facts₀ facts)
open Cert.Lstm

/-- A direction depends only on its weights and biases. -/
theorem dirOf_congr {wi wi' : FVec Ideal S256x100 .f32} {wh wh' : FVec Ideal S256x64 .f32} {bi bi' bh bh' : FVec Ideal S256 .f32} (e1 : wi = wi') (e2 : wh = wh') (e3 : bi = bi') (e4 : bh = bh') :
    dirOf wi wh bi bh = dirOf wi' wh' bi' bh' := by
  subst e1 e2 e3 e4
  rfl

section
set_option maxRecDepth 16384
set_option maxHeartbeats 2000000
variable (W0 : DV Ideal) (c : Dev nD)

/-- The forward weights, the backward weights, the words, the output weights and the output bias as the arguments give them. -/
def dirF : Dir := dirOf (W0 c (Proc.devRef .tc main_arg2)) (W0 c (Proc.devRef .tc main_arg3)) (W0 c (Proc.devRef .tc main_arg4)) (W0 c (Proc.devRef .tc main_arg5))
def dirB : Dir := dirOf (W0 c (Proc.devRef .tc main_arg6)) (W0 c (Proc.devRef .tc main_arg7)) (W0 c (Proc.devRef .tc main_arg8)) (W0 c (Proc.devRef .tc main_arg9))
def wordsR : Fin 128 → Fin 512 → Fin 100 → EReal := wordsOf (W0 c (Proc.devRef .tc main_arg0)) (W0 c (Proc.devRef .tc main_arg1))
def woR : Fin 2 → Fin 64 → Fin 8 → EReal := woOf (W0 c (Proc.devRef .tc main_arg10))
def boR (o : Fin 8) : EReal := (W0 c (Proc.devRef .tc main_arg11) : FVec Ideal S8 .f32) (ix1 o)

/-- An argument is unchanged when either loop is entered or left. -/
theorem in1 (x : Ref sig .tc) (h : x ∉ written) : E1 W0 c (Proc.devRef .tc x) = W0 c (Proc.devRef .tc x) :=
  StableHlo.after_of_writes_sub opsP _ opsP_writes (fun hx => h (List.mem_append_left _ (List.mem_append_left _ (List.mem_append_left _ (List.mem_append_left _ hx)))))
/-- An argument is unchanged when the first loop is left. -/
theorem out1 (x : Ref sig .tc) (h : x ∉ written) : StableHlo.after condA (A W0 128 c) (Proc.devRef .tc x) = W0 c (Proc.devRef .tc x) :=
  (exitA_kept W0 c x (fun hx => h (List.mem_append_left _ (List.mem_append_left _ (List.mem_append_left _ (List.mem_append_right _ hx)))))).trans (in1 W0 c x h)
/-- An argument is unchanged when the second loop is entered. -/
theorem in2 (x : Ref sig .tc) (h : x ∉ written) : E2 W0 c (Proc.devRef .tc x) = W0 c (Proc.devRef .tc x) :=
  (StableHlo.after_of_writes_sub opsQ _ opsQ_writes (fun hx => h (List.mem_append_left _ (List.mem_append_left _ (List.mem_append_right _ hx))))).trans (out1 W0 c x h)
/-- An argument is unchanged when the second loop is left. -/
theorem out2 (x : Ref sig .tc) (h : x ∉ written) : StableHlo.after condB (B W0 128 c) (Proc.devRef .tc x) = W0 c (Proc.devRef .tc x) :=
  (exitB_kept W0 c x (fun hx => h (List.mem_append_left _ (List.mem_append_right _ hx)))).trans (in2 W0 c x h)

/-- The first loop's test leaves every buffer it does not write. -/
theorem condA_keep (V : Valuation τ sig (Elt Ideal)) (x : Ref sig .tc) (h : x ∉ condAW) : StableHlo.after condA V (Proc.devRef .tc x) = V (Proc.devRef .tc x) :=
  StableHlo.after_of_writes_sub condA V condA_writes h
/-- The second loop's test leaves every buffer it does not write. -/
theorem condB_keep (V : Valuation τ sig (Elt Ideal)) (x : Ref sig .tc) (h : x ∉ condBW) : StableHlo.after condB V (Proc.devRef .tc x) = V (Proc.devRef .tc x) :=
  StableHlo.after_of_writes_sub condB V condB_writes h

/-- At a trip's body, what the loop does not write is what it was at entry. -/
theorem atA (k : ℕ) (x : Ref sig .tc) (h : x ∉ tripAW) : StableHlo.after condA (A W0 k c) (Proc.devRef .tc x) = E1 W0 c (Proc.devRef .tc x) :=
  (condA_keep _ x (fun hx => h (List.mem_append_left _ hx))).trans (A_kept W0 c x h k)
/-- A buffer that the second loop does not write is as at its entry, at every trip. -/
theorem atB (k : ℕ) (x : Ref sig .tc) (h : x ∉ tripBW) : StableHlo.after condB (B W0 k c) (Proc.devRef .tc x) = E2 W0 c (Proc.devRef .tc x) :=
  (condB_keep _ x (fun hx => h (List.mem_append_left _ hx))).trans (B_kept W0 c x h k)

variable (hb : ∀ j, ((W0 c (Proc.devRef .tc main_arg0) : IVec S512x128 32) j).toNat < 100000)
  (h0 : ∀ q : Fin 100, @Eq EReal ((W0 c (Proc.devRef .tc main_arg1) : FVec Ideal S100000x100 .f32) (ix2 (0 : Fin 100000) q)) 0)
include hb h0

/-- The looked-up words are the table's rows. -/
theorem taken_at (b : Fin 512) (t : Fin 128) (e : Fin 100) : @Eq EReal ((E1 W0 c (Proc.devRef .tc main_v3) : FVec Ideal S512x128x100 .f32) (ix3 b t e)) (wordsR W0 c t b e) := by
  refine (congrFun (opsP_take (W0 c)) _).trans ?_
  rw [clearR_at _ h0]
  exact takeR_at _ _ hb b t e

/-- The first loop's words are the sentence's from the front. -/
theorem fwd_words (k : ℕ) (h : k < 128) (b : Fin 512) (e : Fin 100) : @Eq EReal ((E1 W0 c (Proc.devRef .tc main_v8_0) : FVec Ideal S128x512x100 .f32) (ix3 (⟨k, h⟩ : Fin 128) b e)) (ws (wordsR W0 c) 0 b k e) := by
  unfold ws
  rw [dif_pos h, if_pos rfl]
  refine (congrFun (opsP_words (W0 c)) _).trans (Eq.trans ?_ (taken_at W0 c hb h0 b ⟨k, h⟩ e))
  refine congrArg (E1 W0 c (Proc.devRef .tc main_v3) : FVec Ideal S512x128x100 .f32) (funext fun a => Fin.ext ?_)
  match a with
  | ⟨0, _⟩ => rfl
  | ⟨1, _⟩ => rfl
  | ⟨2, _⟩ => rfl

/-- The second loop's words are the sentence's from the end. -/
theorem bwd_words (k : ℕ) (h : k < 128) (b : Fin 512) (e : Fin 100) : @Eq EReal ((E2 W0 c (Proc.devRef .tc main_v15_0) : FVec Ideal S128x512x100 .f32) (ix3 (⟨k, h⟩ : Fin 128) b e)) (ws (wordsR W0 c) 1 b k e) := by
  unfold ws
  rw [dif_pos h, if_neg (by decide)]
  refine (congrFun (opsQ_reads (StableHlo.after condA (A W0 128 c))).1 _).trans (Eq.trans ?_ (taken_at W0 c hb h0 b (Fin.rev ⟨k, h⟩) e))
  rw [exitA_kept W0 c main_v3 (by decide)]
  refine congrArg (E1 W0 c (Proc.devRef .tc main_v3) : FVec Ideal S512x128x100 .f32) (funext fun a => Fin.ext ?_)
  match a with
  | ⟨0, _⟩ => rfl
  | ⟨1, _⟩ => rfl
  | ⟨2, _⟩ => rfl

/-- The first loop's planes hold the forward direction's hidden states. -/
theorem fwd_states (t : Fin 128) (b : Fin 512) (u : Fin 64) :
    @Eq EReal ((A W0 128 c (Proc.devRef .tc main_v8_8) : FVec Ideal S128x512x64 .f32) (ix3 t b u)) ((sts (dirF W0 c) (dirB W0 c) (wordsR W0 c) 0 b (t.val + 1)).1 u) := by
  have a := opsP_args (W0 c)
  refine (run_states (dirF W0 c) (fun b => ws (wordsR W0 c) 0 b) (E1 W0 c (Proc.devRef .tc main_v8_0)) (E1 W0 c (Proc.devRef .tc main_v8_1)) (E1 W0 c (Proc.devRef .tc main_v8_2))
    (E1 W0 c (Proc.devRef .tc main_v8_3)) (E1 W0 c (Proc.devRef .tc main_v8_4)) ?_ (fun k h b e => fwd_words W0 c hb h0 k h b e) (fun k => A W0 k c (Proc.devRef .tc main_v8_6))
    (fun k => A W0 k c (Proc.devRef .tc main_v8_7)) (fun k => A W0 k c (Proc.devRef .tc main_v8_8)) (fun i => (opsP_zeros (W0 c) i).1) (fun i => (opsP_zeros (W0 c) i).2) (fun k h => ?_) 128 (Nat.le_refl _)).2.2 t b u t.isLt
  · exact dirOf_congr a.1 a.2.1 a.2.2.1 a.2.2.2
  · obtain ⟨x, st, hx, hst, e6, e7, e8⟩ := bodyA_step (StableHlo.after condA (A W0 k c)) k h ((ctrA_cond _).trans (ctrA W0 c k))
    rw [atA W0 c k main_v8_1 (by decide), atA W0 c k main_v8_2 (by decide), atA W0 c k main_v8_3 (by decide), atA W0 c k main_v8_4 (by decide), condA_keep _ main_v8_6 (by decide), condA_keep _ main_v8_7 (by decide)] at e6 e7
    rw [condA_keep _ main_v8_8 (by decide)] at e8
    rw [atA W0 c k main_v8_0 (by decide)] at hx
    exact ⟨x, st, hx, hst, e6, e7, e8⟩

/-- The second loop's planes hold the backward direction's hidden states. -/
theorem bwd_states (t : Fin 128) (b : Fin 512) (u : Fin 64) :
    @Eq EReal ((B W0 128 c (Proc.devRef .tc main_v15_8) : FVec Ideal S128x512x64 .f32) (ix3 t b u)) ((sts (dirF W0 c) (dirB W0 c) (wordsR W0 c) 1 b (t.val + 1)).1 u) := by
  have a := opsQ_args (StableHlo.after condA (A W0 128 c))
  have z := (opsQ_reads (StableHlo.after condA (A W0 128 c))).2.2
  refine (run_states (dirB W0 c) (fun b => ws (wordsR W0 c) 1 b) (E2 W0 c (Proc.devRef .tc main_v15_0)) (E2 W0 c (Proc.devRef .tc main_v15_1)) (E2 W0 c (Proc.devRef .tc main_v15_2))
    (E2 W0 c (Proc.devRef .tc main_v15_3)) (E2 W0 c (Proc.devRef .tc main_v15_4)) ?_ (fun k h b e => bwd_words W0 c hb h0 k h b e) (fun k => B W0 k c (Proc.devRef .tc main_v15_6))
    (fun k => B W0 k c (Proc.devRef .tc main_v15_7)) (fun k => B W0 k c (Proc.devRef .tc main_v15_8)) (fun i => (congrFun z.1 i).trans (zerosR _ i)) (fun i => (congrFun z.2 i).trans (zerosR _ i)) (fun k h => ?_) 128 (Nat.le_refl _)).2.2 t b u t.isLt
  · exact dirOf_congr (a.1.trans (out1 W0 c main_arg6 (by decide))) (a.2.1.trans (out1 W0 c main_arg7 (by decide))) (a.2.2.1.trans (out1 W0 c main_arg8 (by decide)))
      (a.2.2.2.trans (out1 W0 c main_arg9 (by decide)))
  · obtain ⟨x, st, hx, hst, e6, e7, e8⟩ := bodyB_step (StableHlo.after condB (B W0 k c)) k h ((ctrB_cond _).trans (ctrB W0 c k))
    rw [atB W0 c k main_v15_1 (by decide), atB W0 c k main_v15_2 (by decide), atB W0 c k main_v15_3 (by decide), atB W0 c k main_v15_4 (by decide), condB_keep _ main_v15_6 (by decide), condB_keep _ main_v15_7 (by decide)] at e6 e7
    rw [condB_keep _ main_v15_8 (by decide)] at e8
    rw [atB W0 c k main_v15_0 (by decide)] at hx
    exact ⟨x, st, hx, hst, e6, e7, e8⟩

omit hb h0 in
/-- The result as a function of the two loops' hidden states and the output arguments. -/
theorem opsR_read (X : Valuation τ sig (Elt Ideal)) : (StableHlo.after opsR X (Proc.devRef .tc main_v23) : FVec Ideal S512x128x8 .f32) =
    addf (Host.dotGeneral (φ₁ := .f32) (φ₂ := .f32) dot_S512x128x128_S128x8_S512x128x8_2_0_01_1_n_n none
        (concatenate S512x128x128 2 [⟨S512x128x64, (X (Proc.devRef .tc main_v9) : FVec Ideal S512x128x64 .f32)⟩, ⟨S512x128x64, transpose S512x128x64 [1, 0, 2]
          (Host.reverse [0] (X (Proc.devRef .tc main_v15_8) : FVec Ideal S128x512x64 .f32)) transposes_S128x512x64_S512x128x64_1_0_2⟩] concatenates_S512x128x64_S512x128x64_S512x128x128_d2 : FVec Ideal S512x128x128 .f32)
        (transpose S128x8 [1, 0] (X (Proc.devRef .tc main_arg10) : FVec Ideal S8x128 .f32) transposes_S8x128_S128x8_1_0 : FVec Ideal S128x8 .f32))
      (broadcastInDim S512x128x8 ![0, 1, 2] bcast_S1x1x8_S512x128x8_0_1_2 (broadcastInDim S1x1x8 ![2] bcast_S8_S1x1x8_2 (X (Proc.devRef .tc main_arg11) : FVec Ideal S8 .f32))) := by
  unfold opsR
  after_reads_simp
  rfl

omit hb h0 in
/-- A stack of rows times a matrix, at an entry. -/
theorem dot3_at (x : FVec Ideal S512x128x128 .f32) (y : FVec Ideal S128x8 .f32) (b : Fin 512) (t : Fin 128) (o : Fin 8) :
    @Eq EReal (Host.dotGeneral dot_S512x128x128_S128x8_S512x128x8_2_0_01_1_n_n none x y (ix3 b t o)) (∑ k : Fin 128, x (ix3 b t k) * y (ix2 k o)) := by
  show FloatOps.dotGeneral _ none _ x y (ix3 b t o) = _
  rw [Ideal.dotGeneral_apply, ← Equiv.sum_comp (contrEquiv1 dot_S512x128x128_S128x8_S512x128x8_2_0_01_1_n_n 128 rfl rfl).symm]
  refine Finset.sum_congr rfl fun k _ => ?_
  have c2 := contrEquiv1_symm_val dot_S512x128x128_S128x8_S512x128x8_2_0_01_1_n_n 128 rfl rfl k
  have l2 : dot_S512x128x128_S128x8_S512x128x8_2_0_01_1_n_n.lhsIdx (ix3 b t o) ((contrEquiv1 _ 128 rfl rfl).symm k) = ix3 b t k := by
    funext a; apply Fin.ext
    match a with
    | ⟨0, _⟩ => rfl
    | ⟨1, _⟩ => rfl
    | ⟨2, _⟩ => exact c2
  have r2 : dot_S512x128x128_S128x8_S512x128x8_2_0_01_1_n_n.rhsIdx (ix3 b t o) ((contrEquiv1 _ 128 rfl rfl).symm k) = ix2 k o := by
    funext a; apply Fin.ext
    match a with
    | ⟨0, _⟩ => exact c2
    | ⟨1, _⟩ => rfl
  rw [l2, r2]

omit hb h0 in
/-- Two stacks of rows side by side, at a column of the left one. -/
theorem cat_left (x y : FVec Ideal S512x128x64 .f32) (b : Fin 512) (t : Fin 128) (u : Fin 64) :
    (concatenate S512x128x128 2 [⟨S512x128x64, x⟩, ⟨S512x128x64, y⟩] concatenates_S512x128x64_S512x128x64_S512x128x128_d2 : FVec Ideal S512x128x128 .f32) (ix3 b t (kcol 0 u)) = x (ix3 b t u) :=
  concatenate_pair_apply_left (t := S512x128x128) 2 x y _ (ix3 b t (kcol 0 u)) rfl (ix3 b t u) fun a => by
    match a with
    | ⟨0, _⟩ => rfl
    | ⟨1, _⟩ => rfl
    | ⟨2, _⟩ =>
      show u.val = 64 * 0 + u.val
      omega

omit hb h0 in
/-- Two stacks of rows side by side, at a column of the right one. -/
theorem cat_right (x y : FVec Ideal S512x128x64 .f32) (b : Fin 512) (t : Fin 128) (u : Fin 64) :
    (concatenate S512x128x128 2 [⟨S512x128x64, x⟩, ⟨S512x128x64, y⟩] concatenates_S512x128x64_S512x128x64_S512x128x128_d2 : FVec Ideal S512x128x128 .f32) (ix3 b t (kcol 1 u)) = y (ix3 b t u) :=
  concatenate_pair_apply_right (t := S512x128x128) 2 x y _ (ix3 b t (kcol 1 u)) rfl rfl (ix3 b t u) (fun a ha => by
    match a, ha with
    | ⟨0, _⟩, _ => rfl
    | ⟨1, _⟩, _ => rfl
    | ⟨2, _⟩, ha => exact absurd rfl ha) (by
    show u.val + 64 = 64 * 1 + u.val
    omega)

/-- The forward half of a row of states. -/
theorem half0 (b : Fin 512) (t : Fin 128) (u : Fin 64) : @Eq EReal ((StableHlo.after condB (B W0 128 c) (Proc.devRef .tc main_v9) : FVec Ideal S512x128x64 .f32) (ix3 b t u))
    ((sts (dirF W0 c) (dirB W0 c) (wordsR W0 c) 0 b (t.val + 1)).1 u) := by
  refine Eq.trans ?_ (fwd_states W0 c hb h0 t b u)
  refine (congrFun ((exitB_kept W0 c main_v9 (by decide)).trans ((opsQ_reads (StableHlo.after condA (A W0 128 c))).2.1.trans
    (congrArg (fun v => transpose S512x128x64 [1, 0, 2] v transposes_S128x512x64_S512x128x64_1_0_2) (condA_keep (A W0 128 c) main_v8_8 (by decide))))) _).trans ?_
  refine congrArg (A W0 128 c (Proc.devRef .tc main_v8_8) : FVec Ideal S128x512x64 .f32) (funext fun a => Fin.ext ?_)
  match a with
  | ⟨0, _⟩ => rfl
  | ⟨1, _⟩ => rfl
  | ⟨2, _⟩ => rfl

/-- The backward half of a row of states. -/
theorem half1 (b : Fin 512) (t : Fin 128) (u : Fin 64) :
    @Eq EReal (transpose S512x128x64 [1, 0, 2] (Host.reverse [0] (StableHlo.after condB (B W0 128 c) (Proc.devRef .tc main_v15_8) : FVec Ideal S128x512x64 .f32)) transposes_S128x512x64_S512x128x64_1_0_2 (ix3 b t u))
      ((sts (dirF W0 c) (dirB W0 c) (wordsR W0 c) 1 b (128 - t.val)).1 u) := by
  have e : (Fin.rev t).val + 1 = 128 - t.val := by
    have := t.isLt
    rw [Fin.val_rev]
    omega
  rw [← e, condB_keep (B W0 128 c) main_v15_8 (by decide)]
  refine Eq.trans ?_ (bwd_states W0 c hb h0 (Fin.rev t) b u)
  refine congrArg (B W0 128 c (Proc.devRef .tc main_v15_8) : FVec Ideal S128x512x64 .f32) (funext fun a => Fin.ext ?_)
  match a with
  | ⟨0, _⟩ => rfl
  | ⟨1, _⟩ => rfl
  | ⟨2, _⟩ => rfl

/-- Every entry of the reference's result is the tag's score. -/
theorem ref_at (b : Fin 512) (t : Fin 128) (o : Fin 8) : @Eq EReal ((Z W0 c (Proc.devRef .tc main_v23) : FVec Ideal S512x128x8 .f32) (ix3 b t o))
    (tag (dirF W0 c) (dirB W0 c) (wordsR W0 c) (woR W0 c) (boR W0 c) b t o) := by
  refine (congrFun (opsR_read (StableHlo.after condB (B W0 128 c))) _).trans ?_
  refine (add_at _ _ _ ((score (dirF W0 c) (dirB W0 c) (wordsR W0 c) (woR W0 c) 0 b (t.val + 1) o) + score (dirF W0 c) (dirB W0 c) (wordsR W0 c) (woR W0 c) 1 b (128 - t.val) o) (boR W0 c o) ?_ ?_).trans ?_
  · refine (dot3_at _ _ b t o).trans ?_
    rw [sum_kcol]
    have hw : ∀ (d : Fin 2) (u : Fin 64), @Eq EReal (transpose S128x8 [1, 0] (StableHlo.after condB (B W0 128 c) (Proc.devRef .tc main_arg10) : FVec Ideal S8x128 .f32) transposes_S8x128_S128x8_1_0 (ix2 (kcol d u) o))
        (woR W0 c d u o) := fun d u => by
      rw [out2 W0 c main_arg10 (by decide)]
      refine congrArg (W0 c (Proc.devRef .tc main_arg10) : FVec Ideal S8x128 .f32) (funext fun a => Fin.ext ?_)
      match a with
      | ⟨0, _⟩ => rfl
      | ⟨1, _⟩ => rfl
    unfold score
    refine congrArg₂ (fun p q : EReal => p + q) (Finset.sum_congr rfl fun u _ => congrArg₂ (fun p q : EReal => p * q) ?_ (hw 0 u)) (Finset.sum_congr rfl fun u _ => congrArg₂ (fun p q : EReal => p * q) ?_ (hw 1 u))
    · exact (cat_left _ _ b t u).trans (half0 W0 c hb h0 b t u)
    · exact (cat_right _ _ b t u).trans (half1 W0 c hb h0 b t u)
  · rw [out2 W0 c main_arg11 (by decide)]
    refine congrArg (W0 c (Proc.devRef .tc main_arg11) : FVec Ideal S8 .f32) (funext fun a => Fin.ext ?_)
    match a with
    | ⟨0, _⟩ => rfl
  · exact add_right_comm _ _ _

end
end Cert.ReferenceIdeal.Rf

end
-- ==== Proof.Algebraic.lean ====
/- The kernel and the reference compute the same function: both end with the tags' scores of their arguments. -/
module

public import proofs.«01_k».proof.Proof.Frames
public import proofs.«01_k».proof.Proof.KernelValue
public import proofs.«01_k».proof.Proof.RefFrame
public import proofs.«01_k».proof.Proof.RefValue

@[expose] public section

noncomputable section

namespace Cert.Lstm

open Idealize.ShloMosaic hiding ix0 ix1 ix2 ix3
open Idealize.ShloMosaic.ValueIdx
open Idealize.SL.Sem
open Cert.KernelIdeal.Gen (facts₀ facts)
open Cert.ReferenceIdeal.Gen (facts₀ facts)

/-- A tag's score depends only on the weights, the words and the biases. -/
theorem tag_congr {P P' Q Q' : Dir} {x x' : Fin 128 → Fin 512 → Fin 100 → EReal} {w w' : Fin 2 → Fin 64 → Fin 8 → EReal} {v v' : Fin 8 → EReal}
    (eP : P = P') (eQ : Q = Q') (ex : x = x') (ew : w = w') (ev : v = v') (b : Fin 512) (t : Fin 128) (o : Fin 8) :
    tag P Q x w v b t o = tag P' Q' x' w' v' b t o := by
  subst eP eQ ex ew ev
  rfl

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's result. -/
def outK : FVec Ideal Cert.KernelIdeal.S512x128x8 .f32 := Cert.KernelIdeal.Pf.V6 (F := Ideal) (Cert.KernelIdeal.Pf.at0 m) c (Proc.devRef .tc Cert.KernelIdeal.main_v78)

/-- The reference's result. -/
def outR : FVec Ideal Cert.KernelIdeal.S512x128x8 .f32 := Cert.ReferenceIdeal.Rf.Z (F := Ideal) (Cert.ReferenceIdeal.Rf.at0 m') c (Proc.devRef .tc Cert.ReferenceIdeal.main_v23)

/-- Given the same arguments, word indices within the table and a zero row 0, the two results are equal. -/
theorem out_same (hb : ∀ j, ((m ((c.tc : Thread Cert.KernelIdeal.nD Cert.KernelIdeal.τ).loc Cert.KernelIdeal.main_arg0) : IVec Cert.KernelIdeal.S512x128 32) j).toNat < 100000)
    (h0 : ∀ q : Fin 100, @Eq EReal ((m ((c.tc : Thread Cert.KernelIdeal.nD Cert.KernelIdeal.τ).loc Cert.KernelIdeal.main_arg1) : FVec Ideal Cert.KernelIdeal.S100000x100 .f32) (ix2 (0 : Fin 100000) q)) 0)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    outR m' c = outK m c := by
  obtain ⟨e0, e1, e2, e3, e4, e5, e6, e7, e8, e9, e10, e11⟩ := e
  funext i
  obtain ⟨b, t, o, rfl⟩ : ∃ (b : Fin 512) (t : Fin 128) (o : Fin 8), i = ix3 b t o := ⟨i 0, i 1, i 2, ValueIdx.eq_ix3 i⟩
  have r := Cert.ReferenceIdeal.Rf.ref_at (Cert.ReferenceIdeal.Rf.at0 m') c (fun j => (congrArg (fun v : IVec Cert.KernelIdeal.S512x128 32 => (v j).toNat) e0).trans_lt (hb j))
    (fun q => (congrFun e1 (ix2 (0 : Fin 100000) q)).trans (h0 q)) b t o
  refine r.trans (Eq.trans ?_ (Cert.KernelIdeal.Pf.kernel_at (Cert.KernelIdeal.Pf.at0 m) c b t o).symm)
  refine tag_congr (Cert.ReferenceIdeal.Rf.dirOf_congr e2 e3 e4 e5) (Cert.ReferenceIdeal.Rf.dirOf_congr e6 e7 e8 e9) ?_ (congrArg woOf e10) (funext fun o => congrFun e11 (ix1 o)) b t o
  exact (congrArg (fun v => wordsOf v _) e0).trans (congrArg (fun v => wordsOf _ v) e1)

end

/-- The kernel and the reference compute the same function over the extended reals. -/
theorem same : Cert.algebraic_KernelIdeal_ReferenceIdeal_pre_pre := by
  intro m g m' g' hpre hm
  have hw : ∀ c : Dev Cert.KernelIdeal.nD, ∀ i, ((m ((c.tc : Thread Cert.KernelIdeal.nD Cert.KernelIdeal.τ).loc Cert.KernelIdeal.main_arg0) : IVec Cert.KernelIdeal.S512x128 32) i).toNat < 100000 :=
    fun c i => Cert.Pre_word_rows.word_lt (Cert.Pre_pre.words (hpre c)) i
  have hv : (Proc.devRef .tc Cert.KernelIdeal.main_v78 : DevRef Cert.KernelIdeal.τ Cert.KernelIdeal.sig) ∈ Pipeline.ucRefs Cert.KernelIdeal.τ Cert.KernelIdeal.sig :=
    Finset.mem_filter.mpr ⟨StableHlo.devRef_mem_tcRefs _, by decide⟩
  refine ⟨fun c => outK m c, ?_, ?_⟩
  · exact (θ_run Cert.KernelIdeal.defs _ _).mono
      (fun r h c => ⟨h.1 c _ hv, Cert.KernelIdeal.Pf.args_kept m r h c⟩)
      (Cert.KernelIdeal.Pf.run_main m g (Cert.KernelIdeal.Pf.inR_of m hw))
  · exact (θ_run Cert.ReferenceIdeal.defs _ _).mono
      (fun r h c => ⟨(h c Cert.ReferenceIdeal.main_v23 (by decide)).trans (out_same m m' c (hw c) (Cert.Pre_pre.row_zero (hpre c)) (hm c)), Cert.ReferenceIdeal.Rf.args_kept m' r h c⟩)
      (Cert.ReferenceIdeal.Rf.run_main m' g')

end Cert.Lstm

end
-- ==== Proof.lean ====
module

public import proofs.«01_k».proof.Defs
public import proofs.«01_k».proof.Proof.Frames
public import proofs.«01_k».proof.Proof.RefFrame
public import proofs.«01_k».proof.Proof.Algebraic

@[expose] public section

noncomputable section

namespace Cert.Proof

open Idealize.ShloMosaic Idealize.SL.Sem

/-- Every frame, that the kernel over the reals is the kernel's own program, and that it computes the reference's function. -/
theorem claim : Cert.Claim :=
  ⟨Cert.Kernel.Gen.facts, Cert.KernelIdeal.Gen.facts, Cert.ReferenceIdeal.Gen.facts, Cert.Pre_word_rows.facts, Cert.Pre_pre.Gen.facts,
    Cert.KernelIdeal.Pf.frame_bits, Cert.KernelIdeal.Pf.frame_ideal, Cert.KernelIdeal.Pf.frame_ideal_value, Cert.ReferenceIdeal.Rf.frame_all,
    Cert.ReferenceIdeal.Rf.frame_value, trivial, Cert.Lstm.same⟩

end Cert.Proof

end
